-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096 : Shape := ⟨1, ![4096]⟩
abbrev S100000 : Shape := ⟨1, ![100000]⟩
abbrev S1 : Shape := ⟨1, ![1]⟩
abbrev S119 : Shape := ⟨1, ![119]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S4096 .f32) (main_arg1 : IVec S4096 32) (main_arg2 : IVec S100000 32) (main_arg3 : IVec S100000 32) (main_arg4 : FVec F S1 .f32) (main_arg5 : FVec F S1 .f32) (main_arg6 : FVec F S119 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 119#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_c_3 : IVec S_ 32 := constantI S_ 32 0#32
  let main_v7 : IVec S100000 32 := broadcastInDim S100000 ![] bcast_S_S100000 main_c_3
  let main_v8 : IVec S100000 1 := cmpi .sge main_arg3 main_v7
  let main_c_4 : IVec S_ 1 := constantI S_ 1 1#1
  let main_v9 : IVec S_ 1 := (fun x v => Host.reduce IntOp.andi x v reducesTo_S100000_S_d0 h_S_) main_v8 main_c_4
  let main_v10 : IVec S_ 1 := andi main_v6 main_v9
  let main_c_5 : IVec S_ 32 := constantI S_ 32 4096#32
  let main_v11 : IVec S100000 32 := broadcastInDim S100000 ![] bcast_S_S100000 main_c_5
  let main_v12 : IVec S100000 1 := cmpi .slt main_arg3 main_v11
  let main_c_6 : IVec S_ 1 := constantI S_ 1 1#1
  let main_v13 : IVec S_ 1 := (fun x v => Host.reduce IntOp.andi x v reducesTo_S100000_S_d0 h_S_) main_v12 main_c_6
  let main_v14 : IVec S_ 1 := andi main_v10 main_v13
  main_v14
-- ==== Kernel.lean ====
abbrev S4096 : Shape := ⟨1, ![4096]⟩
abbrev S100000 : Shape := ⟨1, ![100000]⟩
abbrev S1 : Shape := ⟨1, ![1]⟩
abbrev S119 : Shape := ⟨1, ![119]⟩
abbrev S_ : Shape := ⟨0, ![]⟩
abbrev S2400 : Shape := ⟨1, ![2400]⟩
abbrev S102400 : Shape := ⟨1, ![102400]⟩
abbrev S128 : Shape := ⟨1, ![128]⟩
abbrev S4104 : Shape := ⟨1, ![4104]⟩
abbrev S32x4104 : Shape := ⟨2, ![32, 4104]⟩
abbrev S3200 : Shape := ⟨1, ![3200]⟩
abbrev S16 : Shape := ⟨1, ![16]⟩
abbrev S1x4104 : Shape := ⟨2, ![1, 4104]⟩
abbrev S32x128 : Shape := ⟨2, ![32, 128]⟩
abbrev S1x128 : Shape := ⟨2, ![1, 128]⟩
abbrev S1x16 : Shape := ⟨2, ![1, 16]⟩

abbrev nBuf : Table → Nat
  | .hbm => 24
  | .local .scVector .vmem => 10
  | _ => 0

abbrev bufTy : (tb : Table) → Fin (nBuf tb) → BufTy
  | .hbm, ⟨0, _⟩ => ⟨S4096, .f32⟩
  | .hbm, ⟨1, _⟩ => ⟨S4096, .i32⟩
  | .hbm, ⟨2, _⟩ => ⟨S100000, .i32⟩
  | .hbm, ⟨3, _⟩ => ⟨S100000, .i32⟩
  | .hbm, ⟨4, _⟩ => ⟨S1, .f32⟩
  | .hbm, ⟨5, _⟩ => ⟨S1, .f32⟩
  | .hbm, ⟨6, _⟩ => ⟨S119, .f32⟩
  | .hbm, ⟨7, _⟩ => ⟨S_, .i32⟩
  | .hbm, ⟨8, _⟩ => ⟨S2400, .i32⟩
  | .hbm, ⟨9, _⟩ => ⟨S102400, .i32⟩
  | .hbm, ⟨10, _⟩ => ⟨S_, .i32⟩
  | .hbm, ⟨11, _⟩ => ⟨S2400, .i32⟩
  | .hbm, ⟨12, _⟩ => ⟨S102400, .i32⟩
  | .hbm, ⟨13, _⟩ => ⟨S_, .f32⟩
  | .hbm, ⟨14, _⟩ => ⟨S128, .f32⟩
  | .hbm, ⟨15, _⟩ => ⟨S_, .i32⟩
  | .hbm, ⟨16, _⟩ => ⟨S1, .i32⟩
  | .hbm, ⟨17, _⟩ => ⟨S128, .f32⟩
  | .hbm, ⟨18, _⟩ => ⟨S_, .f32⟩
  | .hbm, ⟨19, _⟩ => ⟨S4104, .f32⟩
  | .hbm, ⟨20, _⟩ => ⟨S32x4104, .f32⟩
  | .hbm, ⟨21, _⟩ => ⟨S16, .f32⟩
  | .hbm, ⟨22, _⟩ => ⟨S16, .f32⟩
  | .hbm, ⟨23, _⟩ => ⟨S4096, .f32⟩
  | .local .scVector .vmem, ⟨0, _⟩ => ⟨S3200, .i32⟩
  | .local .scVector .vmem, ⟨1, _⟩ => ⟨S3200, .i32⟩
  | .local .scVector .vmem, ⟨2, _⟩ => ⟨S128, .f32⟩
  | .local .scVector .vmem, ⟨3, _⟩ => ⟨S4104, .f32⟩
  | .local .scVector .vmem, ⟨4, _⟩ => ⟨S32x128, .f32⟩
  | .local .scVector .vmem, ⟨5, _⟩ => ⟨S128, .f32⟩
  | .local .scVector .vmem, ⟨6, _⟩ => ⟨S128, .i32⟩
  | .local .scVector .vmem, ⟨7, _⟩ => ⟨S16, .f32⟩
  | .local .scVector .vmem, ⟨8, _⟩ => ⟨S16, .f32⟩
  | .local .scVector .vmem, ⟨9, _⟩ => ⟨S128, .f32⟩
  | _, _ => ⟨S4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 42 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | _ => false

abbrev sig : RefSig :=
  ofTables nBuf rfl bufTy 4 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v1_scv : Ref sig .scVector := ⟨.hbm, 9, rfl⟩
abbrev main_v3_scv : Ref sig .scVector := ⟨.hbm, 12, rfl⟩
abbrev main_v6_scv : Ref sig .scVector := ⟨.hbm, 17, rfl⟩
abbrev main_v7_scv : Ref sig .scVector := ⟨.hbm, 19, rfl⟩
abbrev main_v8_scv : Ref sig .scVector := ⟨.hbm, 20, rfl⟩
abbrev main_arg0_scv : Ref sig .scVector := ⟨.hbm, 0, rfl⟩
abbrev main_arg1_scv : Ref sig .scVector := ⟨.hbm, 1, rfl⟩
abbrev main_v9_scv : Ref sig .scVector := ⟨.hbm, 21, rfl⟩
abbrev main_v10_scv : Ref sig .scVector := ⟨.hbm, 22, rfl⟩
abbrev main_v11_scv : Ref sig .scVector := ⟨.hbm, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]

def k0_chk1 (v4 : IVec S16 32) : Prop :=
  (∀ a x, ((![v4] : Fin 1 → IVec S16 32) a x).toNat < S128.size a)
theorem k0_idx1_inb : ∀ (v4 : IVec S16 32) (k0_hw1 : k0_chk1 v4), ∀ a x, ((![v4] : Fin 1 → IVec S16 32) a x).toNat < S128.size a := fun v4 k0_hw1 => k0_hw1

def k0_chk2 (v6 : IVec S16 32) : Prop :=
  (∀ a x, ((![v6] : Fin 1 → IVec S16 32) a x).toNat < S4104.size a)
theorem k0_idx2_inb : ∀ (v6 : IVec S16 32) (k0_hw2 : k0_chk2 v6), ∀ a x, ((![v6] : Fin 1 → IVec S16 32) a x).toNat < S4104.size a := fun v6 k0_hw2 => k0_hw2

def k0_chk3 (v7 : IVec S16 32) : Prop :=
  (∀ a x, ((![v7] : Fin 1 → IVec S16 32) a x).toNat < S128.size a)
theorem k0_idx3_inb : ∀ (v7 : IVec S16 32) (k0_hw3 : k0_chk3 v7), ∀ a x, ((![v7] : Fin 1 → IVec S16 32) a x).toNat < S128.size a := fun v7 k0_hw3 => k0_hw3

def k0_chk4 (v9 : IVec S16 32) : Prop :=
  (∀ a x, ((![v9] : Fin 1 → IVec S16 32) a x).toNat < S4104.size a)
theorem k0_idx4_inb : ∀ (v9 : IVec S16 32) (k0_hw4 : k0_chk4 v9), ∀ a x, ((![v9] : Fin 1 → IVec S16 32) a x).toNat < S4104.size a := fun v9 k0_hw4 => k0_hw4

def k0_chk5 (v10 : IVec S16 32) : Prop :=
  (∀ a x, ((![v10] : Fin 1 → IVec S16 32) a x).toNat < S128.size a)
theorem k0_idx5_inb : ∀ (v10 : IVec S16 32) (k0_hw5 : k0_chk5 v10), ∀ a x, ((![v10] : Fin 1 → IVec S16 32) a x).toNat < S128.size a := fun v10 k0_hw5 => k0_hw5

def k0_chk6 (v12 : IVec S16 32) : Prop :=
  (∀ a x, ((![v12] : Fin 1 → IVec S16 32) a x).toNat < S4104.size a)
theorem k0_idx6_inb : ∀ (v12 : IVec S16 32) (k0_hw6 : k0_chk6 v12), ∀ a x, ((![v12] : Fin 1 → IVec S16 32) a x).toNat < S4104.size a := fun v12 k0_hw6 => k0_hw6

def k0_chk7 (v13 : IVec S16 32) : Prop :=
  (∀ a x, ((![v13] : Fin 1 → IVec S16 32) a x).toNat < S128.size a)
theorem k0_idx7_inb : ∀ (v13 : IVec S16 32) (k0_hw7 : k0_chk7 v13), ∀ a x, ((![v13] : Fin 1 → IVec S16 32) a x).toNat < S128.size a := fun v13 k0_hw7 => k0_hw7

def k0_chk8 (v15 : IVec S16 32) : Prop :=
  (∀ a x, ((![v15] : Fin 1 → IVec S16 32) a x).toNat < S4104.size a)
theorem k0_idx8_inb : ∀ (v15 : IVec S16 32) (k0_hw8 : k0_chk8 v15), ∀ a x, ((![v15] : Fin 1 → IVec S16 32) a x).toNat < S4104.size a := fun v15 k0_hw8 => k0_hw8

def k0_chk9 (v16 : IVec S16 32) : Prop :=
  (∀ a x, ((![v16] : Fin 1 → IVec S16 32) a x).toNat < S128.size a)
theorem k0_idx9_inb : ∀ (v16 : IVec S16 32) (k0_hw9 : k0_chk9 v16), ∀ a x, ((![v16] : Fin 1 → IVec S16 32) a x).toNat < S128.size a := fun v16 k0_hw9 => k0_hw9

def k0_chk10 (v18 : IVec S16 32) : Prop :=
  (∀ a x, ((![v18] : Fin 1 → IVec S16 32) a x).toNat < S4104.size a)
theorem k0_idx10_inb : ∀ (v18 : IVec S16 32) (k0_hw10 : k0_chk10 v18), ∀ a x, ((![v18] : Fin 1 → IVec S16 32) a x).toNat < S4104.size a := fun v18 k0_hw10 => k0_hw10

def k0_chk11 (v19 : IVec S16 32) : Prop :=
  (∀ a x, ((![v19] : Fin 1 → IVec S16 32) a x).toNat < S128.size a)
theorem k0_idx11_inb : ∀ (v19 : IVec S16 32) (k0_hw11 : k0_chk11 v19), ∀ a x, ((![v19] : Fin 1 → IVec S16 32) a x).toNat < S128.size a := fun v19 k0_hw11 => k0_hw11

def k0_chk12 (v21 : IVec S16 32) : Prop :=
  (∀ a x, ((![v21] : Fin 1 → IVec S16 32) a x).toNat < S4104.size a)
theorem k0_idx12_inb : ∀ (v21 : IVec S16 32) (k0_hw12 : k0_chk12 v21), ∀ a x, ((![v21] : Fin 1 → IVec S16 32) a x).toNat < S4104.size a := fun v21 k0_hw12 => k0_hw12

def k0_chk13 (v22 : IVec S16 32) : Prop :=
  (∀ a x, ((![v22] : Fin 1 → IVec S16 32) a x).toNat < S128.size a)
theorem k0_idx13_inb : ∀ (v22 : IVec S16 32) (k0_hw13 : k0_chk13 v22), ∀ a x, ((![v22] : Fin 1 → IVec S16 32) a x).toNat < S128.size a := fun v22 k0_hw13 => k0_hw13

def k0_chk14 (v24 : IVec S16 32) : Prop :=
  (∀ a x, ((![v24] : Fin 1 → IVec S16 32) a x).toNat < S4104.size a)
theorem k0_idx14_inb : ∀ (v24 : IVec S16 32) (k0_hw14 : k0_chk14 v24), ∀ a x, ((![v24] : Fin 1 → IVec S16 32) a x).toNat < S4104.size a := fun v24 k0_hw14 => k0_hw14

def k0_chk15 (v25 : IVec S16 32) : Prop :=
  (∀ a x, ((![v25] : Fin 1 → IVec S16 32) a x).toNat < S128.size a)
theorem k0_idx15_inb : ∀ (v25 : IVec S16 32) (k0_hw15 : k0_chk15 v25), ∀ a x, ((![v25] : Fin 1 → IVec S16 32) a x).toNat < S128.size a := fun v25 k0_hw15 => k0_hw15

def k0_chk16 (v27 : IVec S16 32) : Prop :=
  (∀ a x, ((![v27] : Fin 1 → IVec S16 32) a x).toNat < S4104.size a)
theorem k0_idx16_inb : ∀ (v27 : IVec S16 32) (k0_hw16 : k0_chk16 v27), ∀ a x, ((![v27] : Fin 1 → IVec S16 32) a x).toNat < S4104.size a := fun v27 k0_hw16 => k0_hw16

def k0_chk17 (v28 : IVec S16 32) : Prop :=
  (∀ a x, ((![v28] : Fin 1 → IVec S16 32) a x).toNat < S128.size a)
theorem k0_idx17_inb : ∀ (v28 : IVec S16 32) (k0_hw17 : k0_chk17 v28), ∀ a x, ((![v28] : Fin 1 → IVec S16 32) a x).toNat < S128.size a := fun v28 k0_hw17 => k0_hw17

def k0_chk18 (v30 : IVec S16 32) : Prop :=
  (∀ a x, ((![v30] : Fin 1 → IVec S16 32) a x).toNat < S4104.size a)
theorem k0_idx18_inb : ∀ (v30 : IVec S16 32) (k0_hw18 : k0_chk18 v30), ∀ a x, ((![v30] : Fin 1 → IVec S16 32) a x).toNat < S4104.size a := fun v30 k0_hw18 => k0_hw18

def k0_chk19 (v31 : IVec S16 32) : Prop :=
  (∀ a x, ((![v31] : Fin 1 → IVec S16 32) a x).toNat < S128.size a)
theorem k0_idx19_inb : ∀ (v31 : IVec S16 32) (k0_hw19 : k0_chk19 v31), ∀ a x, ((![v31] : Fin 1 → IVec S16 32) a x).toNat < S128.size a := fun v31 k0_hw19 => k0_hw19

def k0_chk20 (v33 : IVec S16 32) : Prop :=
  (∀ a x, ((![v33] : Fin 1 → IVec S16 32) a x).toNat < S4104.size a)
theorem k0_idx20_inb : ∀ (v33 : IVec S16 32) (k0_hw20 : k0_chk20 v33), ∀ a x, ((![v33] : Fin 1 → IVec S16 32) a x).toNat < S4104.size a := fun v33 k0_hw20 => k0_hw20

def k0_chk21 (v34 : IVec S16 32) : Prop :=
  (∀ a x, ((![v34] : Fin 1 → IVec S16 32) a x).toNat < S128.size a)
theorem k0_idx21_inb : ∀ (v34 : IVec S16 32) (k0_hw21 : k0_chk21 v34), ∀ a x, ((![v34] : Fin 1 → IVec S16 32) a x).toNat < S128.size a := fun v34 k0_hw21 => k0_hw21

def k0_chk22 (v36 : IVec S16 32) : Prop :=
  (∀ a x, ((![v36] : Fin 1 → IVec S16 32) a x).toNat < S4104.size a)
theorem k0_idx22_inb : ∀ (v36 : IVec S16 32) (k0_hw22 : k0_chk22 v36), ∀ a x, ((![v36] : Fin 1 → IVec S16 32) a x).toNat < S4104.size a := fun v36 k0_hw22 => k0_hw22

def k0_chk23 (v37 : IVec S16 32) : Prop :=
  (∀ a x, ((![v37] : Fin 1 → IVec S16 32) a x).toNat < S128.size a)
theorem k0_idx23_inb : ∀ (v37 : IVec S16 32) (k0_hw23 : k0_chk23 v37), ∀ a x, ((![v37] : Fin 1 → IVec S16 32) a x).toNat < S128.size a := fun v37 k0_hw23 => k0_hw23

def k0_chk24 (v39 : IVec S16 32) : Prop :=
  (∀ a x, ((![v39] : Fin 1 → IVec S16 32) a x).toNat < S4104.size a)
theorem k0_idx24_inb : ∀ (v39 : IVec S16 32) (k0_hw24 : k0_chk24 v39), ∀ a x, ((![v39] : Fin 1 → IVec S16 32) a x).toNat < S4104.size a := fun v39 k0_hw24 => k0_hw24

def k0_chk25 (v40 : IVec S16 32) : Prop :=
  (∀ a x, ((![v40] : Fin 1 → IVec S16 32) a x).toNat < S128.size a)
theorem k0_idx25_inb : ∀ (v40 : IVec S16 32) (k0_hw25 : k0_chk25 v40), ∀ a x, ((![v40] : Fin 1 → IVec S16 32) a x).toNat < S128.size a := fun v40 k0_hw25 => k0_hw25

def k0_chk26 (v42 : IVec S16 32) : Prop :=
  (∀ a x, ((![v42] : Fin 1 → IVec S16 32) a x).toNat < S4104.size a)
theorem k0_idx26_inb : ∀ (v42 : IVec S16 32) (k0_hw26 : k0_chk26 v42), ∀ a x, ((![v42] : Fin 1 → IVec S16 32) a x).toNat < S4104.size a := fun v42 k0_hw26 => k0_hw26

def k0_chk27 (v43 : IVec S16 32) : Prop :=
  (∀ a x, ((![v43] : Fin 1 → IVec S16 32) a x).toNat < S128.size a)
theorem k0_idx27_inb : ∀ (v43 : IVec S16 32) (k0_hw27 : k0_chk27 v43), ∀ a x, ((![v43] : Fin 1 → IVec S16 32) a x).toNat < S128.size a := fun v43 k0_hw27 => k0_hw27

def k0_chk28 (v45 : IVec S16 32) : Prop :=
  (∀ a x, ((![v45] : Fin 1 → IVec S16 32) a x).toNat < S4104.size a)
theorem k0_idx28_inb : ∀ (v45 : IVec S16 32) (k0_hw28 : k0_chk28 v45), ∀ a x, ((![v45] : Fin 1 → IVec S16 32) a x).toNat < S4104.size a := fun v45 k0_hw28 => k0_hw28

def k0_chk29 (v46 : IVec S16 32) : Prop :=
  (∀ a x, ((![v46] : Fin 1 → IVec S16 32) a x).toNat < S128.size a)
theorem k0_idx29_inb : ∀ (v46 : IVec S16 32) (k0_hw29 : k0_chk29 v46), ∀ a x, ((![v46] : Fin 1 → IVec S16 32) a x).toNat < S128.size a := fun v46 k0_hw29 => k0_hw29

def k0_chk30 (v48 : IVec S16 32) : Prop :=
  (∀ a x, ((![v48] : Fin 1 → IVec S16 32) a x).toNat < S4104.size a)
theorem k0_idx30_inb : ∀ (v48 : IVec S16 32) (k0_hw30 : k0_chk30 v48), ∀ a x, ((![v48] : Fin 1 → IVec S16 32) a x).toNat < S4104.size a := fun v48 k0_hw30 => k0_hw30

def k0_chk31 (v49 : IVec S16 32) : Prop :=
  (∀ a x, ((![v49] : Fin 1 → IVec S16 32) a x).toNat < S128.size a)
theorem k0_idx31_inb : ∀ (v49 : IVec S16 32) (k0_hw31 : k0_chk31 v49), ∀ a x, ((![v49] : Fin 1 → IVec S16 32) a x).toNat < S128.size a := fun v49 k0_hw31 => k0_hw31

def k0_chk32 (v51 : IVec S16 32) : Prop :=
  (∀ a x, ((![v51] : Fin 1 → IVec S16 32) a x).toNat < S4104.size a)
theorem k0_idx32_inb : ∀ (v51 : IVec S16 32) (k0_hw32 : k0_chk32 v51), ∀ a x, ((![v51] : Fin 1 → IVec S16 32) a x).toNat < S4104.size a := fun v51 k0_hw32 => k0_hw32

def k0_chk33 (v52 : IVec S16 32) : Prop :=
  (∀ a x, ((![v52] : Fin 1 → IVec S16 32) a x).toNat < S128.size a)
theorem k0_idx33_inb : ∀ (v52 : IVec S16 32) (k0_hw33 : k0_chk33 v52), ∀ a x, ((![v52] : Fin 1 → IVec S16 32) a x).toNat < S128.size a := fun v52 k0_hw33 => k0_hw33

def k0_chk34 (v54 : IVec S16 32) : Prop :=
  (∀ a x, ((![v54] : Fin 1 → IVec S16 32) a x).toNat < S4104.size a)
theorem k0_idx34_inb : ∀ (v54 : IVec S16 32) (k0_hw34 : k0_chk34 v54), ∀ a x, ((![v54] : Fin 1 → IVec S16 32) a x).toNat < S4104.size a := fun v54 k0_hw34 => k0_hw34

def k0_chk35 (v55 : IVec S16 32) : Prop :=
  (∀ a x, ((![v55] : Fin 1 → IVec S16 32) a x).toNat < S128.size a)
theorem k0_idx35_inb : ∀ (v55 : IVec S16 32) (k0_hw35 : k0_chk35 v55), ∀ a x, ((![v55] : Fin 1 → IVec S16 32) a x).toNat < S128.size a := fun v55 k0_hw35 => k0_hw35

def k0_chk36 (v57 : IVec S16 32) : Prop :=
  (∀ a x, ((![v57] : Fin 1 → IVec S16 32) a x).toNat < S4104.size a)
theorem k0_idx36_inb : ∀ (v57 : IVec S16 32) (k0_hw36 : k0_chk36 v57), ∀ a x, ((![v57] : Fin 1 → IVec S16 32) a x).toNat < S4104.size a := fun v57 k0_hw36 => k0_hw36

def k0_chk37 (v58 : IVec S16 32) : Prop :=
  (∀ a x, ((![v58] : Fin 1 → IVec S16 32) a x).toNat < S128.size a)
theorem k0_idx37_inb : ∀ (v58 : IVec S16 32) (k0_hw37 : k0_chk37 v58), ∀ a x, ((![v58] : Fin 1 → IVec S16 32) a x).toNat < S128.size a := fun v58 k0_hw37 => k0_hw37

def k0_chk38 (v60 : IVec S16 32) : Prop :=
  (∀ a x, ((![v60] : Fin 1 → IVec S16 32) a x).toNat < S4104.size a)
theorem k0_idx38_inb : ∀ (v60 : IVec S16 32) (k0_hw38 : k0_chk38 v60), ∀ a x, ((![v60] : Fin 1 → IVec S16 32) a x).toNat < S4104.size a := fun v60 k0_hw38 => k0_hw38

def k0_chk39 (v61 : IVec S16 32) : Prop :=
  (∀ a x, ((![v61] : Fin 1 → IVec S16 32) a x).toNat < S128.size a)
theorem k0_idx39_inb : ∀ (v61 : IVec S16 32) (k0_hw39 : k0_chk39 v61), ∀ a x, ((![v61] : Fin 1 → IVec S16 32) a x).toNat < S128.size a := fun v61 k0_hw39 => k0_hw39

def k0_chk40 (v63 : IVec S16 32) : Prop :=
  (∀ a x, ((![v63] : Fin 1 → IVec S16 32) a x).toNat < S4104.size a)
theorem k0_idx40_inb : ∀ (v63 : IVec S16 32) (k0_hw40 : k0_chk40 v63), ∀ a x, ((![v63] : Fin 1 → IVec S16 32) a x).toNat < S4104.size a := fun v63 k0_hw40 => k0_hw40

def k0_chk41 (v64 : IVec S16 32) : Prop :=
  (∀ a x, ((![v64] : Fin 1 → IVec S16 32) a x).toNat < S128.size a)
theorem k0_idx41_inb : ∀ (v64 : IVec S16 32) (k0_hw41 : k0_chk41 v64), ∀ a x, ((![v64] : Fin 1 → IVec S16 32) a x).toNat < S128.size a := fun v64 k0_hw41 => k0_hw41

def k0_chk42 (v66 : IVec S16 32) : Prop :=
  (∀ a x, ((![v66] : Fin 1 → IVec S16 32) a x).toNat < S4104.size a)
theorem k0_idx42_inb : ∀ (v66 : IVec S16 32) (k0_hw42 : k0_chk42 v66), ∀ a x, ((![v66] : Fin 1 → IVec S16 32) a x).toNat < S4104.size a := fun v66 k0_hw42 => k0_hw42

def k0_chk43 (v67 : IVec S16 32) : Prop :=
  (∀ a x, ((![v67] : Fin 1 → IVec S16 32) a x).toNat < S128.size a)
theorem k0_idx43_inb : ∀ (v67 : IVec S16 32) (k0_hw43 : k0_chk43 v67), ∀ a x, ((![v67] : Fin 1 → IVec S16 32) a x).toNat < S128.size a := fun v67 k0_hw43 => k0_hw43

def k0_chk44 (v69 : IVec S16 32) : Prop :=
  (∀ a x, ((![v69] : Fin 1 → IVec S16 32) a x).toNat < S4104.size a)
theorem k0_idx44_inb : ∀ (v69 : IVec S16 32) (k0_hw44 : k0_chk44 v69), ∀ a x, ((![v69] : Fin 1 → IVec S16 32) a x).toNat < S4104.size a := fun v69 k0_hw44 => k0_hw44

def k0_chk45 (v70 : IVec S16 32) : Prop :=
  (∀ a x, ((![v70] : Fin 1 → IVec S16 32) a x).toNat < S128.size a)
theorem k0_idx45_inb : ∀ (v70 : IVec S16 32) (k0_hw45 : k0_chk45 v70), ∀ a x, ((![v70] : Fin 1 → IVec S16 32) a x).toNat < S128.size a := fun v70 k0_hw45 => k0_hw45

def k0_chk46 (v72 : IVec S16 32) : Prop :=
  (∀ a x, ((![v72] : Fin 1 → IVec S16 32) a x).toNat < S4104.size a)
theorem k0_idx46_inb : ∀ (v72 : IVec S16 32) (k0_hw46 : k0_chk46 v72), ∀ a x, ((![v72] : Fin 1 → IVec S16 32) a x).toNat < S4104.size a := fun v72 k0_hw46 => k0_hw46

def k0_chk47 (v73 : IVec S16 32) : Prop :=
  (∀ a x, ((![v73] : Fin 1 → IVec S16 32) a x).toNat < S128.size a)
theorem k0_idx47_inb : ∀ (v73 : IVec S16 32) (k0_hw47 : k0_chk47 v73), ∀ a x, ((![v73] : Fin 1 → IVec S16 32) a x).toNat < S128.size a := fun v73 k0_hw47 => k0_hw47

def k0_chk48 (v75 : IVec S16 32) : Prop :=
  (∀ a x, ((![v75] : Fin 1 → IVec S16 32) a x).toNat < S4104.size a)
theorem k0_idx48_inb : ∀ (v75 : IVec S16 32) (k0_hw48 : k0_chk48 v75), ∀ a x, ((![v75] : Fin 1 → IVec S16 32) a x).toNat < S4104.size a := fun v75 k0_hw48 => k0_hw48

def k0_chk49 (v76 : IVec S16 32) : Prop :=
  (∀ a x, ((![v76] : Fin 1 → IVec S16 32) a x).toNat < S128.size a)
theorem k0_idx49_inb : ∀ (v76 : IVec S16 32) (k0_hw49 : k0_chk49 v76), ∀ a x, ((![v76] : Fin 1 → IVec S16 32) a x).toNat < S128.size a := fun v76 k0_hw49 => k0_hw49

def k0_chk50 (v78 : IVec S16 32) : Prop :=
  (∀ a x, ((![v78] : Fin 1 → IVec S16 32) a x).toNat < S4104.size a)
theorem k0_idx50_inb : ∀ (v78 : IVec S16 32) (k0_hw50 : k0_chk50 v78), ∀ a x, ((![v78] : Fin 1 → IVec S16 32) a x).toNat < S4104.size a := fun v78 k0_hw50 => k0_hw50

def k0_chk51 (v79 : IVec S16 32) : Prop :=
  (∀ a x, ((![v79] : Fin 1 → IVec S16 32) a x).toNat < S128.size a)
theorem k0_idx51_inb : ∀ (v79 : IVec S16 32) (k0_hw51 : k0_chk51 v79), ∀ a x, ((![v79] : Fin 1 → IVec S16 32) a x).toNat < S128.size a := fun v79 k0_hw51 => k0_hw51

def k0_chk52 (v81 : IVec S16 32) : Prop :=
  (∀ a x, ((![v81] : Fin 1 → IVec S16 32) a x).toNat < S4104.size a)
theorem k0_idx52_inb : ∀ (v81 : IVec S16 32) (k0_hw52 : k0_chk52 v81), ∀ a x, ((![v81] : Fin 1 → IVec S16 32) a x).toNat < S4104.size a := fun v81 k0_hw52 => k0_hw52

def k0_chk53 (v82 : IVec S16 32) : Prop :=
  (∀ a x, ((![v82] : Fin 1 → IVec S16 32) a x).toNat < S128.size a)
theorem k0_idx53_inb : ∀ (v82 : IVec S16 32) (k0_hw53 : k0_chk53 v82), ∀ a x, ((![v82] : Fin 1 → IVec S16 32) a x).toNat < S128.size a := fun v82 k0_hw53 => k0_hw53

def k0_chk54 (v84 : IVec S16 32) : Prop :=
  (∀ a x, ((![v84] : Fin 1 → IVec S16 32) a x).toNat < S4104.size a)
theorem k0_idx54_inb : ∀ (v84 : IVec S16 32) (k0_hw54 : k0_chk54 v84), ∀ a x, ((![v84] : Fin 1 → IVec S16 32) a x).toNat < S4104.size a := fun v84 k0_hw54 => k0_hw54

def k0_chk55 (v85 : IVec S16 32) : Prop :=
  (∀ a x, ((![v85] : Fin 1 → IVec S16 32) a x).toNat < S128.size a)
theorem k0_idx55_inb : ∀ (v85 : IVec S16 32) (k0_hw55 : k0_chk55 v85), ∀ a x, ((![v85] : Fin 1 → IVec S16 32) a x).toNat < S128.size a := fun v85 k0_hw55 => k0_hw55

def k0_chk56 (v87 : IVec S16 32) : Prop :=
  (∀ a x, ((![v87] : Fin 1 → IVec S16 32) a x).toNat < S4104.size a)
theorem k0_idx56_inb : ∀ (v87 : IVec S16 32) (k0_hw56 : k0_chk56 v87), ∀ a x, ((![v87] : Fin 1 → IVec S16 32) a x).toNat < S4104.size a := fun v87 k0_hw56 => k0_hw56

def k0_chk57 (v88 : IVec S16 32) : Prop :=
  (∀ a x, ((![v88] : Fin 1 → IVec S16 32) a x).toNat < S128.size a)
theorem k0_idx57_inb : ∀ (v88 : IVec S16 32) (k0_hw57 : k0_chk57 v88), ∀ a x, ((![v88] : Fin 1 → IVec S16 32) a x).toNat < S128.size a := fun v88 k0_hw57 => k0_hw57

def k0_chk58 (v90 : IVec S16 32) : Prop :=
  (∀ a x, ((![v90] : Fin 1 → IVec S16 32) a x).toNat < S4104.size a)
theorem k0_idx58_inb : ∀ (v90 : IVec S16 32) (k0_hw58 : k0_chk58 v90), ∀ a x, ((![v90] : Fin 1 → IVec S16 32) a x).toNat < S4104.size a := fun v90 k0_hw58 => k0_hw58

def k0_chk59 (v91 : IVec S16 32) : Prop :=
  (∀ a x, ((![v91] : Fin 1 → IVec S16 32) a x).toNat < S128.size a)
theorem k0_idx59_inb : ∀ (v91 : IVec S16 32) (k0_hw59 : k0_chk59 v91), ∀ a x, ((![v91] : Fin 1 → IVec S16 32) a x).toNat < S128.size a := fun v91 k0_hw59 => k0_hw59

def k0_chk60 (v93 : IVec S16 32) : Prop :=
  (∀ a x, ((![v93] : Fin 1 → IVec S16 32) a x).toNat < S4104.size a)
theorem k0_idx60_inb : ∀ (v93 : IVec S16 32) (k0_hw60 : k0_chk60 v93), ∀ a x, ((![v93] : Fin 1 → IVec S16 32) a x).toNat < S4104.size a := fun v93 k0_hw60 => k0_hw60

def k0_chk61 (v94 : IVec S16 32) : Prop :=
  (∀ a x, ((![v94] : Fin 1 → IVec S16 32) a x).toNat < S128.size a)
theorem k0_idx61_inb : ∀ (v94 : IVec S16 32) (k0_hw61 : k0_chk61 v94), ∀ a x, ((![v94] : Fin 1 → IVec S16 32) a x).toNat < S128.size a := fun v94 k0_hw61 => k0_hw61

def k0_chk62 (v96 : IVec S16 32) : Prop :=
  (∀ a x, ((![v96] : Fin 1 → IVec S16 32) a x).toNat < S4104.size a)
theorem k0_idx62_inb : ∀ (v96 : IVec S16 32) (k0_hw62 : k0_chk62 v96), ∀ a x, ((![v96] : Fin 1 → IVec S16 32) a x).toNat < S4104.size a := fun v96 k0_hw62 => k0_hw62

def k0_chk63 (v97 : IVec S16 32) : Prop :=
  (∀ a x, ((![v97] : Fin 1 → IVec S16 32) a x).toNat < S128.size a)
theorem k0_idx63_inb : ∀ (v97 : IVec S16 32) (k0_hw63 : k0_chk63 v97), ∀ a x, ((![v97] : Fin 1 → IVec S16 32) a x).toNat < S128.size a := fun v97 k0_hw63 => k0_hw63

def k0_chk64 (v99 : IVec S16 32) : Prop :=
  (∀ a x, ((![v99] : Fin 1 → IVec S16 32) a x).toNat < S4104.size a)
theorem k0_idx64_inb : ∀ (v99 : IVec S16 32) (k0_hw64 : k0_chk64 v99), ∀ a x, ((![v99] : Fin 1 → IVec S16 32) a x).toNat < S4104.size a := fun v99 k0_hw64 => k0_hw64

def k0_chk65 (v100 : IVec S16 32) : Prop :=
  (∀ a x, ((![v100] : Fin 1 → IVec S16 32) a x).toNat < S128.size a)
theorem k0_idx65_inb : ∀ (v100 : IVec S16 32) (k0_hw65 : k0_chk65 v100), ∀ a x, ((![v100] : Fin 1 → IVec S16 32) a x).toNat < S128.size a := fun v100 k0_hw65 => k0_hw65

def k0_chk66 (v102 : IVec S16 32) : Prop :=
  (∀ a x, ((![v102] : Fin 1 → IVec S16 32) a x).toNat < S4104.size a)
theorem k0_idx66_inb : ∀ (v102 : IVec S16 32) (k0_hw66 : k0_chk66 v102), ∀ a x, ((![v102] : Fin 1 → IVec S16 32) a x).toNat < S4104.size a := fun v102 k0_hw66 => k0_hw66

def k0_chk67 (v103 : IVec S16 32) : Prop :=
  (∀ a x, ((![v103] : Fin 1 → IVec S16 32) a x).toNat < S128.size a)
theorem k0_idx67_inb : ∀ (v103 : IVec S16 32) (k0_hw67 : k0_chk67 v103), ∀ a x, ((![v103] : Fin 1 → IVec S16 32) a x).toNat < S128.size a := fun v103 k0_hw67 => k0_hw67

def k0_chk68 (v105 : IVec S16 32) : Prop :=
  (∀ a x, ((![v105] : Fin 1 → IVec S16 32) a x).toNat < S4104.size a)
theorem k0_idx68_inb : ∀ (v105 : IVec S16 32) (k0_hw68 : k0_chk68 v105), ∀ a x, ((![v105] : Fin 1 → IVec S16 32) a x).toNat < S4104.size a := fun v105 k0_hw68 => k0_hw68

def k0_chk69 (v106 : IVec S16 32) : Prop :=
  (∀ a x, ((![v106] : Fin 1 → IVec S16 32) a x).toNat < S128.size a)
theorem k0_idx69_inb : ∀ (v106 : IVec S16 32) (k0_hw69 : k0_chk69 v106), ∀ a x, ((![v106] : Fin 1 → IVec S16 32) a x).toNat < S128.size a := fun v106 k0_hw69 => k0_hw69

def k0_chk70 (v108 : IVec S16 32) : Prop :=
  (∀ a x, ((![v108] : Fin 1 → IVec S16 32) a x).toNat < S4104.size a)
theorem k0_idx70_inb : ∀ (v108 : IVec S16 32) (k0_hw70 : k0_chk70 v108), ∀ a x, ((![v108] : Fin 1 → IVec S16 32) a x).toNat < S4104.size a := fun v108 k0_hw70 => k0_hw70

def k0_chk71 (v109 : IVec S16 32) : Prop :=
  (∀ a x, ((![v109] : Fin 1 → IVec S16 32) a x).toNat < S128.size a)
theorem k0_idx71_inb : ∀ (v109 : IVec S16 32) (k0_hw71 : k0_chk71 v109), ∀ a x, ((![v109] : Fin 1 → IVec S16 32) a x).toNat < S128.size a := fun v109 k0_hw71 => k0_hw71

def k0_chk72 (v111 : IVec S16 32) : Prop :=
  (∀ a x, ((![v111] : Fin 1 → IVec S16 32) a x).toNat < S4104.size a)
theorem k0_idx72_inb : ∀ (v111 : IVec S16 32) (k0_hw72 : k0_chk72 v111), ∀ a x, ((![v111] : Fin 1 → IVec S16 32) a x).toNat < S4104.size a := fun v111 k0_hw72 => k0_hw72

def k0_chk73 (v112 : IVec S16 32) : Prop :=
  (∀ a x, ((![v112] : Fin 1 → IVec S16 32) a x).toNat < S128.size a)
theorem k0_idx73_inb : ∀ (v112 : IVec S16 32) (k0_hw73 : k0_chk73 v112), ∀ a x, ((![v112] : Fin 1 → IVec S16 32) a x).toNat < S128.size a := fun v112 k0_hw73 => k0_hw73

def k0_chk74 (v114 : IVec S16 32) : Prop :=
  (∀ a x, ((![v114] : Fin 1 → IVec S16 32) a x).toNat < S4104.size a)
theorem k0_idx74_inb : ∀ (v114 : IVec S16 32) (k0_hw74 : k0_chk74 v114), ∀ a x, ((![v114] : Fin 1 → IVec S16 32) a x).toNat < S4104.size a := fun v114 k0_hw74 => k0_hw74

def k0_chk75 (v115 : IVec S16 32) : Prop :=
  (∀ a x, ((![v115] : Fin 1 → IVec S16 32) a x).toNat < S128.size a)
theorem k0_idx75_inb : ∀ (v115 : IVec S16 32) (k0_hw75 : k0_chk75 v115), ∀ a x, ((![v115] : Fin 1 → IVec S16 32) a x).toNat < S128.size a := fun v115 k0_hw75 => k0_hw75

def k0_chk76 (v117 : IVec S16 32) : Prop :=
  (∀ a x, ((![v117] : Fin 1 → IVec S16 32) a x).toNat < S4104.size a)
theorem k0_idx76_inb : ∀ (v117 : IVec S16 32) (k0_hw76 : k0_chk76 v117), ∀ a x, ((![v117] : Fin 1 → IVec S16 32) a x).toNat < S4104.size a := fun v117 k0_hw76 => k0_hw76

def k0_chk77 (v118 : IVec S16 32) : Prop :=
  (∀ a x, ((![v118] : Fin 1 → IVec S16 32) a x).toNat < S128.size a)
theorem k0_idx77_inb : ∀ (v118 : IVec S16 32) (k0_hw77 : k0_chk77 v118), ∀ a x, ((![v118] : Fin 1 → IVec S16 32) a x).toNat < S128.size a := fun v118 k0_hw77 => k0_hw77

def k0_chk78 (v120 : IVec S16 32) : Prop :=
  (∀ a x, ((![v120] : Fin 1 → IVec S16 32) a x).toNat < S4104.size a)
theorem k0_idx78_inb : ∀ (v120 : IVec S16 32) (k0_hw78 : k0_chk78 v120), ∀ a x, ((![v120] : Fin 1 → IVec S16 32) a x).toNat < S4104.size a := fun v120 k0_hw78 => k0_hw78

def k0_chk79 (v121 : IVec S16 32) : Prop :=
  (∀ a x, ((![v121] : Fin 1 → IVec S16 32) a x).toNat < S128.size a)
theorem k0_idx79_inb : ∀ (v121 : IVec S16 32) (k0_hw79 : k0_chk79 v121), ∀ a x, ((![v121] : Fin 1 → IVec S16 32) a x).toNat < S128.size a := fun v121 k0_hw79 => k0_hw79

def k0_chk80 (v123 : IVec S16 32) : Prop :=
  (∀ a x, ((![v123] : Fin 1 → IVec S16 32) a x).toNat < S4104.size a)
theorem k0_idx80_inb : ∀ (v123 : IVec S16 32) (k0_hw80 : k0_chk80 v123), ∀ a x, ((![v123] : Fin 1 → IVec S16 32) a x).toNat < S4104.size a := fun v123 k0_hw80 => k0_hw80

def k0_chk81 (v124 : IVec S16 32) : Prop :=
  (∀ a x, ((![v124] : Fin 1 → IVec S16 32) a x).toNat < S128.size a)
theorem k0_idx81_inb : ∀ (v124 : IVec S16 32) (k0_hw81 : k0_chk81 v124), ∀ a x, ((![v124] : Fin 1 → IVec S16 32) a x).toNat < S128.size a := fun v124 k0_hw81 => k0_hw81

def k0_chk82 (v126 : IVec S16 32) : Prop :=
  (∀ a x, ((![v126] : Fin 1 → IVec S16 32) a x).toNat < S4104.size a)
theorem k0_idx82_inb : ∀ (v126 : IVec S16 32) (k0_hw82 : k0_chk82 v126), ∀ a x, ((![v126] : Fin 1 → IVec S16 32) a x).toNat < S4104.size a := fun v126 k0_hw82 => k0_hw82

def k0_chk83 (v127 : IVec S16 32) : Prop :=
  (∀ a x, ((![v127] : Fin 1 → IVec S16 32) a x).toNat < S128.size a)
theorem k0_idx83_inb : ∀ (v127 : IVec S16 32) (k0_hw83 : k0_chk83 v127), ∀ a x, ((![v127] : Fin 1 → IVec S16 32) a x).toNat < S128.size a := fun v127 k0_hw83 => k0_hw83

def k0_chk84 (v129 : IVec S16 32) : Prop :=
  (∀ a x, ((![v129] : Fin 1 → IVec S16 32) a x).toNat < S4104.size a)
theorem k0_idx84_inb : ∀ (v129 : IVec S16 32) (k0_hw84 : k0_chk84 v129), ∀ a x, ((![v129] : Fin 1 → IVec S16 32) a x).toNat < S4104.size a := fun v129 k0_hw84 => k0_hw84

def k0_chk85 (v130 : IVec S16 32) : Prop :=
  (∀ a x, ((![v130] : Fin 1 → IVec S16 32) a x).toNat < S128.size a)
theorem k0_idx85_inb : ∀ (v130 : IVec S16 32) (k0_hw85 : k0_chk85 v130), ∀ a x, ((![v130] : Fin 1 → IVec S16 32) a x).toNat < S128.size a := fun v130 k0_hw85 => k0_hw85

def k0_chk86 (v132 : IVec S16 32) : Prop :=
  (∀ a x, ((![v132] : Fin 1 → IVec S16 32) a x).toNat < S4104.size a)
theorem k0_idx86_inb : ∀ (v132 : IVec S16 32) (k0_hw86 : k0_chk86 v132), ∀ a x, ((![v132] : Fin 1 → IVec S16 32) a x).toNat < S4104.size a := fun v132 k0_hw86 => k0_hw86

def k0_chk87 (v133 : IVec S16 32) : Prop :=
  (∀ a x, ((![v133] : Fin 1 → IVec S16 32) a x).toNat < S128.size a)
theorem k0_idx87_inb : ∀ (v133 : IVec S16 32) (k0_hw87 : k0_chk87 v133), ∀ a x, ((![v133] : Fin 1 → IVec S16 32) a x).toNat < S128.size a := fun v133 k0_hw87 => k0_hw87

def k0_chk88 (v135 : IVec S16 32) : Prop :=
  (∀ a x, ((![v135] : Fin 1 → IVec S16 32) a x).toNat < S4104.size a)
theorem k0_idx88_inb : ∀ (v135 : IVec S16 32) (k0_hw88 : k0_chk88 v135), ∀ a x, ((![v135] : Fin 1 → IVec S16 32) a x).toNat < S4104.size a := fun v135 k0_hw88 => k0_hw88

def k0_chk89 (v136 : IVec S16 32) : Prop :=
  (∀ a x, ((![v136] : Fin 1 → IVec S16 32) a x).toNat < S128.size a)
theorem k0_idx89_inb : ∀ (v136 : IVec S16 32) (k0_hw89 : k0_chk89 v136), ∀ a x, ((![v136] : Fin 1 → IVec S16 32) a x).toNat < S128.size a := fun v136 k0_hw89 => k0_hw89

def k0_chk90 (v138 : IVec S16 32) : Prop :=
  (∀ a x, ((![v138] : Fin 1 → IVec S16 32) a x).toNat < S4104.size a)
theorem k0_idx90_inb : ∀ (v138 : IVec S16 32) (k0_hw90 : k0_chk90 v138), ∀ a x, ((![v138] : Fin 1 → IVec S16 32) a x).toNat < S4104.size a := fun v138 k0_hw90 => k0_hw90

def k0_chk91 (v139 : IVec S16 32) : Prop :=
  (∀ a x, ((![v139] : Fin 1 → IVec S16 32) a x).toNat < S128.size a)
theorem k0_idx91_inb : ∀ (v139 : IVec S16 32) (k0_hw91 : k0_chk91 v139), ∀ a x, ((![v139] : Fin 1 → IVec S16 32) a x).toNat < S128.size a := fun v139 k0_hw91 => k0_hw91

def k0_chk92 (v141 : IVec S16 32) : Prop :=
  (∀ a x, ((![v141] : Fin 1 → IVec S16 32) a x).toNat < S4104.size a)
theorem k0_idx92_inb : ∀ (v141 : IVec S16 32) (k0_hw92 : k0_chk92 v141), ∀ a x, ((![v141] : Fin 1 → IVec S16 32) a x).toNat < S4104.size a := fun v141 k0_hw92 => k0_hw92

def k0_chk93 (v142 : IVec S16 32) : Prop :=
  (∀ a x, ((![v142] : Fin 1 → IVec S16 32) a x).toNat < S128.size a)
theorem k0_idx93_inb : ∀ (v142 : IVec S16 32) (k0_hw93 : k0_chk93 v142), ∀ a x, ((![v142] : Fin 1 → IVec S16 32) a x).toNat < S128.size a := fun v142 k0_hw93 => k0_hw93

def k0_chk94 (v144 : IVec S16 32) : Prop :=
  (∀ a x, ((![v144] : Fin 1 → IVec S16 32) a x).toNat < S4104.size a)
theorem k0_idx94_inb : ∀ (v144 : IVec S16 32) (k0_hw94 : k0_chk94 v144), ∀ a x, ((![v144] : Fin 1 → IVec S16 32) a x).toNat < S4104.size a := fun v144 k0_hw94 => k0_hw94

def k0_chk95 (v145 : IVec S16 32) : Prop :=
  (∀ a x, ((![v145] : Fin 1 → IVec S16 32) a x).toNat < S128.size a)
theorem k0_idx95_inb : ∀ (v145 : IVec S16 32) (k0_hw95 : k0_chk95 v145), ∀ a x, ((![v145] : Fin 1 → IVec S16 32) a x).toNat < S128.size a := fun v145 k0_hw95 => k0_hw95

def k0_chk96 (v147 : IVec S16 32) : Prop :=
  (∀ a x, ((![v147] : Fin 1 → IVec S16 32) a x).toNat < S4104.size a)
theorem k0_idx96_inb : ∀ (v147 : IVec S16 32) (k0_hw96 : k0_chk96 v147), ∀ a x, ((![v147] : Fin 1 → IVec S16 32) a x).toNat < S4104.size a := fun v147 k0_hw96 => k0_hw96

def k0_chk97 (v148 : IVec S16 32) : Prop :=
  (∀ a x, ((![v148] : Fin 1 → IVec S16 32) a x).toNat < S128.size a)
theorem k0_idx97_inb : ∀ (v148 : IVec S16 32) (k0_hw97 : k0_chk97 v148), ∀ a x, ((![v148] : Fin 1 → IVec S16 32) a x).toNat < S128.size a := fun v148 k0_hw97 => k0_hw97

def k0_chk98 (v150 : IVec S16 32) : Prop :=
  (∀ a x, ((![v150] : Fin 1 → IVec S16 32) a x).toNat < S4104.size a)
theorem k0_idx98_inb : ∀ (v150 : IVec S16 32) (k0_hw98 : k0_chk98 v150), ∀ a x, ((![v150] : Fin 1 → IVec S16 32) a x).toNat < S4104.size a := fun v150 k0_hw98 => k0_hw98

def k0_chk99 (v151 : IVec S16 32) : Prop :=
  (∀ a x, ((![v151] : Fin 1 → IVec S16 32) a x).toNat < S128.size a)
theorem k0_idx99_inb : ∀ (v151 : IVec S16 32) (k0_hw99 : k0_chk99 v151), ∀ a x, ((![v151] : Fin 1 → IVec S16 32) a x).toNat < S128.size a := fun v151 k0_hw99 => k0_hw99

def k0_chk100 (v153 : IVec S16 32) : Prop :=
  (∀ a x, ((![v153] : Fin 1 → IVec S16 32) a x).toNat < S4104.size a)
theorem k0_idx100_inb : ∀ (v153 : IVec S16 32) (k0_hw100 : k0_chk100 v153), ∀ a x, ((![v153] : Fin 1 → IVec S16 32) a x).toNat < S4104.size a := fun v153 k0_hw100 => k0_hw100

def k0_chk101 (v154 : IVec S16 32) : Prop :=
  (∀ a x, ((![v154] : Fin 1 → IVec S16 32) a x).toNat < S128.size a)
theorem k0_idx101_inb : ∀ (v154 : IVec S16 32) (k0_hw101 : k0_chk101 v154), ∀ a x, ((![v154] : Fin 1 → IVec S16 32) a x).toNat < S128.size a := fun v154 k0_hw101 => k0_hw101

def k0_chk102 (v156 : IVec S16 32) : Prop :=
  (∀ a x, ((![v156] : Fin 1 → IVec S16 32) a x).toNat < S4104.size a)
theorem k0_idx102_inb : ∀ (v156 : IVec S16 32) (k0_hw102 : k0_chk102 v156), ∀ a x, ((![v156] : Fin 1 → IVec S16 32) a x).toNat < S4104.size a := fun v156 k0_hw102 => k0_hw102

def k0_chk103 (v157 : IVec S16 32) : Prop :=
  (∀ a x, ((![v157] : Fin 1 → IVec S16 32) a x).toNat < S128.size a)
theorem k0_idx103_inb : ∀ (v157 : IVec S16 32) (k0_hw103 : k0_chk103 v157), ∀ a x, ((![v157] : Fin 1 → IVec S16 32) a x).toNat < S128.size a := fun v157 k0_hw103 => k0_hw103

def k0_chk104 (v159 : IVec S16 32) : Prop :=
  (∀ a x, ((![v159] : Fin 1 → IVec S16 32) a x).toNat < S4104.size a)
theorem k0_idx104_inb : ∀ (v159 : IVec S16 32) (k0_hw104 : k0_chk104 v159), ∀ a x, ((![v159] : Fin 1 → IVec S16 32) a x).toNat < S4104.size a := fun v159 k0_hw104 => k0_hw104

def k0_chk105 (v160 : IVec S16 32) : Prop :=
  (∀ a x, ((![v160] : Fin 1 → IVec S16 32) a x).toNat < S128.size a)
theorem k0_idx105_inb : ∀ (v160 : IVec S16 32) (k0_hw105 : k0_chk105 v160), ∀ a x, ((![v160] : Fin 1 → IVec S16 32) a x).toNat < S128.size a := fun v160 k0_hw105 => k0_hw105

def k0_chk106 (v162 : IVec S16 32) : Prop :=
  (∀ a x, ((![v162] : Fin 1 → IVec S16 32) a x).toNat < S4104.size a)
theorem k0_idx106_inb : ∀ (v162 : IVec S16 32) (k0_hw106 : k0_chk106 v162), ∀ a x, ((![v162] : Fin 1 → IVec S16 32) a x).toNat < S4104.size a := fun v162 k0_hw106 => k0_hw106

def k0_chk107 (v163 : IVec S16 32) : Prop :=
  (∀ a x, ((![v163] : Fin 1 → IVec S16 32) a x).toNat < S128.size a)
theorem k0_idx107_inb : ∀ (v163 : IVec S16 32) (k0_hw107 : k0_chk107 v163), ∀ a x, ((![v163] : Fin 1 → IVec S16 32) a x).toNat < S128.size a := fun v163 k0_hw107 => k0_hw107

def k0_chk108 (v165 : IVec S16 32) : Prop :=
  (∀ a x, ((![v165] : Fin 1 → IVec S16 32) a x).toNat < S4104.size a)
theorem k0_idx108_inb : ∀ (v165 : IVec S16 32) (k0_hw108 : k0_chk108 v165), ∀ a x, ((![v165] : Fin 1 → IVec S16 32) a x).toNat < S4104.size a := fun v165 k0_hw108 => k0_hw108

def k0_chk109 (v166 : IVec S16 32) : Prop :=
  (∀ a x, ((![v166] : Fin 1 → IVec S16 32) a x).toNat < S128.size a)
theorem k0_idx109_inb : ∀ (v166 : IVec S16 32) (k0_hw109 : k0_chk109 v166), ∀ a x, ((![v166] : Fin 1 → IVec S16 32) a x).toNat < S128.size a := fun v166 k0_hw109 => k0_hw109

def k0_chk110 (v168 : IVec S16 32) : Prop :=
  (∀ a x, ((![v168] : Fin 1 → IVec S16 32) a x).toNat < S4104.size a)
theorem k0_idx110_inb : ∀ (v168 : IVec S16 32) (k0_hw110 : k0_chk110 v168), ∀ a x, ((![v168] : Fin 1 → IVec S16 32) a x).toNat < S4104.size a := fun v168 k0_hw110 => k0_hw110

def k0_chk111 (v169 : IVec S16 32) : Prop :=
  (∀ a x, ((![v169] : Fin 1 → IVec S16 32) a x).toNat < S128.size a)
theorem k0_idx111_inb : ∀ (v169 : IVec S16 32) (k0_hw111 : k0_chk111 v169), ∀ a x, ((![v169] : Fin 1 → IVec S16 32) a x).toNat < S128.size a := fun v169 k0_hw111 => k0_hw111

def k0_chk112 (v171 : IVec S16 32) : Prop :=
  (∀ a x, ((![v171] : Fin 1 → IVec S16 32) a x).toNat < S4104.size a)
theorem k0_idx112_inb : ∀ (v171 : IVec S16 32) (k0_hw112 : k0_chk112 v171), ∀ a x, ((![v171] : Fin 1 → IVec S16 32) a x).toNat < S4104.size a := fun v171 k0_hw112 => k0_hw112

def k0_chk113 (v172 : IVec S16 32) : Prop :=
  (∀ a x, ((![v172] : Fin 1 → IVec S16 32) a x).toNat < S128.size a)
theorem k0_idx113_inb : ∀ (v172 : IVec S16 32) (k0_hw113 : k0_chk113 v172), ∀ a x, ((![v172] : Fin 1 → IVec S16 32) a x).toNat < S128.size a := fun v172 k0_hw113 => k0_hw113

def k0_chk114 (v174 : IVec S16 32) : Prop :=
  (∀ a x, ((![v174] : Fin 1 → IVec S16 32) a x).toNat < S4104.size a)
theorem k0_idx114_inb : ∀ (v174 : IVec S16 32) (k0_hw114 : k0_chk114 v174), ∀ a x, ((![v174] : Fin 1 → IVec S16 32) a x).toNat < S4104.size a := fun v174 k0_hw114 => k0_hw114

def k0_chk115 (v175 : IVec S16 32) : Prop :=
  (∀ a x, ((![v175] : Fin 1 → IVec S16 32) a x).toNat < S128.size a)
theorem k0_idx115_inb : ∀ (v175 : IVec S16 32) (k0_hw115 : k0_chk115 v175), ∀ a x, ((![v175] : Fin 1 → IVec S16 32) a x).toNat < S128.size a := fun v175 k0_hw115 => k0_hw115

def k0_chk116 (v177 : IVec S16 32) : Prop :=
  (∀ a x, ((![v177] : Fin 1 → IVec S16 32) a x).toNat < S4104.size a)
theorem k0_idx116_inb : ∀ (v177 : IVec S16 32) (k0_hw116 : k0_chk116 v177), ∀ a x, ((![v177] : Fin 1 → IVec S16 32) a x).toNat < S4104.size a := fun v177 k0_hw116 => k0_hw116

def k0_chk117 (v178 : IVec S16 32) : Prop :=
  (∀ a x, ((![v178] : Fin 1 → IVec S16 32) a x).toNat < S128.size a)
theorem k0_idx117_inb : ∀ (v178 : IVec S16 32) (k0_hw117 : k0_chk117 v178), ∀ a x, ((![v178] : Fin 1 → IVec S16 32) a x).toNat < S128.size a := fun v178 k0_hw117 => k0_hw117

def k0_chk118 (v180 : IVec S16 32) : Prop :=
  (∀ a x, ((![v180] : Fin 1 → IVec S16 32) a x).toNat < S4104.size a)
theorem k0_idx118_inb : ∀ (v180 : IVec S16 32) (k0_hw118 : k0_chk118 v180), ∀ a x, ((![v180] : Fin 1 → IVec S16 32) a x).toNat < S4104.size a := fun v180 k0_hw118 => k0_hw118

def k0_chk119 (v181 : IVec S16 32) : Prop :=
  (∀ a x, ((![v181] : Fin 1 → IVec S16 32) a x).toNat < S128.size a)
theorem k0_idx119_inb : ∀ (v181 : IVec S16 32) (k0_hw119 : k0_chk119 v181), ∀ a x, ((![v181] : Fin 1 → IVec S16 32) a x).toNat < S128.size a := fun v181 k0_hw119 => k0_hw119

def k0_chk120 (v183 : IVec S16 32) : Prop :=
  (∀ a x, ((![v183] : Fin 1 → IVec S16 32) a x).toNat < S4104.size a)
theorem k0_idx120_inb : ∀ (v183 : IVec S16 32) (k0_hw120 : k0_chk120 v183), ∀ a x, ((![v183] : Fin 1 → IVec S16 32) a x).toNat < S4104.size a := fun v183 k0_hw120 => k0_hw120

def k0_chk121 (v184 : IVec S16 32) : Prop :=
  (∀ a x, ((![v184] : Fin 1 → IVec S16 32) a x).toNat < S128.size a)
theorem k0_idx121_inb : ∀ (v184 : IVec S16 32) (k0_hw121 : k0_chk121 v184), ∀ a x, ((![v184] : Fin 1 → IVec S16 32) a x).toNat < S128.size a := fun v184 k0_hw121 => k0_hw121

def k0_chk122 (v186 : IVec S16 32) : Prop :=
  (∀ a x, ((![v186] : Fin 1 → IVec S16 32) a x).toNat < S4104.size a)
theorem k0_idx122_inb : ∀ (v186 : IVec S16 32) (k0_hw122 : k0_chk122 v186), ∀ a x, ((![v186] : Fin 1 → IVec S16 32) a x).toNat < S4104.size a := fun v186 k0_hw122 => k0_hw122

def k0_chk123 (v187 : IVec S16 32) : Prop :=
  (∀ a x, ((![v187] : Fin 1 → IVec S16 32) a x).toNat < S128.size a)
theorem k0_idx123_inb : ∀ (v187 : IVec S16 32) (k0_hw123 : k0_chk123 v187), ∀ a x, ((![v187] : Fin 1 → IVec S16 32) a x).toNat < S128.size a := fun v187 k0_hw123 => k0_hw123

def k0_chk124 (v189 : IVec S16 32) : Prop :=
  (∀ a x, ((![v189] : Fin 1 → IVec S16 32) a x).toNat < S4104.size a)
theorem k0_idx124_inb : ∀ (v189 : IVec S16 32) (k0_hw124 : k0_chk124 v189), ∀ a x, ((![v189] : Fin 1 → IVec S16 32) a x).toNat < S4104.size a := fun v189 k0_hw124 => k0_hw124

def k0_chk125 (v190 : IVec S16 32) : Prop :=
  (∀ a x, ((![v190] : Fin 1 → IVec S16 32) a x).toNat < S128.size a)
theorem k0_idx125_inb : ∀ (v190 : IVec S16 32) (k0_hw125 : k0_chk125 v190), ∀ a x, ((![v190] : Fin 1 → IVec S16 32) a x).toNat < S128.size a := fun v190 k0_hw125 => k0_hw125

def k0_chk126 (v192 : IVec S16 32) : Prop :=
  (∀ a x, ((![v192] : Fin 1 → IVec S16 32) a x).toNat < S4104.size a)
theorem k0_idx126_inb : ∀ (v192 : IVec S16 32) (k0_hw126 : k0_chk126 v192), ∀ a x, ((![v192] : Fin 1 → IVec S16 32) a x).toNat < S4104.size a := fun v192 k0_hw126 => k0_hw126

def k0_chk127 (v193 : IVec S16 32) : Prop :=
  (∀ a x, ((![v193] : Fin 1 → IVec S16 32) a x).toNat < S128.size a)
theorem k0_idx127_inb : ∀ (v193 : IVec S16 32) (k0_hw127 : k0_chk127 v193), ∀ a x, ((![v193] : Fin 1 → IVec S16 32) a x).toNat < S128.size a := fun v193 k0_hw127 => k0_hw127

def k0_chk128 (v195 : IVec S16 32) : Prop :=
  (∀ a x, ((![v195] : Fin 1 → IVec S16 32) a x).toNat < S4104.size a)
theorem k0_idx128_inb : ∀ (v195 : IVec S16 32) (k0_hw128 : k0_chk128 v195), ∀ a x, ((![v195] : Fin 1 → IVec S16 32) a x).toNat < S4104.size a := fun v195 k0_hw128 => k0_hw128

def k0_chk129 (v196 : IVec S16 32) : Prop :=
  (∀ a x, ((![v196] : Fin 1 → IVec S16 32) a x).toNat < S128.size a)
theorem k0_idx129_inb : ∀ (v196 : IVec S16 32) (k0_hw129 : k0_chk129 v196), ∀ a x, ((![v196] : Fin 1 → IVec S16 32) a x).toNat < S128.size a := fun v196 k0_hw129 => k0_hw129

def k0_chk130 (v198 : IVec S16 32) : Prop :=
  (∀ a x, ((![v198] : Fin 1 → IVec S16 32) a x).toNat < S4104.size a)
theorem k0_idx130_inb : ∀ (v198 : IVec S16 32) (k0_hw130 : k0_chk130 v198), ∀ a x, ((![v198] : Fin 1 → IVec S16 32) a x).toNat < S4104.size a := fun v198 k0_hw130 => k0_hw130

def k0_chk131 (v199 : IVec S16 32) : Prop :=
  (∀ a x, ((![v199] : Fin 1 → IVec S16 32) a x).toNat < S128.size a)
theorem k0_idx131_inb : ∀ (v199 : IVec S16 32) (k0_hw131 : k0_chk131 v199), ∀ a x, ((![v199] : Fin 1 → IVec S16 32) a x).toNat < S128.size a := fun v199 k0_hw131 => k0_hw131

def k0_chk132 (v201 : IVec S16 32) : Prop :=
  (∀ a x, ((![v201] : Fin 1 → IVec S16 32) a x).toNat < S4104.size a)
theorem k0_idx132_inb : ∀ (v201 : IVec S16 32) (k0_hw132 : k0_chk132 v201), ∀ a x, ((![v201] : Fin 1 → IVec S16 32) a x).toNat < S4104.size a := fun v201 k0_hw132 => k0_hw132

def k0_chk133 (v202 : IVec S16 32) : Prop :=
  (∀ a x, ((![v202] : Fin 1 → IVec S16 32) a x).toNat < S128.size a)
theorem k0_idx133_inb : ∀ (v202 : IVec S16 32) (k0_hw133 : k0_chk133 v202), ∀ a x, ((![v202] : Fin 1 → IVec S16 32) a x).toNat < S128.size a := fun v202 k0_hw133 => k0_hw133

def k0_chk134 (v204 : IVec S16 32) : Prop :=
  (∀ a x, ((![v204] : Fin 1 → IVec S16 32) a x).toNat < S4104.size a)
theorem k0_idx134_inb : ∀ (v204 : IVec S16 32) (k0_hw134 : k0_chk134 v204), ∀ a x, ((![v204] : Fin 1 → IVec S16 32) a x).toNat < S4104.size a := fun v204 k0_hw134 => k0_hw134

def k0_chk135 (v205 : IVec S16 32) : Prop :=
  (∀ a x, ((![v205] : Fin 1 → IVec S16 32) a x).toNat < S128.size a)
theorem k0_idx135_inb : ∀ (v205 : IVec S16 32) (k0_hw135 : k0_chk135 v205), ∀ a x, ((![v205] : Fin 1 → IVec S16 32) a x).toNat < S128.size a := fun v205 k0_hw135 => k0_hw135

def k0_chk136 (v207 : IVec S16 32) : Prop :=
  (∀ a x, ((![v207] : Fin 1 → IVec S16 32) a x).toNat < S4104.size a)
theorem k0_idx136_inb : ∀ (v207 : IVec S16 32) (k0_hw136 : k0_chk136 v207), ∀ a x, ((![v207] : Fin 1 → IVec S16 32) a x).toNat < S4104.size a := fun v207 k0_hw136 => k0_hw136

def k0_chk137 (v208 : IVec S16 32) : Prop :=
  (∀ a x, ((![v208] : Fin 1 → IVec S16 32) a x).toNat < S128.size a)
theorem k0_idx137_inb : ∀ (v208 : IVec S16 32) (k0_hw137 : k0_chk137 v208), ∀ a x, ((![v208] : Fin 1 → IVec S16 32) a x).toNat < S128.size a := fun v208 k0_hw137 => k0_hw137

def k0_chk138 (v210 : IVec S16 32) : Prop :=
  (∀ a x, ((![v210] : Fin 1 → IVec S16 32) a x).toNat < S4104.size a)
theorem k0_idx138_inb : ∀ (v210 : IVec S16 32) (k0_hw138 : k0_chk138 v210), ∀ a x, ((![v210] : Fin 1 → IVec S16 32) a x).toNat < S4104.size a := fun v210 k0_hw138 => k0_hw138

def k0_chk139 (v211 : IVec S16 32) : Prop :=
  (∀ a x, ((![v211] : Fin 1 → IVec S16 32) a x).toNat < S128.size a)
theorem k0_idx139_inb : ∀ (v211 : IVec S16 32) (k0_hw139 : k0_chk139 v211), ∀ a x, ((![v211] : Fin 1 → IVec S16 32) a x).toNat < S128.size a := fun v211 k0_hw139 => k0_hw139

def k0_chk140 (v213 : IVec S16 32) : Prop :=
  (∀ a x, ((![v213] : Fin 1 → IVec S16 32) a x).toNat < S4104.size a)
theorem k0_idx140_inb : ∀ (v213 : IVec S16 32) (k0_hw140 : k0_chk140 v213), ∀ a x, ((![v213] : Fin 1 → IVec S16 32) a x).toNat < S4104.size a := fun v213 k0_hw140 => k0_hw140

def k0_chk141 (v214 : IVec S16 32) : Prop :=
  (∀ a x, ((![v214] : Fin 1 → IVec S16 32) a x).toNat < S128.size a)
theorem k0_idx141_inb : ∀ (v214 : IVec S16 32) (k0_hw141 : k0_chk141 v214), ∀ a x, ((![v214] : Fin 1 → IVec S16 32) a x).toNat < S128.size a := fun v214 k0_hw141 => k0_hw141

def k0_chk142 (v216 : IVec S16 32) : Prop :=
  (∀ a x, ((![v216] : Fin 1 → IVec S16 32) a x).toNat < S4104.size a)
theorem k0_idx142_inb : ∀ (v216 : IVec S16 32) (k0_hw142 : k0_chk142 v216), ∀ a x, ((![v216] : Fin 1 → IVec S16 32) a x).toNat < S4104.size a := fun v216 k0_hw142 => k0_hw142

def k0_chk143 (v217 : IVec S16 32) : Prop :=
  (∀ a x, ((![v217] : Fin 1 → IVec S16 32) a x).toNat < S128.size a)
theorem k0_idx143_inb : ∀ (v217 : IVec S16 32) (k0_hw143 : k0_chk143 v217), ∀ a x, ((![v217] : Fin 1 → IVec S16 32) a x).toNat < S128.size a := fun v217 k0_hw143 => k0_hw143

def k0_chk144 (v219 : IVec S16 32) : Prop :=
  (∀ a x, ((![v219] : Fin 1 → IVec S16 32) a x).toNat < S4104.size a)
theorem k0_idx144_inb : ∀ (v219 : IVec S16 32) (k0_hw144 : k0_chk144 v219), ∀ a x, ((![v219] : Fin 1 → IVec S16 32) a x).toNat < S4104.size a := fun v219 k0_hw144 => k0_hw144

def k0_chk145 (v220 : IVec S16 32) : Prop :=
  (∀ a x, ((![v220] : Fin 1 → IVec S16 32) a x).toNat < S128.size a)
theorem k0_idx145_inb : ∀ (v220 : IVec S16 32) (k0_hw145 : k0_chk145 v220), ∀ a x, ((![v220] : Fin 1 → IVec S16 32) a x).toNat < S128.size a := fun v220 k0_hw145 => k0_hw145

def k0_chk146 (v222 : IVec S16 32) : Prop :=
  (∀ a x, ((![v222] : Fin 1 → IVec S16 32) a x).toNat < S4104.size a)
theorem k0_idx146_inb : ∀ (v222 : IVec S16 32) (k0_hw146 : k0_chk146 v222), ∀ a x, ((![v222] : Fin 1 → IVec S16 32) a x).toNat < S4104.size a := fun v222 k0_hw146 => k0_hw146

def k0_chk147 (v223 : IVec S16 32) : Prop :=
  (∀ a x, ((![v223] : Fin 1 → IVec S16 32) a x).toNat < S128.size a)
theorem k0_idx147_inb : ∀ (v223 : IVec S16 32) (k0_hw147 : k0_chk147 v223), ∀ a x, ((![v223] : Fin 1 → IVec S16 32) a x).toNat < S128.size a := fun v223 k0_hw147 => k0_hw147

def k0_chk148 (v225 : IVec S16 32) : Prop :=
  (∀ a x, ((![v225] : Fin 1 → IVec S16 32) a x).toNat < S4104.size a)
theorem k0_idx148_inb : ∀ (v225 : IVec S16 32) (k0_hw148 : k0_chk148 v225), ∀ a x, ((![v225] : Fin 1 → IVec S16 32) a x).toNat < S4104.size a := fun v225 k0_hw148 => k0_hw148

def k0_chk149 (v226 : IVec S16 32) : Prop :=
  (∀ a x, ((![v226] : Fin 1 → IVec S16 32) a x).toNat < S128.size a)
theorem k0_idx149_inb : ∀ (v226 : IVec S16 32) (k0_hw149 : k0_chk149 v226), ∀ a x, ((![v226] : Fin 1 → IVec S16 32) a x).toNat < S128.size a := fun v226 k0_hw149 => k0_hw149

def k0_chk150 (v228 : IVec S16 32) : Prop :=
  (∀ a x, ((![v228] : Fin 1 → IVec S16 32) a x).toNat < S4104.size a)
theorem k0_idx150_inb : ∀ (v228 : IVec S16 32) (k0_hw150 : k0_chk150 v228), ∀ a x, ((![v228] : Fin 1 → IVec S16 32) a x).toNat < S4104.size a := fun v228 k0_hw150 => k0_hw150

def k0_chk151 (v229 : IVec S16 32) : Prop :=
  (∀ a x, ((![v229] : Fin 1 → IVec S16 32) a x).toNat < S128.size a)
theorem k0_idx151_inb : ∀ (v229 : IVec S16 32) (k0_hw151 : k0_chk151 v229), ∀ a x, ((![v229] : Fin 1 → IVec S16 32) a x).toNat < S128.size a := fun v229 k0_hw151 => k0_hw151

def k0_chk152 (v231 : IVec S16 32) : Prop :=
  (∀ a x, ((![v231] : Fin 1 → IVec S16 32) a x).toNat < S4104.size a)
theorem k0_idx152_inb : ∀ (v231 : IVec S16 32) (k0_hw152 : k0_chk152 v231), ∀ a x, ((![v231] : Fin 1 → IVec S16 32) a x).toNat < S4104.size a := fun v231 k0_hw152 => k0_hw152

def k0_chk153 (v232 : IVec S16 32) : Prop :=
  (∀ a x, ((![v232] : Fin 1 → IVec S16 32) a x).toNat < S128.size a)
theorem k0_idx153_inb : ∀ (v232 : IVec S16 32) (k0_hw153 : k0_chk153 v232), ∀ a x, ((![v232] : Fin 1 → IVec S16 32) a x).toNat < S128.size a := fun v232 k0_hw153 => k0_hw153

def k0_chk154 (v234 : IVec S16 32) : Prop :=
  (∀ a x, ((![v234] : Fin 1 → IVec S16 32) a x).toNat < S4104.size a)
theorem k0_idx154_inb : ∀ (v234 : IVec S16 32) (k0_hw154 : k0_chk154 v234), ∀ a x, ((![v234] : Fin 1 → IVec S16 32) a x).toNat < S4104.size a := fun v234 k0_hw154 => k0_hw154

def k0_chk155 (v235 : IVec S16 32) : Prop :=
  (∀ a x, ((![v235] : Fin 1 → IVec S16 32) a x).toNat < S128.size a)
theorem k0_idx155_inb : ∀ (v235 : IVec S16 32) (k0_hw155 : k0_chk155 v235), ∀ a x, ((![v235] : Fin 1 → IVec S16 32) a x).toNat < S128.size a := fun v235 k0_hw155 => k0_hw155

def k0_chk156 (v237 : IVec S16 32) : Prop :=
  (∀ a x, ((![v237] : Fin 1 → IVec S16 32) a x).toNat < S4104.size a)
theorem k0_idx156_inb : ∀ (v237 : IVec S16 32) (k0_hw156 : k0_chk156 v237), ∀ a x, ((![v237] : Fin 1 → IVec S16 32) a x).toNat < S4104.size a := fun v237 k0_hw156 => k0_hw156

def k0_chk157 (v238 : IVec S16 32) : Prop :=
  (∀ a x, ((![v238] : Fin 1 → IVec S16 32) a x).toNat < S128.size a)
theorem k0_idx157_inb : ∀ (v238 : IVec S16 32) (k0_hw157 : k0_chk157 v238), ∀ a x, ((![v238] : Fin 1 → IVec S16 32) a x).toNat < S128.size a := fun v238 k0_hw157 => k0_hw157

def k0_chk158 (v240 : IVec S16 32) : Prop :=
  (∀ a x, ((![v240] : Fin 1 → IVec S16 32) a x).toNat < S4104.size a)
theorem k0_idx158_inb : ∀ (v240 : IVec S16 32) (k0_hw158 : k0_chk158 v240), ∀ a x, ((![v240] : Fin 1 → IVec S16 32) a x).toNat < S4104.size a := fun v240 k0_hw158 => k0_hw158

def k0_chk159 (v241 : IVec S16 32) : Prop :=
  (∀ a x, ((![v241] : Fin 1 → IVec S16 32) a x).toNat < S128.size a)
theorem k0_idx159_inb : ∀ (v241 : IVec S16 32) (k0_hw159 : k0_chk159 v241), ∀ a x, ((![v241] : Fin 1 → IVec S16 32) a x).toNat < S128.size a := fun v241 k0_hw159 => k0_hw159

def k0_chk160 (v243 : IVec S16 32) : Prop :=
  (∀ a x, ((![v243] : Fin 1 → IVec S16 32) a x).toNat < S4104.size a)
theorem k0_idx160_inb : ∀ (v243 : IVec S16 32) (k0_hw160 : k0_chk160 v243), ∀ a x, ((![v243] : Fin 1 → IVec S16 32) a x).toNat < S4104.size a := fun v243 k0_hw160 => k0_hw160

def k0_chk161 (v244 : IVec S16 32) : Prop :=
  (∀ a x, ((![v244] : Fin 1 → IVec S16 32) a x).toNat < S128.size a)
theorem k0_idx161_inb : ∀ (v244 : IVec S16 32) (k0_hw161 : k0_chk161 v244), ∀ a x, ((![v244] : Fin 1 → IVec S16 32) a x).toNat < S128.size a := fun v244 k0_hw161 => k0_hw161

def k0_chk162 (v246 : IVec S16 32) : Prop :=
  (∀ a x, ((![v246] : Fin 1 → IVec S16 32) a x).toNat < S4104.size a)
theorem k0_idx162_inb : ∀ (v246 : IVec S16 32) (k0_hw162 : k0_chk162 v246), ∀ a x, ((![v246] : Fin 1 → IVec S16 32) a x).toNat < S4104.size a := fun v246 k0_hw162 => k0_hw162

def k0_chk163 (v247 : IVec S16 32) : Prop :=
  (∀ a x, ((![v247] : Fin 1 → IVec S16 32) a x).toNat < S128.size a)
theorem k0_idx163_inb : ∀ (v247 : IVec S16 32) (k0_hw163 : k0_chk163 v247), ∀ a x, ((![v247] : Fin 1 → IVec S16 32) a x).toNat < S128.size a := fun v247 k0_hw163 => k0_hw163

def k0_chk164 (v249 : IVec S16 32) : Prop :=
  (∀ a x, ((![v249] : Fin 1 → IVec S16 32) a x).toNat < S4104.size a)
theorem k0_idx164_inb : ∀ (v249 : IVec S16 32) (k0_hw164 : k0_chk164 v249), ∀ a x, ((![v249] : Fin 1 → IVec S16 32) a x).toNat < S4104.size a := fun v249 k0_hw164 => k0_hw164

def k0_chk165 (v250 : IVec S16 32) : Prop :=
  (∀ a x, ((![v250] : Fin 1 → IVec S16 32) a x).toNat < S128.size a)
theorem k0_idx165_inb : ∀ (v250 : IVec S16 32) (k0_hw165 : k0_chk165 v250), ∀ a x, ((![v250] : Fin 1 → IVec S16 32) a x).toNat < S128.size a := fun v250 k0_hw165 => k0_hw165

def k0_chk166 (v252 : IVec S16 32) : Prop :=
  (∀ a x, ((![v252] : Fin 1 → IVec S16 32) a x).toNat < S4104.size a)
theorem k0_idx166_inb : ∀ (v252 : IVec S16 32) (k0_hw166 : k0_chk166 v252), ∀ a x, ((![v252] : Fin 1 → IVec S16 32) a x).toNat < S4104.size a := fun v252 k0_hw166 => k0_hw166

def k0_chk167 (v253 : IVec S16 32) : Prop :=
  (∀ a x, ((![v253] : Fin 1 → IVec S16 32) a x).toNat < S128.size a)
theorem k0_idx167_inb : ∀ (v253 : IVec S16 32) (k0_hw167 : k0_chk167 v253), ∀ a x, ((![v253] : Fin 1 → IVec S16 32) a x).toNat < S128.size a := fun v253 k0_hw167 => k0_hw167

def k0_chk168 (v255 : IVec S16 32) : Prop :=
  (∀ a x, ((![v255] : Fin 1 → IVec S16 32) a x).toNat < S4104.size a)
theorem k0_idx168_inb : ∀ (v255 : IVec S16 32) (k0_hw168 : k0_chk168 v255), ∀ a x, ((![v255] : Fin 1 → IVec S16 32) a x).toNat < S4104.size a := fun v255 k0_hw168 => k0_hw168

def k0_chk169 (v256 : IVec S16 32) : Prop :=
  (∀ a x, ((![v256] : Fin 1 → IVec S16 32) a x).toNat < S128.size a)
theorem k0_idx169_inb : ∀ (v256 : IVec S16 32) (k0_hw169 : k0_chk169 v256), ∀ a x, ((![v256] : Fin 1 → IVec S16 32) a x).toNat < S128.size a := fun v256 k0_hw169 => k0_hw169

def k0_chk170 (v258 : IVec S16 32) : Prop :=
  (∀ a x, ((![v258] : Fin 1 → IVec S16 32) a x).toNat < S4104.size a)
theorem k0_idx170_inb : ∀ (v258 : IVec S16 32) (k0_hw170 : k0_chk170 v258), ∀ a x, ((![v258] : Fin 1 → IVec S16 32) a x).toNat < S4104.size a := fun v258 k0_hw170 => k0_hw170

def k0_chk171 (v259 : IVec S16 32) : Prop :=
  (∀ a x, ((![v259] : Fin 1 → IVec S16 32) a x).toNat < S128.size a)
theorem k0_idx171_inb : ∀ (v259 : IVec S16 32) (k0_hw171 : k0_chk171 v259), ∀ a x, ((![v259] : Fin 1 → IVec S16 32) a x).toNat < S128.size a := fun v259 k0_hw171 => k0_hw171

def k0_chk172 (v261 : IVec S16 32) : Prop :=
  (∀ a x, ((![v261] : Fin 1 → IVec S16 32) a x).toNat < S4104.size a)
theorem k0_idx172_inb : ∀ (v261 : IVec S16 32) (k0_hw172 : k0_chk172 v261), ∀ a x, ((![v261] : Fin 1 → IVec S16 32) a x).toNat < S4104.size a := fun v261 k0_hw172 => k0_hw172

def k0_chk173 (v262 : IVec S16 32) : Prop :=
  (∀ a x, ((![v262] : Fin 1 → IVec S16 32) a x).toNat < S128.size a)
theorem k0_idx173_inb : ∀ (v262 : IVec S16 32) (k0_hw173 : k0_chk173 v262), ∀ a x, ((![v262] : Fin 1 → IVec S16 32) a x).toNat < S128.size a := fun v262 k0_hw173 => k0_hw173

def k0_chk174 (v264 : IVec S16 32) : Prop :=
  (∀ a x, ((![v264] : Fin 1 → IVec S16 32) a x).toNat < S4104.size a)
theorem k0_idx174_inb : ∀ (v264 : IVec S16 32) (k0_hw174 : k0_chk174 v264), ∀ a x, ((![v264] : Fin 1 → IVec S16 32) a x).toNat < S4104.size a := fun v264 k0_hw174 => k0_hw174

def k0_chk175 (v265 : IVec S16 32) : Prop :=
  (∀ a x, ((![v265] : Fin 1 → IVec S16 32) a x).toNat < S128.size a)
theorem k0_idx175_inb : ∀ (v265 : IVec S16 32) (k0_hw175 : k0_chk175 v265), ∀ a x, ((![v265] : Fin 1 → IVec S16 32) a x).toNat < S128.size a := fun v265 k0_hw175 => k0_hw175

def k0_chk176 (v267 : IVec S16 32) : Prop :=
  (∀ a x, ((![v267] : Fin 1 → IVec S16 32) a x).toNat < S4104.size a)
theorem k0_idx176_inb : ∀ (v267 : IVec S16 32) (k0_hw176 : k0_chk176 v267), ∀ a x, ((![v267] : Fin 1 → IVec S16 32) a x).toNat < S4104.size a := fun v267 k0_hw176 => k0_hw176

def k0_chk177 (v268 : IVec S16 32) : Prop :=
  (∀ a x, ((![v268] : Fin 1 → IVec S16 32) a x).toNat < S128.size a)
theorem k0_idx177_inb : ∀ (v268 : IVec S16 32) (k0_hw177 : k0_chk177 v268), ∀ a x, ((![v268] : Fin 1 → IVec S16 32) a x).toNat < S128.size a := fun v268 k0_hw177 => k0_hw177

def k0_chk178 (v270 : IVec S16 32) : Prop :=
  (∀ a x, ((![v270] : Fin 1 → IVec S16 32) a x).toNat < S4104.size a)
theorem k0_idx178_inb : ∀ (v270 : IVec S16 32) (k0_hw178 : k0_chk178 v270), ∀ a x, ((![v270] : Fin 1 → IVec S16 32) a x).toNat < S4104.size a := fun v270 k0_hw178 => k0_hw178

def k0_chk179 (v271 : IVec S16 32) : Prop :=
  (∀ a x, ((![v271] : Fin 1 → IVec S16 32) a x).toNat < S128.size a)
theorem k0_idx179_inb : ∀ (v271 : IVec S16 32) (k0_hw179 : k0_chk179 v271), ∀ a x, ((![v271] : Fin 1 → IVec S16 32) a x).toNat < S128.size a := fun v271 k0_hw179 => k0_hw179

def k0_chk180 (v273 : IVec S16 32) : Prop :=
  (∀ a x, ((![v273] : Fin 1 → IVec S16 32) a x).toNat < S4104.size a)
theorem k0_idx180_inb : ∀ (v273 : IVec S16 32) (k0_hw180 : k0_chk180 v273), ∀ a x, ((![v273] : Fin 1 → IVec S16 32) a x).toNat < S4104.size a := fun v273 k0_hw180 => k0_hw180

def k0_chk181 (v274 : IVec S16 32) : Prop :=
  (∀ a x, ((![v274] : Fin 1 → IVec S16 32) a x).toNat < S128.size a)
theorem k0_idx181_inb : ∀ (v274 : IVec S16 32) (k0_hw181 : k0_chk181 v274), ∀ a x, ((![v274] : Fin 1 → IVec S16 32) a x).toNat < S128.size a := fun v274 k0_hw181 => k0_hw181

def k0_chk182 (v276 : IVec S16 32) : Prop :=
  (∀ a x, ((![v276] : Fin 1 → IVec S16 32) a x).toNat < S4104.size a)
theorem k0_idx182_inb : ∀ (v276 : IVec S16 32) (k0_hw182 : k0_chk182 v276), ∀ a x, ((![v276] : Fin 1 → IVec S16 32) a x).toNat < S4104.size a := fun v276 k0_hw182 => k0_hw182

def k0_chk183 (v277 : IVec S16 32) : Prop :=
  (∀ a x, ((![v277] : Fin 1 → IVec S16 32) a x).toNat < S128.size a)
theorem k0_idx183_inb : ∀ (v277 : IVec S16 32) (k0_hw183 : k0_chk183 v277), ∀ a x, ((![v277] : Fin 1 → IVec S16 32) a x).toNat < S128.size a := fun v277 k0_hw183 => k0_hw183

def k0_chk184 (v279 : IVec S16 32) : Prop :=
  (∀ a x, ((![v279] : Fin 1 → IVec S16 32) a x).toNat < S4104.size a)
theorem k0_idx184_inb : ∀ (v279 : IVec S16 32) (k0_hw184 : k0_chk184 v279), ∀ a x, ((![v279] : Fin 1 → IVec S16 32) a x).toNat < S4104.size a := fun v279 k0_hw184 => k0_hw184

def k0_chk185 (v280 : IVec S16 32) : Prop :=
  (∀ a x, ((![v280] : Fin 1 → IVec S16 32) a x).toNat < S128.size a)
theorem k0_idx185_inb : ∀ (v280 : IVec S16 32) (k0_hw185 : k0_chk185 v280), ∀ a x, ((![v280] : Fin 1 → IVec S16 32) a x).toNat < S128.size a := fun v280 k0_hw185 => k0_hw185

def k0_chk186 (v282 : IVec S16 32) : Prop :=
  (∀ a x, ((![v282] : Fin 1 → IVec S16 32) a x).toNat < S4104.size a)
theorem k0_idx186_inb : ∀ (v282 : IVec S16 32) (k0_hw186 : k0_chk186 v282), ∀ a x, ((![v282] : Fin 1 → IVec S16 32) a x).toNat < S4104.size a := fun v282 k0_hw186 => k0_hw186

def k0_chk187 (v283 : IVec S16 32) : Prop :=
  (∀ a x, ((![v283] : Fin 1 → IVec S16 32) a x).toNat < S128.size a)
theorem k0_idx187_inb : ∀ (v283 : IVec S16 32) (k0_hw187 : k0_chk187 v283), ∀ a x, ((![v283] : Fin 1 → IVec S16 32) a x).toNat < S128.size a := fun v283 k0_hw187 => k0_hw187

def k0_chk188 (v285 : IVec S16 32) : Prop :=
  (∀ a x, ((![v285] : Fin 1 → IVec S16 32) a x).toNat < S4104.size a)
theorem k0_idx188_inb : ∀ (v285 : IVec S16 32) (k0_hw188 : k0_chk188 v285), ∀ a x, ((![v285] : Fin 1 → IVec S16 32) a x).toNat < S4104.size a := fun v285 k0_hw188 => k0_hw188

def k0_chk189 (v286 : IVec S16 32) : Prop :=
  (∀ a x, ((![v286] : Fin 1 → IVec S16 32) a x).toNat < S128.size a)
theorem k0_idx189_inb : ∀ (v286 : IVec S16 32) (k0_hw189 : k0_chk189 v286), ∀ a x, ((![v286] : Fin 1 → IVec S16 32) a x).toNat < S128.size a := fun v286 k0_hw189 => k0_hw189

def k0_chk190 (v288 : IVec S16 32) : Prop :=
  (∀ a x, ((![v288] : Fin 1 → IVec S16 32) a x).toNat < S4104.size a)
theorem k0_idx190_inb : ∀ (v288 : IVec S16 32) (k0_hw190 : k0_chk190 v288), ∀ a x, ((![v288] : Fin 1 → IVec S16 32) a x).toNat < S4104.size a := fun v288 k0_hw190 => k0_hw190

def k0_chk191 (v289 : IVec S16 32) : Prop :=
  (∀ a x, ((![v289] : Fin 1 → IVec S16 32) a x).toNat < S128.size a)
theorem k0_idx191_inb : ∀ (v289 : IVec S16 32) (k0_hw191 : k0_chk191 v289), ∀ a x, ((![v289] : Fin 1 → IVec S16 32) a x).toNat < S128.size a := fun v289 k0_hw191 => k0_hw191

def k0_chk192 (v291 : IVec S16 32) : Prop :=
  (∀ a x, ((![v291] : Fin 1 → IVec S16 32) a x).toNat < S4104.size a)
theorem k0_idx192_inb : ∀ (v291 : IVec S16 32) (k0_hw192 : k0_chk192 v291), ∀ a x, ((![v291] : Fin 1 → IVec S16 32) a x).toNat < S4104.size a := fun v291 k0_hw192 => k0_hw192

def k0_chk193 (v292 : IVec S16 32) : Prop :=
  (∀ a x, ((![v292] : Fin 1 → IVec S16 32) a x).toNat < S128.size a)
theorem k0_idx193_inb : ∀ (v292 : IVec S16 32) (k0_hw193 : k0_chk193 v292), ∀ a x, ((![v292] : Fin 1 → IVec S16 32) a x).toNat < S128.size a := fun v292 k0_hw193 => k0_hw193

def k0_chk194 (v294 : IVec S16 32) : Prop :=
  (∀ a x, ((![v294] : Fin 1 → IVec S16 32) a x).toNat < S4104.size a)
theorem k0_idx194_inb : ∀ (v294 : IVec S16 32) (k0_hw194 : k0_chk194 v294), ∀ a x, ((![v294] : Fin 1 → IVec S16 32) a x).toNat < S4104.size a := fun v294 k0_hw194 => k0_hw194

def k0_chk195 (v295 : IVec S16 32) : Prop :=
  (∀ a x, ((![v295] : Fin 1 → IVec S16 32) a x).toNat < S128.size a)
theorem k0_idx195_inb : ∀ (v295 : IVec S16 32) (k0_hw195 : k0_chk195 v295), ∀ a x, ((![v295] : Fin 1 → IVec S16 32) a x).toNat < S128.size a := fun v295 k0_hw195 => k0_hw195

def k0_chk196 (v297 : IVec S16 32) : Prop :=
  (∀ a x, ((![v297] : Fin 1 → IVec S16 32) a x).toNat < S4104.size a)
theorem k0_idx196_inb : ∀ (v297 : IVec S16 32) (k0_hw196 : k0_chk196 v297), ∀ a x, ((![v297] : Fin 1 → IVec S16 32) a x).toNat < S4104.size a := fun v297 k0_hw196 => k0_hw196

def k0_chk197 (v298 : IVec S16 32) : Prop :=
  (∀ a x, ((![v298] : Fin 1 → IVec S16 32) a x).toNat < S128.size a)
theorem k0_idx197_inb : ∀ (v298 : IVec S16 32) (k0_hw197 : k0_chk197 v298), ∀ a x, ((![v298] : Fin 1 → IVec S16 32) a x).toNat < S128.size a := fun v298 k0_hw197 => k0_hw197

def k0_chk198 (v300 : IVec S16 32) : Prop :=
  (∀ a x, ((![v300] : Fin 1 → IVec S16 32) a x).toNat < S4104.size a)
theorem k0_idx198_inb : ∀ (v300 : IVec S16 32) (k0_hw198 : k0_chk198 v300), ∀ a x, ((![v300] : Fin 1 → IVec S16 32) a x).toNat < S4104.size a := fun v300 k0_hw198 => k0_hw198

def k0_chk199 (v301 : IVec S16 32) : Prop :=
  (∀ a x, ((![v301] : Fin 1 → IVec S16 32) a x).toNat < S128.size a)
theorem k0_idx199_inb : ∀ (v301 : IVec S16 32) (k0_hw199 : k0_chk199 v301), ∀ a x, ((![v301] : Fin 1 → IVec S16 32) a x).toNat < S128.size a := fun v301 k0_hw199 => k0_hw199

def k0_chk200 (v303 : IVec S16 32) : Prop :=
  (∀ a x, ((![v303] : Fin 1 → IVec S16 32) a x).toNat < S4104.size a)
theorem k0_idx200_inb : ∀ (v303 : IVec S16 32) (k0_hw200 : k0_chk200 v303), ∀ a x, ((![v303] : Fin 1 → IVec S16 32) a x).toNat < S4104.size a := fun v303 k0_hw200 => k0_hw200

def k0_chk201 (v304 : IVec S16 32) : Prop :=
  (∀ a x, ((![v304] : Fin 1 → IVec S16 32) a x).toNat < S128.size a)
theorem k0_idx201_inb : ∀ (v304 : IVec S16 32) (k0_hw201 : k0_chk201 v304), ∀ a x, ((![v304] : Fin 1 → IVec S16 32) a x).toNat < S128.size a := fun v304 k0_hw201 => k0_hw201

def k0_chk202 (v306 : IVec S16 32) : Prop :=
  (∀ a x, ((![v306] : Fin 1 → IVec S16 32) a x).toNat < S4104.size a)
theorem k0_idx202_inb : ∀ (v306 : IVec S16 32) (k0_hw202 : k0_chk202 v306), ∀ a x, ((![v306] : Fin 1 → IVec S16 32) a x).toNat < S4104.size a := fun v306 k0_hw202 => k0_hw202

def k0_chk203 (v307 : IVec S16 32) : Prop :=
  (∀ a x, ((![v307] : Fin 1 → IVec S16 32) a x).toNat < S128.size a)
theorem k0_idx203_inb : ∀ (v307 : IVec S16 32) (k0_hw203 : k0_chk203 v307), ∀ a x, ((![v307] : Fin 1 → IVec S16 32) a x).toNat < S128.size a := fun v307 k0_hw203 => k0_hw203

def k0_chk204 (v309 : IVec S16 32) : Prop :=
  (∀ a x, ((![v309] : Fin 1 → IVec S16 32) a x).toNat < S4104.size a)
theorem k0_idx204_inb : ∀ (v309 : IVec S16 32) (k0_hw204 : k0_chk204 v309), ∀ a x, ((![v309] : Fin 1 → IVec S16 32) a x).toNat < S4104.size a := fun v309 k0_hw204 => k0_hw204

def k0_chk205 (v310 : IVec S16 32) : Prop :=
  (∀ a x, ((![v310] : Fin 1 → IVec S16 32) a x).toNat < S128.size a)
theorem k0_idx205_inb : ∀ (v310 : IVec S16 32) (k0_hw205 : k0_chk205 v310), ∀ a x, ((![v310] : Fin 1 → IVec S16 32) a x).toNat < S128.size a := fun v310 k0_hw205 => k0_hw205

def k0_chk206 (v312 : IVec S16 32) : Prop :=
  (∀ a x, ((![v312] : Fin 1 → IVec S16 32) a x).toNat < S4104.size a)
theorem k0_idx206_inb : ∀ (v312 : IVec S16 32) (k0_hw206 : k0_chk206 v312), ∀ a x, ((![v312] : Fin 1 → IVec S16 32) a x).toNat < S4104.size a := fun v312 k0_hw206 => k0_hw206

def k0_chk207 (v313 : IVec S16 32) : Prop :=
  (∀ a x, ((![v313] : Fin 1 → IVec S16 32) a x).toNat < S128.size a)
theorem k0_idx207_inb : ∀ (v313 : IVec S16 32) (k0_hw207 : k0_chk207 v313), ∀ a x, ((![v313] : Fin 1 → IVec S16 32) a x).toNat < S128.size a := fun v313 k0_hw207 => k0_hw207

def k0_chk208 (v315 : IVec S16 32) : Prop :=
  (∀ a x, ((![v315] : Fin 1 → IVec S16 32) a x).toNat < S4104.size a)
theorem k0_idx208_inb : ∀ (v315 : IVec S16 32) (k0_hw208 : k0_chk208 v315), ∀ a x, ((![v315] : Fin 1 → IVec S16 32) a x).toNat < S4104.size a := fun v315 k0_hw208 => k0_hw208

def k0_chk209 (v316 : IVec S16 32) : Prop :=
  (∀ a x, ((![v316] : Fin 1 → IVec S16 32) a x).toNat < S128.size a)
theorem k0_idx209_inb : ∀ (v316 : IVec S16 32) (k0_hw209 : k0_chk209 v316), ∀ a x, ((![v316] : Fin 1 → IVec S16 32) a x).toNat < S128.size a := fun v316 k0_hw209 => k0_hw209

def k0_chk210 (v318 : IVec S16 32) : Prop :=
  (∀ a x, ((![v318] : Fin 1 → IVec S16 32) a x).toNat < S4104.size a)
theorem k0_idx210_inb : ∀ (v318 : IVec S16 32) (k0_hw210 : k0_chk210 v318), ∀ a x, ((![v318] : Fin 1 → IVec S16 32) a x).toNat < S4104.size a := fun v318 k0_hw210 => k0_hw210

def k0_chk211 (v319 : IVec S16 32) : Prop :=
  (∀ a x, ((![v319] : Fin 1 → IVec S16 32) a x).toNat < S128.size a)
theorem k0_idx211_inb : ∀ (v319 : IVec S16 32) (k0_hw211 : k0_chk211 v319), ∀ a x, ((![v319] : Fin 1 → IVec S16 32) a x).toNat < S128.size a := fun v319 k0_hw211 => k0_hw211

def k0_chk212 (v321 : IVec S16 32) : Prop :=
  (∀ a x, ((![v321] : Fin 1 → IVec S16 32) a x).toNat < S4104.size a)
theorem k0_idx212_inb : ∀ (v321 : IVec S16 32) (k0_hw212 : k0_chk212 v321), ∀ a x, ((![v321] : Fin 1 → IVec S16 32) a x).toNat < S4104.size a := fun v321 k0_hw212 => k0_hw212

def k0_chk213 (v322 : IVec S16 32) : Prop :=
  (∀ a x, ((![v322] : Fin 1 → IVec S16 32) a x).toNat < S128.size a)
theorem k0_idx213_inb : ∀ (v322 : IVec S16 32) (k0_hw213 : k0_chk213 v322), ∀ a x, ((![v322] : Fin 1 → IVec S16 32) a x).toNat < S128.size a := fun v322 k0_hw213 => k0_hw213

def k0_chk214 (v324 : IVec S16 32) : Prop :=
  (∀ a x, ((![v324] : Fin 1 → IVec S16 32) a x).toNat < S4104.size a)
theorem k0_idx214_inb : ∀ (v324 : IVec S16 32) (k0_hw214 : k0_chk214 v324), ∀ a x, ((![v324] : Fin 1 → IVec S16 32) a x).toNat < S4104.size a := fun v324 k0_hw214 => k0_hw214

def k0_chk215 (v325 : IVec S16 32) : Prop :=
  (∀ a x, ((![v325] : Fin 1 → IVec S16 32) a x).toNat < S128.size a)
theorem k0_idx215_inb : ∀ (v325 : IVec S16 32) (k0_hw215 : k0_chk215 v325), ∀ a x, ((![v325] : Fin 1 → IVec S16 32) a x).toNat < S128.size a := fun v325 k0_hw215 => k0_hw215

def k0_chk216 (v327 : IVec S16 32) : Prop :=
  (∀ a x, ((![v327] : Fin 1 → IVec S16 32) a x).toNat < S4104.size a)
theorem k0_idx216_inb : ∀ (v327 : IVec S16 32) (k0_hw216 : k0_chk216 v327), ∀ a x, ((![v327] : Fin 1 → IVec S16 32) a x).toNat < S4104.size a := fun v327 k0_hw216 => k0_hw216

def k0_chk217 (v328 : IVec S16 32) : Prop :=
  (∀ a x, ((![v328] : Fin 1 → IVec S16 32) a x).toNat < S128.size a)
theorem k0_idx217_inb : ∀ (v328 : IVec S16 32) (k0_hw217 : k0_chk217 v328), ∀ a x, ((![v328] : Fin 1 → IVec S16 32) a x).toNat < S128.size a := fun v328 k0_hw217 => k0_hw217

def k0_chk218 (v330 : IVec S16 32) : Prop :=
  (∀ a x, ((![v330] : Fin 1 → IVec S16 32) a x).toNat < S4104.size a)
theorem k0_idx218_inb : ∀ (v330 : IVec S16 32) (k0_hw218 : k0_chk218 v330), ∀ a x, ((![v330] : Fin 1 → IVec S16 32) a x).toNat < S4104.size a := fun v330 k0_hw218 => k0_hw218

def k0_chk219 (v331 : IVec S16 32) : Prop :=
  (∀ a x, ((![v331] : Fin 1 → IVec S16 32) a x).toNat < S128.size a)
theorem k0_idx219_inb : ∀ (v331 : IVec S16 32) (k0_hw219 : k0_chk219 v331), ∀ a x, ((![v331] : Fin 1 → IVec S16 32) a x).toNat < S128.size a := fun v331 k0_hw219 => k0_hw219

def k0_chk220 (v333 : IVec S16 32) : Prop :=
  (∀ a x, ((![v333] : Fin 1 → IVec S16 32) a x).toNat < S4104.size a)
theorem k0_idx220_inb : ∀ (v333 : IVec S16 32) (k0_hw220 : k0_chk220 v333), ∀ a x, ((![v333] : Fin 1 → IVec S16 32) a x).toNat < S4104.size a := fun v333 k0_hw220 => k0_hw220

def k0_chk221 (v334 : IVec S16 32) : Prop :=
  (∀ a x, ((![v334] : Fin 1 → IVec S16 32) a x).toNat < S128.size a)
theorem k0_idx221_inb : ∀ (v334 : IVec S16 32) (k0_hw221 : k0_chk221 v334), ∀ a x, ((![v334] : Fin 1 → IVec S16 32) a x).toNat < S128.size a := fun v334 k0_hw221 => k0_hw221

def k0_chk222 (v336 : IVec S16 32) : Prop :=
  (∀ a x, ((![v336] : Fin 1 → IVec S16 32) a x).toNat < S4104.size a)
theorem k0_idx222_inb : ∀ (v336 : IVec S16 32) (k0_hw222 : k0_chk222 v336), ∀ a x, ((![v336] : Fin 1 → IVec S16 32) a x).toNat < S4104.size a := fun v336 k0_hw222 => k0_hw222

def k0_chk223 (v337 : IVec S16 32) : Prop :=
  (∀ a x, ((![v337] : Fin 1 → IVec S16 32) a x).toNat < S128.size a)
theorem k0_idx223_inb : ∀ (v337 : IVec S16 32) (k0_hw223 : k0_chk223 v337), ∀ a x, ((![v337] : Fin 1 → IVec S16 32) a x).toNat < S128.size a := fun v337 k0_hw223 => k0_hw223

def k0_chk224 (v339 : IVec S16 32) : Prop :=
  (∀ a x, ((![v339] : Fin 1 → IVec S16 32) a x).toNat < S4104.size a)
theorem k0_idx224_inb : ∀ (v339 : IVec S16 32) (k0_hw224 : k0_chk224 v339), ∀ a x, ((![v339] : Fin 1 → IVec S16 32) a x).toNat < S4104.size a := fun v339 k0_hw224 => k0_hw224

def k0_chk225 (v340 : IVec S16 32) : Prop :=
  (∀ a x, ((![v340] : Fin 1 → IVec S16 32) a x).toNat < S128.size a)
theorem k0_idx225_inb : ∀ (v340 : IVec S16 32) (k0_hw225 : k0_chk225 v340), ∀ a x, ((![v340] : Fin 1 → IVec S16 32) a x).toNat < S128.size a := fun v340 k0_hw225 => k0_hw225

def k0_chk226 (v342 : IVec S16 32) : Prop :=
  (∀ a x, ((![v342] : Fin 1 → IVec S16 32) a x).toNat < S4104.size a)
theorem k0_idx226_inb : ∀ (v342 : IVec S16 32) (k0_hw226 : k0_chk226 v342), ∀ a x, ((![v342] : Fin 1 → IVec S16 32) a x).toNat < S4104.size a := fun v342 k0_hw226 => k0_hw226

def k0_chk227 (v343 : IVec S16 32) : Prop :=
  (∀ a x, ((![v343] : Fin 1 → IVec S16 32) a x).toNat < S128.size a)
theorem k0_idx227_inb : ∀ (v343 : IVec S16 32) (k0_hw227 : k0_chk227 v343), ∀ a x, ((![v343] : Fin 1 → IVec S16 32) a x).toNat < S128.size a := fun v343 k0_hw227 => k0_hw227

def k0_chk228 (v345 : IVec S16 32) : Prop :=
  (∀ a x, ((![v345] : Fin 1 → IVec S16 32) a x).toNat < S4104.size a)
theorem k0_idx228_inb : ∀ (v345 : IVec S16 32) (k0_hw228 : k0_chk228 v345), ∀ a x, ((![v345] : Fin 1 → IVec S16 32) a x).toNat < S4104.size a := fun v345 k0_hw228 => k0_hw228

def k0_chk229 (v346 : IVec S16 32) : Prop :=
  (∀ a x, ((![v346] : Fin 1 → IVec S16 32) a x).toNat < S128.size a)
theorem k0_idx229_inb : ∀ (v346 : IVec S16 32) (k0_hw229 : k0_chk229 v346), ∀ a x, ((![v346] : Fin 1 → IVec S16 32) a x).toNat < S128.size a := fun v346 k0_hw229 => k0_hw229

def k0_chk230 (v348 : IVec S16 32) : Prop :=
  (∀ a x, ((![v348] : Fin 1 → IVec S16 32) a x).toNat < S4104.size a)
theorem k0_idx230_inb : ∀ (v348 : IVec S16 32) (k0_hw230 : k0_chk230 v348), ∀ a x, ((![v348] : Fin 1 → IVec S16 32) a x).toNat < S4104.size a := fun v348 k0_hw230 => k0_hw230

def k0_chk231 (v349 : IVec S16 32) : Prop :=
  (∀ a x, ((![v349] : Fin 1 → IVec S16 32) a x).toNat < S128.size a)
theorem k0_idx231_inb : ∀ (v349 : IVec S16 32) (k0_hw231 : k0_chk231 v349), ∀ a x, ((![v349] : Fin 1 → IVec S16 32) a x).toNat < S128.size a := fun v349 k0_hw231 => k0_hw231

def k0_chk232 (v351 : IVec S16 32) : Prop :=
  (∀ a x, ((![v351] : Fin 1 → IVec S16 32) a x).toNat < S4104.size a)
theorem k0_idx232_inb : ∀ (v351 : IVec S16 32) (k0_hw232 : k0_chk232 v351), ∀ a x, ((![v351] : Fin 1 → IVec S16 32) a x).toNat < S4104.size a := fun v351 k0_hw232 => k0_hw232

def k0_chk233 (v352 : IVec S16 32) : Prop :=
  (∀ a x, ((![v352] : Fin 1 → IVec S16 32) a x).toNat < S128.size a)
theorem k0_idx233_inb : ∀ (v352 : IVec S16 32) (k0_hw233 : k0_chk233 v352), ∀ a x, ((![v352] : Fin 1 → IVec S16 32) a x).toNat < S128.size a := fun v352 k0_hw233 => k0_hw233

def k0_chk234 (v354 : IVec S16 32) : Prop :=
  (∀ a x, ((![v354] : Fin 1 → IVec S16 32) a x).toNat < S4104.size a)
theorem k0_idx234_inb : ∀ (v354 : IVec S16 32) (k0_hw234 : k0_chk234 v354), ∀ a x, ((![v354] : Fin 1 → IVec S16 32) a x).toNat < S4104.size a := fun v354 k0_hw234 => k0_hw234

def k0_chk235 (v355 : IVec S16 32) : Prop :=
  (∀ a x, ((![v355] : Fin 1 → IVec S16 32) a x).toNat < S128.size a)
theorem k0_idx235_inb : ∀ (v355 : IVec S16 32) (k0_hw235 : k0_chk235 v355), ∀ a x, ((![v355] : Fin 1 → IVec S16 32) a x).toNat < S128.size a := fun v355 k0_hw235 => k0_hw235

def k0_chk236 (v357 : IVec S16 32) : Prop :=
  (∀ a x, ((![v357] : Fin 1 → IVec S16 32) a x).toNat < S4104.size a)
theorem k0_idx236_inb : ∀ (v357 : IVec S16 32) (k0_hw236 : k0_chk236 v357), ∀ a x, ((![v357] : Fin 1 → IVec S16 32) a x).toNat < S4104.size a := fun v357 k0_hw236 => k0_hw236

def k0_chk237 (v358 : IVec S16 32) : Prop :=
  (∀ a x, ((![v358] : Fin 1 → IVec S16 32) a x).toNat < S128.size a)
theorem k0_idx237_inb : ∀ (v358 : IVec S16 32) (k0_hw237 : k0_chk237 v358), ∀ a x, ((![v358] : Fin 1 → IVec S16 32) a x).toNat < S128.size a := fun v358 k0_hw237 => k0_hw237

def k0_chk238 (v360 : IVec S16 32) : Prop :=
  (∀ a x, ((![v360] : Fin 1 → IVec S16 32) a x).toNat < S4104.size a)
theorem k0_idx238_inb : ∀ (v360 : IVec S16 32) (k0_hw238 : k0_chk238 v360), ∀ a x, ((![v360] : Fin 1 → IVec S16 32) a x).toNat < S4104.size a := fun v360 k0_hw238 => k0_hw238

def k0_chk239 (v361 : IVec S16 32) : Prop :=
  (∀ a x, ((![v361] : Fin 1 → IVec S16 32) a x).toNat < S128.size a)
theorem k0_idx239_inb : ∀ (v361 : IVec S16 32) (k0_hw239 : k0_chk239 v361), ∀ a x, ((![v361] : Fin 1 → IVec S16 32) a x).toNat < S128.size a := fun v361 k0_hw239 => k0_hw239

def k0_chk240 (v363 : IVec S16 32) : Prop :=
  (∀ a x, ((![v363] : Fin 1 → IVec S16 32) a x).toNat < S4104.size a)
theorem k0_idx240_inb : ∀ (v363 : IVec S16 32) (k0_hw240 : k0_chk240 v363), ∀ a x, ((![v363] : Fin 1 → IVec S16 32) a x).toNat < S4104.size a := fun v363 k0_hw240 => k0_hw240

def k0_chk241 (v364 : IVec S16 32) : Prop :=
  (∀ a x, ((![v364] : Fin 1 → IVec S16 32) a x).toNat < S128.size a)
theorem k0_idx241_inb : ∀ (v364 : IVec S16 32) (k0_hw241 : k0_chk241 v364), ∀ a x, ((![v364] : Fin 1 → IVec S16 32) a x).toNat < S128.size a := fun v364 k0_hw241 => k0_hw241

def k0_chk242 (v366 : IVec S16 32) : Prop :=
  (∀ a x, ((![v366] : Fin 1 → IVec S16 32) a x).toNat < S4104.size a)
theorem k0_idx242_inb : ∀ (v366 : IVec S16 32) (k0_hw242 : k0_chk242 v366), ∀ a x, ((![v366] : Fin 1 → IVec S16 32) a x).toNat < S4104.size a := fun v366 k0_hw242 => k0_hw242

def k0_chk243 (v367 : IVec S16 32) : Prop :=
  (∀ a x, ((![v367] : Fin 1 → IVec S16 32) a x).toNat < S128.size a)
theorem k0_idx243_inb : ∀ (v367 : IVec S16 32) (k0_hw243 : k0_chk243 v367), ∀ a x, ((![v367] : Fin 1 → IVec S16 32) a x).toNat < S128.size a := fun v367 k0_hw243 => k0_hw243

def k0_chk244 (v369 : IVec S16 32) : Prop :=
  (∀ a x, ((![v369] : Fin 1 → IVec S16 32) a x).toNat < S4104.size a)
theorem k0_idx244_inb : ∀ (v369 : IVec S16 32) (k0_hw244 : k0_chk244 v369), ∀ a x, ((![v369] : Fin 1 → IVec S16 32) a x).toNat < S4104.size a := fun v369 k0_hw244 => k0_hw244

def k0_chk245 (v370 : IVec S16 32) : Prop :=
  (∀ a x, ((![v370] : Fin 1 → IVec S16 32) a x).toNat < S128.size a)
theorem k0_idx245_inb : ∀ (v370 : IVec S16 32) (k0_hw245 : k0_chk245 v370), ∀ a x, ((![v370] : Fin 1 → IVec S16 32) a x).toNat < S128.size a := fun v370 k0_hw245 => k0_hw245

def k0_chk246 (v372 : IVec S16 32) : Prop :=
  (∀ a x, ((![v372] : Fin 1 → IVec S16 32) a x).toNat < S4104.size a)
theorem k0_idx246_inb : ∀ (v372 : IVec S16 32) (k0_hw246 : k0_chk246 v372), ∀ a x, ((![v372] : Fin 1 → IVec S16 32) a x).toNat < S4104.size a := fun v372 k0_hw246 => k0_hw246

def k0_chk247 (v373 : IVec S16 32) : Prop :=
  (∀ a x, ((![v373] : Fin 1 → IVec S16 32) a x).toNat < S128.size a)
theorem k0_idx247_inb : ∀ (v373 : IVec S16 32) (k0_hw247 : k0_chk247 v373), ∀ a x, ((![v373] : Fin 1 → IVec S16 32) a x).toNat < S128.size a := fun v373 k0_hw247 => k0_hw247

def k0_chk248 (v375 : IVec S16 32) : Prop :=
  (∀ a x, ((![v375] : Fin 1 → IVec S16 32) a x).toNat < S4104.size a)
theorem k0_idx248_inb : ∀ (v375 : IVec S16 32) (k0_hw248 : k0_chk248 v375), ∀ a x, ((![v375] : Fin 1 → IVec S16 32) a x).toNat < S4104.size a := fun v375 k0_hw248 => k0_hw248

def k0_chk249 (v376 : IVec S16 32) : Prop :=
  (∀ a x, ((![v376] : Fin 1 → IVec S16 32) a x).toNat < S128.size a)
theorem k0_idx249_inb : ∀ (v376 : IVec S16 32) (k0_hw249 : k0_chk249 v376), ∀ a x, ((![v376] : Fin 1 → IVec S16 32) a x).toNat < S128.size a := fun v376 k0_hw249 => k0_hw249

def k0_chk250 (v378 : IVec S16 32) : Prop :=
  (∀ a x, ((![v378] : Fin 1 → IVec S16 32) a x).toNat < S4104.size a)
theorem k0_idx250_inb : ∀ (v378 : IVec S16 32) (k0_hw250 : k0_chk250 v378), ∀ a x, ((![v378] : Fin 1 → IVec S16 32) a x).toNat < S4104.size a := fun v378 k0_hw250 => k0_hw250

def k0_chk251 (v379 : IVec S16 32) : Prop :=
  (∀ a x, ((![v379] : Fin 1 → IVec S16 32) a x).toNat < S128.size a)
theorem k0_idx251_inb : ∀ (v379 : IVec S16 32) (k0_hw251 : k0_chk251 v379), ∀ a x, ((![v379] : Fin 1 → IVec S16 32) a x).toNat < S128.size a := fun v379 k0_hw251 => k0_hw251

def k0_chk252 (v381 : IVec S16 32) : Prop :=
  (∀ a x, ((![v381] : Fin 1 → IVec S16 32) a x).toNat < S4104.size a)
theorem k0_idx252_inb : ∀ (v381 : IVec S16 32) (k0_hw252 : k0_chk252 v381), ∀ a x, ((![v381] : Fin 1 → IVec S16 32) a x).toNat < S4104.size a := fun v381 k0_hw252 => k0_hw252

def k0_chk253 (v382 : IVec S16 32) : Prop :=
  (∀ a x, ((![v382] : Fin 1 → IVec S16 32) a x).toNat < S128.size a)
theorem k0_idx253_inb : ∀ (v382 : IVec S16 32) (k0_hw253 : k0_chk253 v382), ∀ a x, ((![v382] : Fin 1 → IVec S16 32) a x).toNat < S128.size a := fun v382 k0_hw253 => k0_hw253

def k0_chk254 (v384 : IVec S16 32) : Prop :=
  (∀ a x, ((![v384] : Fin 1 → IVec S16 32) a x).toNat < S4104.size a)
theorem k0_idx254_inb : ∀ (v384 : IVec S16 32) (k0_hw254 : k0_chk254 v384), ∀ a x, ((![v384] : Fin 1 → IVec S16 32) a x).toNat < S4104.size a := fun v384 k0_hw254 => k0_hw254

def k0_chk255 (v385 : IVec S16 32) : Prop :=
  (∀ a x, ((![v385] : Fin 1 → IVec S16 32) a x).toNat < S128.size a)
theorem k0_idx255_inb : ∀ (v385 : IVec S16 32) (k0_hw255 : k0_chk255 v385), ∀ a x, ((![v385] : Fin 1 → IVec S16 32) a x).toNat < S128.size a := fun v385 k0_hw255 => k0_hw255

def k0_chk256 (v387 : IVec S16 32) : Prop :=
  (∀ a x, ((![v387] : Fin 1 → IVec S16 32) a x).toNat < S4104.size a)
theorem k0_idx256_inb : ∀ (v387 : IVec S16 32) (k0_hw256 : k0_chk256 v387), ∀ a x, ((![v387] : Fin 1 → IVec S16 32) a x).toNat < S4104.size a := fun v387 k0_hw256 => k0_hw256

def k0_chk257 (v388 : IVec S16 32) : Prop :=
  (∀ a x, ((![v388] : Fin 1 → IVec S16 32) a x).toNat < S128.size a)
theorem k0_idx257_inb : ∀ (v388 : IVec S16 32) (k0_hw257 : k0_chk257 v388), ∀ a x, ((![v388] : Fin 1 → IVec S16 32) a x).toNat < S128.size a := fun v388 k0_hw257 => k0_hw257

def k0_chk258 (v390 : IVec S16 32) : Prop :=
  (∀ a x, ((![v390] : Fin 1 → IVec S16 32) a x).toNat < S4104.size a)
theorem k0_idx258_inb : ∀ (v390 : IVec S16 32) (k0_hw258 : k0_chk258 v390), ∀ a x, ((![v390] : Fin 1 → IVec S16 32) a x).toNat < S4104.size a := fun v390 k0_hw258 => k0_hw258

def k0_chk259 (v391 : IVec S16 32) : Prop :=
  (∀ a x, ((![v391] : Fin 1 → IVec S16 32) a x).toNat < S128.size a)
theorem k0_idx259_inb : ∀ (v391 : IVec S16 32) (k0_hw259 : k0_chk259 v391), ∀ a x, ((![v391] : Fin 1 → IVec S16 32) a x).toNat < S128.size a := fun v391 k0_hw259 => k0_hw259

def k0_chk260 (v393 : IVec S16 32) : Prop :=
  (∀ a x, ((![v393] : Fin 1 → IVec S16 32) a x).toNat < S4104.size a)
theorem k0_idx260_inb : ∀ (v393 : IVec S16 32) (k0_hw260 : k0_chk260 v393), ∀ a x, ((![v393] : Fin 1 → IVec S16 32) a x).toNat < S4104.size a := fun v393 k0_hw260 => k0_hw260

def k0_chk261 (v394 : IVec S16 32) : Prop :=
  (∀ a x, ((![v394] : Fin 1 → IVec S16 32) a x).toNat < S128.size a)
theorem k0_idx261_inb : ∀ (v394 : IVec S16 32) (k0_hw261 : k0_chk261 v394), ∀ a x, ((![v394] : Fin 1 → IVec S16 32) a x).toNat < S128.size a := fun v394 k0_hw261 => k0_hw261

def k0_chk262 (v396 : IVec S16 32) : Prop :=
  (∀ a x, ((![v396] : Fin 1 → IVec S16 32) a x).toNat < S4104.size a)
theorem k0_idx262_inb : ∀ (v396 : IVec S16 32) (k0_hw262 : k0_chk262 v396), ∀ a x, ((![v396] : Fin 1 → IVec S16 32) a x).toNat < S4104.size a := fun v396 k0_hw262 => k0_hw262

def k0_chk263 (v397 : IVec S16 32) : Prop :=
  (∀ a x, ((![v397] : Fin 1 → IVec S16 32) a x).toNat < S128.size a)
theorem k0_idx263_inb : ∀ (v397 : IVec S16 32) (k0_hw263 : k0_chk263 v397), ∀ a x, ((![v397] : Fin 1 → IVec S16 32) a x).toNat < S128.size a := fun v397 k0_hw263 => k0_hw263

def k0_chk264 (v399 : IVec S16 32) : Prop :=
  (∀ a x, ((![v399] : Fin 1 → IVec S16 32) a x).toNat < S4104.size a)
theorem k0_idx264_inb : ∀ (v399 : IVec S16 32) (k0_hw264 : k0_chk264 v399), ∀ a x, ((![v399] : Fin 1 → IVec S16 32) a x).toNat < S4104.size a := fun v399 k0_hw264 => k0_hw264

def k0_chk265 (v400 : IVec S16 32) : Prop :=
  (∀ a x, ((![v400] : Fin 1 → IVec S16 32) a x).toNat < S128.size a)
theorem k0_idx265_inb : ∀ (v400 : IVec S16 32) (k0_hw265 : k0_chk265 v400), ∀ a x, ((![v400] : Fin 1 → IVec S16 32) a x).toNat < S128.size a := fun v400 k0_hw265 => k0_hw265

def k0_chk266 (v402 : IVec S16 32) : Prop :=
  (∀ a x, ((![v402] : Fin 1 → IVec S16 32) a x).toNat < S4104.size a)
theorem k0_idx266_inb : ∀ (v402 : IVec S16 32) (k0_hw266 : k0_chk266 v402), ∀ a x, ((![v402] : Fin 1 → IVec S16 32) a x).toNat < S4104.size a := fun v402 k0_hw266 => k0_hw266

def k0_chk267 (v403 : IVec S16 32) : Prop :=
  (∀ a x, ((![v403] : Fin 1 → IVec S16 32) a x).toNat < S128.size a)
theorem k0_idx267_inb : ∀ (v403 : IVec S16 32) (k0_hw267 : k0_chk267 v403), ∀ a x, ((![v403] : Fin 1 → IVec S16 32) a x).toNat < S128.size a := fun v403 k0_hw267 => k0_hw267

def k0_chk268 (v405 : IVec S16 32) : Prop :=
  (∀ a x, ((![v405] : Fin 1 → IVec S16 32) a x).toNat < S4104.size a)
theorem k0_idx268_inb : ∀ (v405 : IVec S16 32) (k0_hw268 : k0_chk268 v405), ∀ a x, ((![v405] : Fin 1 → IVec S16 32) a x).toNat < S4104.size a := fun v405 k0_hw268 => k0_hw268

def k0_chk269 (v406 : IVec S16 32) : Prop :=
  (∀ a x, ((![v406] : Fin 1 → IVec S16 32) a x).toNat < S128.size a)
theorem k0_idx269_inb : ∀ (v406 : IVec S16 32) (k0_hw269 : k0_chk269 v406), ∀ a x, ((![v406] : Fin 1 → IVec S16 32) a x).toNat < S128.size a := fun v406 k0_hw269 => k0_hw269

def k0_chk270 (v408 : IVec S16 32) : Prop :=
  (∀ a x, ((![v408] : Fin 1 → IVec S16 32) a x).toNat < S4104.size a)
theorem k0_idx270_inb : ∀ (v408 : IVec S16 32) (k0_hw270 : k0_chk270 v408), ∀ a x, ((![v408] : Fin 1 → IVec S16 32) a x).toNat < S4104.size a := fun v408 k0_hw270 => k0_hw270

def k0_chk271 (v409 : IVec S16 32) : Prop :=
  (∀ a x, ((![v409] : Fin 1 → IVec S16 32) a x).toNat < S128.size a)
theorem k0_idx271_inb : ∀ (v409 : IVec S16 32) (k0_hw271 : k0_chk271 v409), ∀ a x, ((![v409] : Fin 1 → IVec S16 32) a x).toNat < S128.size a := fun v409 k0_hw271 => k0_hw271

def k0_chk272 (v411 : IVec S16 32) : Prop :=
  (∀ a x, ((![v411] : Fin 1 → IVec S16 32) a x).toNat < S4104.size a)
theorem k0_idx272_inb : ∀ (v411 : IVec S16 32) (k0_hw272 : k0_chk272 v411), ∀ a x, ((![v411] : Fin 1 → IVec S16 32) a x).toNat < S4104.size a := fun v411 k0_hw272 => k0_hw272

def k0_chk273 (v412 : IVec S16 32) : Prop :=
  (∀ a x, ((![v412] : Fin 1 → IVec S16 32) a x).toNat < S128.size a)
theorem k0_idx273_inb : ∀ (v412 : IVec S16 32) (k0_hw273 : k0_chk273 v412), ∀ a x, ((![v412] : Fin 1 → IVec S16 32) a x).toNat < S128.size a := fun v412 k0_hw273 => k0_hw273

def k0_chk274 (v414 : IVec S16 32) : Prop :=
  (∀ a x, ((![v414] : Fin 1 → IVec S16 32) a x).toNat < S4104.size a)
theorem k0_idx274_inb : ∀ (v414 : IVec S16 32) (k0_hw274 : k0_chk274 v414), ∀ a x, ((![v414] : Fin 1 → IVec S16 32) a x).toNat < S4104.size a := fun v414 k0_hw274 => k0_hw274

def k0_chk275 (v415 : IVec S16 32) : Prop :=
  (∀ a x, ((![v415] : Fin 1 → IVec S16 32) a x).toNat < S128.size a)
theorem k0_idx275_inb : ∀ (v415 : IVec S16 32) (k0_hw275 : k0_chk275 v415), ∀ a x, ((![v415] : Fin 1 → IVec S16 32) a x).toNat < S128.size a := fun v415 k0_hw275 => k0_hw275

def k0_chk276 (v417 : IVec S16 32) : Prop :=
  (∀ a x, ((![v417] : Fin 1 → IVec S16 32) a x).toNat < S4104.size a)
theorem k0_idx276_inb : ∀ (v417 : IVec S16 32) (k0_hw276 : k0_chk276 v417), ∀ a x, ((![v417] : Fin 1 → IVec S16 32) a x).toNat < S4104.size a := fun v417 k0_hw276 => k0_hw276

def k0_chk277 (v418 : IVec S16 32) : Prop :=
  (∀ a x, ((![v418] : Fin 1 → IVec S16 32) a x).toNat < S128.size a)
theorem k0_idx277_inb : ∀ (v418 : IVec S16 32) (k0_hw277 : k0_chk277 v418), ∀ a x, ((![v418] : Fin 1 → IVec S16 32) a x).toNat < S128.size a := fun v418 k0_hw277 => k0_hw277

def k0_chk278 (v420 : IVec S16 32) : Prop :=
  (∀ a x, ((![v420] : Fin 1 → IVec S16 32) a x).toNat < S4104.size a)
theorem k0_idx278_inb : ∀ (v420 : IVec S16 32) (k0_hw278 : k0_chk278 v420), ∀ a x, ((![v420] : Fin 1 → IVec S16 32) a x).toNat < S4104.size a := fun v420 k0_hw278 => k0_hw278

def k0_chk279 (v421 : IVec S16 32) : Prop :=
  (∀ a x, ((![v421] : Fin 1 → IVec S16 32) a x).toNat < S128.size a)
theorem k0_idx279_inb : ∀ (v421 : IVec S16 32) (k0_hw279 : k0_chk279 v421), ∀ a x, ((![v421] : Fin 1 → IVec S16 32) a x).toNat < S128.size a := fun v421 k0_hw279 => k0_hw279

def k0_chk280 (v423 : IVec S16 32) : Prop :=
  (∀ a x, ((![v423] : Fin 1 → IVec S16 32) a x).toNat < S4104.size a)
theorem k0_idx280_inb : ∀ (v423 : IVec S16 32) (k0_hw280 : k0_chk280 v423), ∀ a x, ((![v423] : Fin 1 → IVec S16 32) a x).toNat < S4104.size a := fun v423 k0_hw280 => k0_hw280

def k0_chk281 (v424 : IVec S16 32) : Prop :=
  (∀ a x, ((![v424] : Fin 1 → IVec S16 32) a x).toNat < S128.size a)
theorem k0_idx281_inb : ∀ (v424 : IVec S16 32) (k0_hw281 : k0_chk281 v424), ∀ a x, ((![v424] : Fin 1 → IVec S16 32) a x).toNat < S128.size a := fun v424 k0_hw281 => k0_hw281

def k0_chk282 (v426 : IVec S16 32) : Prop :=
  (∀ a x, ((![v426] : Fin 1 → IVec S16 32) a x).toNat < S4104.size a)
theorem k0_idx282_inb : ∀ (v426 : IVec S16 32) (k0_hw282 : k0_chk282 v426), ∀ a x, ((![v426] : Fin 1 → IVec S16 32) a x).toNat < S4104.size a := fun v426 k0_hw282 => k0_hw282

def k0_chk283 (v427 : IVec S16 32) : Prop :=
  (∀ a x, ((![v427] : Fin 1 → IVec S16 32) a x).toNat < S128.size a)
theorem k0_idx283_inb : ∀ (v427 : IVec S16 32) (k0_hw283 : k0_chk283 v427), ∀ a x, ((![v427] : Fin 1 → IVec S16 32) a x).toNat < S128.size a := fun v427 k0_hw283 => k0_hw283

def k0_chk284 (v429 : IVec S16 32) : Prop :=
  (∀ a x, ((![v429] : Fin 1 → IVec S16 32) a x).toNat < S4104.size a)
theorem k0_idx284_inb : ∀ (v429 : IVec S16 32) (k0_hw284 : k0_chk284 v429), ∀ a x, ((![v429] : Fin 1 → IVec S16 32) a x).toNat < S4104.size a := fun v429 k0_hw284 => k0_hw284

def k0_chk285 (v430 : IVec S16 32) : Prop :=
  (∀ a x, ((![v430] : Fin 1 → IVec S16 32) a x).toNat < S128.size a)
theorem k0_idx285_inb : ∀ (v430 : IVec S16 32) (k0_hw285 : k0_chk285 v430), ∀ a x, ((![v430] : Fin 1 → IVec S16 32) a x).toNat < S128.size a := fun v430 k0_hw285 => k0_hw285

def k0_chk286 (v432 : IVec S16 32) : Prop :=
  (∀ a x, ((![v432] : Fin 1 → IVec S16 32) a x).toNat < S4104.size a)
theorem k0_idx286_inb : ∀ (v432 : IVec S16 32) (k0_hw286 : k0_chk286 v432), ∀ a x, ((![v432] : Fin 1 → IVec S16 32) a x).toNat < S4104.size a := fun v432 k0_hw286 => k0_hw286

def k0_chk287 (v433 : IVec S16 32) : Prop :=
  (∀ a x, ((![v433] : Fin 1 → IVec S16 32) a x).toNat < S128.size a)
theorem k0_idx287_inb : ∀ (v433 : IVec S16 32) (k0_hw287 : k0_chk287 v433), ∀ a x, ((![v433] : Fin 1 → IVec S16 32) a x).toNat < S128.size a := fun v433 k0_hw287 => k0_hw287

def k0_chk288 (v435 : IVec S16 32) : Prop :=
  (∀ a x, ((![v435] : Fin 1 → IVec S16 32) a x).toNat < S4104.size a)
theorem k0_idx288_inb : ∀ (v435 : IVec S16 32) (k0_hw288 : k0_chk288 v435), ∀ a x, ((![v435] : Fin 1 → IVec S16 32) a x).toNat < S4104.size a := fun v435 k0_hw288 => k0_hw288

def k0_chk289 (v436 : IVec S16 32) : Prop :=
  (∀ a x, ((![v436] : Fin 1 → IVec S16 32) a x).toNat < S128.size a)
theorem k0_idx289_inb : ∀ (v436 : IVec S16 32) (k0_hw289 : k0_chk289 v436), ∀ a x, ((![v436] : Fin 1 → IVec S16 32) a x).toNat < S128.size a := fun v436 k0_hw289 => k0_hw289

def k0_chk290 (v438 : IVec S16 32) : Prop :=
  (∀ a x, ((![v438] : Fin 1 → IVec S16 32) a x).toNat < S4104.size a)
theorem k0_idx290_inb : ∀ (v438 : IVec S16 32) (k0_hw290 : k0_chk290 v438), ∀ a x, ((![v438] : Fin 1 → IVec S16 32) a x).toNat < S4104.size a := fun v438 k0_hw290 => k0_hw290

def k0_chk291 (v439 : IVec S16 32) : Prop :=
  (∀ a x, ((![v439] : Fin 1 → IVec S16 32) a x).toNat < S128.size a)
theorem k0_idx291_inb : ∀ (v439 : IVec S16 32) (k0_hw291 : k0_chk291 v439), ∀ a x, ((![v439] : Fin 1 → IVec S16 32) a x).toNat < S128.size a := fun v439 k0_hw291 => k0_hw291

def k0_chk292 (v441 : IVec S16 32) : Prop :=
  (∀ a x, ((![v441] : Fin 1 → IVec S16 32) a x).toNat < S4104.size a)
theorem k0_idx292_inb : ∀ (v441 : IVec S16 32) (k0_hw292 : k0_chk292 v441), ∀ a x, ((![v441] : Fin 1 → IVec S16 32) a x).toNat < S4104.size a := fun v441 k0_hw292 => k0_hw292

def k0_chk293 (v442 : IVec S16 32) : Prop :=
  (∀ a x, ((![v442] : Fin 1 → IVec S16 32) a x).toNat < S128.size a)
theorem k0_idx293_inb : ∀ (v442 : IVec S16 32) (k0_hw293 : k0_chk293 v442), ∀ a x, ((![v442] : Fin 1 → IVec S16 32) a x).toNat < S128.size a := fun v442 k0_hw293 => k0_hw293

def k0_chk294 (v444 : IVec S16 32) : Prop :=
  (∀ a x, ((![v444] : Fin 1 → IVec S16 32) a x).toNat < S4104.size a)
theorem k0_idx294_inb : ∀ (v444 : IVec S16 32) (k0_hw294 : k0_chk294 v444), ∀ a x, ((![v444] : Fin 1 → IVec S16 32) a x).toNat < S4104.size a := fun v444 k0_hw294 => k0_hw294

def k0_chk295 (v445 : IVec S16 32) : Prop :=
  (∀ a x, ((![v445] : Fin 1 → IVec S16 32) a x).toNat < S128.size a)
theorem k0_idx295_inb : ∀ (v445 : IVec S16 32) (k0_hw295 : k0_chk295 v445), ∀ a x, ((![v445] : Fin 1 → IVec S16 32) a x).toNat < S128.size a := fun v445 k0_hw295 => k0_hw295

def k0_chk296 (v447 : IVec S16 32) : Prop :=
  (∀ a x, ((![v447] : Fin 1 → IVec S16 32) a x).toNat < S4104.size a)
theorem k0_idx296_inb : ∀ (v447 : IVec S16 32) (k0_hw296 : k0_chk296 v447), ∀ a x, ((![v447] : Fin 1 → IVec S16 32) a x).toNat < S4104.size a := fun v447 k0_hw296 => k0_hw296

def k0_chk297 (v448 : IVec S16 32) : Prop :=
  (∀ a x, ((![v448] : Fin 1 → IVec S16 32) a x).toNat < S128.size a)
theorem k0_idx297_inb : ∀ (v448 : IVec S16 32) (k0_hw297 : k0_chk297 v448), ∀ a x, ((![v448] : Fin 1 → IVec S16 32) a x).toNat < S128.size a := fun v448 k0_hw297 => k0_hw297

def k0_chk298 (v450 : IVec S16 32) : Prop :=
  (∀ a x, ((![v450] : Fin 1 → IVec S16 32) a x).toNat < S4104.size a)
theorem k0_idx298_inb : ∀ (v450 : IVec S16 32) (k0_hw298 : k0_chk298 v450), ∀ a x, ((![v450] : Fin 1 → IVec S16 32) a x).toNat < S4104.size a := fun v450 k0_hw298 => k0_hw298

def k0_chk299 (v451 : IVec S16 32) : Prop :=
  (∀ a x, ((![v451] : Fin 1 → IVec S16 32) a x).toNat < S128.size a)
theorem k0_idx299_inb : ∀ (v451 : IVec S16 32) (k0_hw299 : k0_chk299 v451), ∀ a x, ((![v451] : Fin 1 → IVec S16 32) a x).toNat < S128.size a := fun v451 k0_hw299 => k0_hw299

def k0_chk300 (v453 : IVec S16 32) : Prop :=
  (∀ a x, ((![v453] : Fin 1 → IVec S16 32) a x).toNat < S4104.size a)
theorem k0_idx300_inb : ∀ (v453 : IVec S16 32) (k0_hw300 : k0_chk300 v453), ∀ a x, ((![v453] : Fin 1 → IVec S16 32) a x).toNat < S4104.size a := fun v453 k0_hw300 => k0_hw300

def k0_chk301 (v454 : IVec S16 32) : Prop :=
  (∀ a x, ((![v454] : Fin 1 → IVec S16 32) a x).toNat < S128.size a)
theorem k0_idx301_inb : ∀ (v454 : IVec S16 32) (k0_hw301 : k0_chk301 v454), ∀ a x, ((![v454] : Fin 1 → IVec S16 32) a x).toNat < S128.size a := fun v454 k0_hw301 => k0_hw301

def k0_chk302 (v456 : IVec S16 32) : Prop :=
  (∀ a x, ((![v456] : Fin 1 → IVec S16 32) a x).toNat < S4104.size a)
theorem k0_idx302_inb : ∀ (v456 : IVec S16 32) (k0_hw302 : k0_chk302 v456), ∀ a x, ((![v456] : Fin 1 → IVec S16 32) a x).toNat < S4104.size a := fun v456 k0_hw302 => k0_hw302

def k0_chk303 (v457 : IVec S16 32) : Prop :=
  (∀ a x, ((![v457] : Fin 1 → IVec S16 32) a x).toNat < S128.size a)
theorem k0_idx303_inb : ∀ (v457 : IVec S16 32) (k0_hw303 : k0_chk303 v457), ∀ a x, ((![v457] : Fin 1 → IVec S16 32) a x).toNat < S128.size a := fun v457 k0_hw303 => k0_hw303

def k0_chk304 (v459 : IVec S16 32) : Prop :=
  (∀ a x, ((![v459] : Fin 1 → IVec S16 32) a x).toNat < S4104.size a)
theorem k0_idx304_inb : ∀ (v459 : IVec S16 32) (k0_hw304 : k0_chk304 v459), ∀ a x, ((![v459] : Fin 1 → IVec S16 32) a x).toNat < S4104.size a := fun v459 k0_hw304 => k0_hw304

def k0_chk305 (v460 : IVec S16 32) : Prop :=
  (∀ a x, ((![v460] : Fin 1 → IVec S16 32) a x).toNat < S128.size a)
theorem k0_idx305_inb : ∀ (v460 : IVec S16 32) (k0_hw305 : k0_chk305 v460), ∀ a x, ((![v460] : Fin 1 → IVec S16 32) a x).toNat < S128.size a := fun v460 k0_hw305 => k0_hw305

def k0_chk306 (v462 : IVec S16 32) : Prop :=
  (∀ a x, ((![v462] : Fin 1 → IVec S16 32) a x).toNat < S4104.size a)
theorem k0_idx306_inb : ∀ (v462 : IVec S16 32) (k0_hw306 : k0_chk306 v462), ∀ a x, ((![v462] : Fin 1 → IVec S16 32) a x).toNat < S4104.size a := fun v462 k0_hw306 => k0_hw306

def k0_chk307 (v463 : IVec S16 32) : Prop :=
  (∀ a x, ((![v463] : Fin 1 → IVec S16 32) a x).toNat < S128.size a)
theorem k0_idx307_inb : ∀ (v463 : IVec S16 32) (k0_hw307 : k0_chk307 v463), ∀ a x, ((![v463] : Fin 1 → IVec S16 32) a x).toNat < S128.size a := fun v463 k0_hw307 => k0_hw307

def k0_chk308 (v465 : IVec S16 32) : Prop :=
  (∀ a x, ((![v465] : Fin 1 → IVec S16 32) a x).toNat < S4104.size a)
theorem k0_idx308_inb : ∀ (v465 : IVec S16 32) (k0_hw308 : k0_chk308 v465), ∀ a x, ((![v465] : Fin 1 → IVec S16 32) a x).toNat < S4104.size a := fun v465 k0_hw308 => k0_hw308

def k0_chk309 (v466 : IVec S16 32) : Prop :=
  (∀ a x, ((![v466] : Fin 1 → IVec S16 32) a x).toNat < S128.size a)
theorem k0_idx309_inb : ∀ (v466 : IVec S16 32) (k0_hw309 : k0_chk309 v466), ∀ a x, ((![v466] : Fin 1 → IVec S16 32) a x).toNat < S128.size a := fun v466 k0_hw309 => k0_hw309

def k0_chk310 (v468 : IVec S16 32) : Prop :=
  (∀ a x, ((![v468] : Fin 1 → IVec S16 32) a x).toNat < S4104.size a)
theorem k0_idx310_inb : ∀ (v468 : IVec S16 32) (k0_hw310 : k0_chk310 v468), ∀ a x, ((![v468] : Fin 1 → IVec S16 32) a x).toNat < S4104.size a := fun v468 k0_hw310 => k0_hw310

def k0_chk311 (v469 : IVec S16 32) : Prop :=
  (∀ a x, ((![v469] : Fin 1 → IVec S16 32) a x).toNat < S128.size a)
theorem k0_idx311_inb : ∀ (v469 : IVec S16 32) (k0_hw311 : k0_chk311 v469), ∀ a x, ((![v469] : Fin 1 → IVec S16 32) a x).toNat < S128.size a := fun v469 k0_hw311 => k0_hw311

def k0_chk312 (v471 : IVec S16 32) : Prop :=
  (∀ a x, ((![v471] : Fin 1 → IVec S16 32) a x).toNat < S4104.size a)
theorem k0_idx312_inb : ∀ (v471 : IVec S16 32) (k0_hw312 : k0_chk312 v471), ∀ a x, ((![v471] : Fin 1 → IVec S16 32) a x).toNat < S4104.size a := fun v471 k0_hw312 => k0_hw312

def k0_chk313 (v472 : IVec S16 32) : Prop :=
  (∀ a x, ((![v472] : Fin 1 → IVec S16 32) a x).toNat < S128.size a)
theorem k0_idx313_inb : ∀ (v472 : IVec S16 32) (k0_hw313 : k0_chk313 v472), ∀ a x, ((![v472] : Fin 1 → IVec S16 32) a x).toNat < S128.size a := fun v472 k0_hw313 => k0_hw313

def k0_chk314 (v474 : IVec S16 32) : Prop :=
  (∀ a x, ((![v474] : Fin 1 → IVec S16 32) a x).toNat < S4104.size a)
theorem k0_idx314_inb : ∀ (v474 : IVec S16 32) (k0_hw314 : k0_chk314 v474), ∀ a x, ((![v474] : Fin 1 → IVec S16 32) a x).toNat < S4104.size a := fun v474 k0_hw314 => k0_hw314

def k0_chk315 (v475 : IVec S16 32) : Prop :=
  (∀ a x, ((![v475] : Fin 1 → IVec S16 32) a x).toNat < S128.size a)
theorem k0_idx315_inb : ∀ (v475 : IVec S16 32) (k0_hw315 : k0_chk315 v475), ∀ a x, ((![v475] : Fin 1 → IVec S16 32) a x).toNat < S128.size a := fun v475 k0_hw315 => k0_hw315

def k0_chk316 (v477 : IVec S16 32) : Prop :=
  (∀ a x, ((![v477] : Fin 1 → IVec S16 32) a x).toNat < S4104.size a)
theorem k0_idx316_inb : ∀ (v477 : IVec S16 32) (k0_hw316 : k0_chk316 v477), ∀ a x, ((![v477] : Fin 1 → IVec S16 32) a x).toNat < S4104.size a := fun v477 k0_hw316 => k0_hw316

def k0_chk317 (v478 : IVec S16 32) : Prop :=
  (∀ a x, ((![v478] : Fin 1 → IVec S16 32) a x).toNat < S128.size a)
theorem k0_idx317_inb : ∀ (v478 : IVec S16 32) (k0_hw317 : k0_chk317 v478), ∀ a x, ((![v478] : Fin 1 → IVec S16 32) a x).toNat < S128.size a := fun v478 k0_hw317 => k0_hw317

def k0_chk318 (v480 : IVec S16 32) : Prop :=
  (∀ a x, ((![v480] : Fin 1 → IVec S16 32) a x).toNat < S4104.size a)
theorem k0_idx318_inb : ∀ (v480 : IVec S16 32) (k0_hw318 : k0_chk318 v480), ∀ a x, ((![v480] : Fin 1 → IVec S16 32) a x).toNat < S4104.size a := fun v480 k0_hw318 => k0_hw318

def k0_chk319 (v481 : IVec S16 32) : Prop :=
  (∀ a x, ((![v481] : Fin 1 → IVec S16 32) a x).toNat < S128.size a)
theorem k0_idx319_inb : ∀ (v481 : IVec S16 32) (k0_hw319 : k0_chk319 v481), ∀ a x, ((![v481] : Fin 1 → IVec S16 32) a x).toNat < S128.size a := fun v481 k0_hw319 => k0_hw319

def k0_chk320 (v483 : IVec S16 32) : Prop :=
  (∀ a x, ((![v483] : Fin 1 → IVec S16 32) a x).toNat < S4104.size a)
theorem k0_idx320_inb : ∀ (v483 : IVec S16 32) (k0_hw320 : k0_chk320 v483), ∀ a x, ((![v483] : Fin 1 → IVec S16 32) a x).toNat < S4104.size a := fun v483 k0_hw320 => k0_hw320

def k0_chk321 (v484 : IVec S16 32) : Prop :=
  (∀ a x, ((![v484] : Fin 1 → IVec S16 32) a x).toNat < S128.size a)
theorem k0_idx321_inb : ∀ (v484 : IVec S16 32) (k0_hw321 : k0_chk321 v484), ∀ a x, ((![v484] : Fin 1 → IVec S16 32) a x).toNat < S128.size a := fun v484 k0_hw321 => k0_hw321

def k0_chk322 (v486 : IVec S16 32) : Prop :=
  (∀ a x, ((![v486] : Fin 1 → IVec S16 32) a x).toNat < S4104.size a)
theorem k0_idx322_inb : ∀ (v486 : IVec S16 32) (k0_hw322 : k0_chk322 v486), ∀ a x, ((![v486] : Fin 1 → IVec S16 32) a x).toNat < S4104.size a := fun v486 k0_hw322 => k0_hw322

def k0_chk323 (v487 : IVec S16 32) : Prop :=
  (∀ a x, ((![v487] : Fin 1 → IVec S16 32) a x).toNat < S128.size a)
theorem k0_idx323_inb : ∀ (v487 : IVec S16 32) (k0_hw323 : k0_chk323 v487), ∀ a x, ((![v487] : Fin 1 → IVec S16 32) a x).toNat < S128.size a := fun v487 k0_hw323 => k0_hw323

def k0_chk324 (v489 : IVec S16 32) : Prop :=
  (∀ a x, ((![v489] : Fin 1 → IVec S16 32) a x).toNat < S4104.size a)
theorem k0_idx324_inb : ∀ (v489 : IVec S16 32) (k0_hw324 : k0_chk324 v489), ∀ a x, ((![v489] : Fin 1 → IVec S16 32) a x).toNat < S4104.size a := fun v489 k0_hw324 => k0_hw324

def k0_chk325 (v490 : IVec S16 32) : Prop :=
  (∀ a x, ((![v490] : Fin 1 → IVec S16 32) a x).toNat < S128.size a)
theorem k0_idx325_inb : ∀ (v490 : IVec S16 32) (k0_hw325 : k0_chk325 v490), ∀ a x, ((![v490] : Fin 1 → IVec S16 32) a x).toNat < S128.size a := fun v490 k0_hw325 => k0_hw325

def k0_chk326 (v492 : IVec S16 32) : Prop :=
  (∀ a x, ((![v492] : Fin 1 → IVec S16 32) a x).toNat < S4104.size a)
theorem k0_idx326_inb : ∀ (v492 : IVec S16 32) (k0_hw326 : k0_chk326 v492), ∀ a x, ((![v492] : Fin 1 → IVec S16 32) a x).toNat < S4104.size a := fun v492 k0_hw326 => k0_hw326

def k0_chk327 (v493 : IVec S16 32) : Prop :=
  (∀ a x, ((![v493] : Fin 1 → IVec S16 32) a x).toNat < S128.size a)
theorem k0_idx327_inb : ∀ (v493 : IVec S16 32) (k0_hw327 : k0_chk327 v493), ∀ a x, ((![v493] : Fin 1 → IVec S16 32) a x).toNat < S128.size a := fun v493 k0_hw327 => k0_hw327

def k0_chk328 (v495 : IVec S16 32) : Prop :=
  (∀ a x, ((![v495] : Fin 1 → IVec S16 32) a x).toNat < S4104.size a)
theorem k0_idx328_inb : ∀ (v495 : IVec S16 32) (k0_hw328 : k0_chk328 v495), ∀ a x, ((![v495] : Fin 1 → IVec S16 32) a x).toNat < S4104.size a := fun v495 k0_hw328 => k0_hw328

def k0_chk329 (v496 : IVec S16 32) : Prop :=
  (∀ a x, ((![v496] : Fin 1 → IVec S16 32) a x).toNat < S128.size a)
theorem k0_idx329_inb : ∀ (v496 : IVec S16 32) (k0_hw329 : k0_chk329 v496), ∀ a x, ((![v496] : Fin 1 → IVec S16 32) a x).toNat < S128.size a := fun v496 k0_hw329 => k0_hw329

def k0_chk330 (v498 : IVec S16 32) : Prop :=
  (∀ a x, ((![v498] : Fin 1 → IVec S16 32) a x).toNat < S4104.size a)
theorem k0_idx330_inb : ∀ (v498 : IVec S16 32) (k0_hw330 : k0_chk330 v498), ∀ a x, ((![v498] : Fin 1 → IVec S16 32) a x).toNat < S4104.size a := fun v498 k0_hw330 => k0_hw330

def k0_chk331 (v499 : IVec S16 32) : Prop :=
  (∀ a x, ((![v499] : Fin 1 → IVec S16 32) a x).toNat < S128.size a)
theorem k0_idx331_inb : ∀ (v499 : IVec S16 32) (k0_hw331 : k0_chk331 v499), ∀ a x, ((![v499] : Fin 1 → IVec S16 32) a x).toNat < S128.size a := fun v499 k0_hw331 => k0_hw331

def k0_chk332 (v501 : IVec S16 32) : Prop :=
  (∀ a x, ((![v501] : Fin 1 → IVec S16 32) a x).toNat < S4104.size a)
theorem k0_idx332_inb : ∀ (v501 : IVec S16 32) (k0_hw332 : k0_chk332 v501), ∀ a x, ((![v501] : Fin 1 → IVec S16 32) a x).toNat < S4104.size a := fun v501 k0_hw332 => k0_hw332

def k0_chk333 (v502 : IVec S16 32) : Prop :=
  (∀ a x, ((![v502] : Fin 1 → IVec S16 32) a x).toNat < S128.size a)
theorem k0_idx333_inb : ∀ (v502 : IVec S16 32) (k0_hw333 : k0_chk333 v502), ∀ a x, ((![v502] : Fin 1 → IVec S16 32) a x).toNat < S128.size a := fun v502 k0_hw333 => k0_hw333

def k0_chk334 (v504 : IVec S16 32) : Prop :=
  (∀ a x, ((![v504] : Fin 1 → IVec S16 32) a x).toNat < S4104.size a)
theorem k0_idx334_inb : ∀ (v504 : IVec S16 32) (k0_hw334 : k0_chk334 v504), ∀ a x, ((![v504] : Fin 1 → IVec S16 32) a x).toNat < S4104.size a := fun v504 k0_hw334 => k0_hw334

def k0_chk335 (v505 : IVec S16 32) : Prop :=
  (∀ a x, ((![v505] : Fin 1 → IVec S16 32) a x).toNat < S128.size a)
theorem k0_idx335_inb : ∀ (v505 : IVec S16 32) (k0_hw335 : k0_chk335 v505), ∀ a x, ((![v505] : Fin 1 → IVec S16 32) a x).toNat < S128.size a := fun v505 k0_hw335 => k0_hw335

def k0_chk336 (v507 : IVec S16 32) : Prop :=
  (∀ a x, ((![v507] : Fin 1 → IVec S16 32) a x).toNat < S4104.size a)
theorem k0_idx336_inb : ∀ (v507 : IVec S16 32) (k0_hw336 : k0_chk336 v507), ∀ a x, ((![v507] : Fin 1 → IVec S16 32) a x).toNat < S4104.size a := fun v507 k0_hw336 => k0_hw336

def k0_chk337 (v508 : IVec S16 32) : Prop :=
  (∀ a x, ((![v508] : Fin 1 → IVec S16 32) a x).toNat < S128.size a)
theorem k0_idx337_inb : ∀ (v508 : IVec S16 32) (k0_hw337 : k0_chk337 v508), ∀ a x, ((![v508] : Fin 1 → IVec S16 32) a x).toNat < S128.size a := fun v508 k0_hw337 => k0_hw337

def k0_chk338 (v510 : IVec S16 32) : Prop :=
  (∀ a x, ((![v510] : Fin 1 → IVec S16 32) a x).toNat < S4104.size a)
theorem k0_idx338_inb : ∀ (v510 : IVec S16 32) (k0_hw338 : k0_chk338 v510), ∀ a x, ((![v510] : Fin 1 → IVec S16 32) a x).toNat < S4104.size a := fun v510 k0_hw338 => k0_hw338

def k0_chk339 (v511 : IVec S16 32) : Prop :=
  (∀ a x, ((![v511] : Fin 1 → IVec S16 32) a x).toNat < S128.size a)
theorem k0_idx339_inb : ∀ (v511 : IVec S16 32) (k0_hw339 : k0_chk339 v511), ∀ a x, ((![v511] : Fin 1 → IVec S16 32) a x).toNat < S128.size a := fun v511 k0_hw339 => k0_hw339

def k0_chk340 (v513 : IVec S16 32) : Prop :=
  (∀ a x, ((![v513] : Fin 1 → IVec S16 32) a x).toNat < S4104.size a)
theorem k0_idx340_inb : ∀ (v513 : IVec S16 32) (k0_hw340 : k0_chk340 v513), ∀ a x, ((![v513] : Fin 1 → IVec S16 32) a x).toNat < S4104.size a := fun v513 k0_hw340 => k0_hw340

def k0_chk341 (v514 : IVec S16 32) : Prop :=
  (∀ a x, ((![v514] : Fin 1 → IVec S16 32) a x).toNat < S128.size a)
theorem k0_idx341_inb : ∀ (v514 : IVec S16 32) (k0_hw341 : k0_chk341 v514), ∀ a x, ((![v514] : Fin 1 → IVec S16 32) a x).toNat < S128.size a := fun v514 k0_hw341 => k0_hw341

def k0_chk342 (v516 : IVec S16 32) : Prop :=
  (∀ a x, ((![v516] : Fin 1 → IVec S16 32) a x).toNat < S4104.size a)
theorem k0_idx342_inb : ∀ (v516 : IVec S16 32) (k0_hw342 : k0_chk342 v516), ∀ a x, ((![v516] : Fin 1 → IVec S16 32) a x).toNat < S4104.size a := fun v516 k0_hw342 => k0_hw342

def k0_chk343 (v517 : IVec S16 32) : Prop :=
  (∀ a x, ((![v517] : Fin 1 → IVec S16 32) a x).toNat < S128.size a)
theorem k0_idx343_inb : ∀ (v517 : IVec S16 32) (k0_hw343 : k0_chk343 v517), ∀ a x, ((![v517] : Fin 1 → IVec S16 32) a x).toNat < S128.size a := fun v517 k0_hw343 => k0_hw343

def k0_chk344 (v519 : IVec S16 32) : Prop :=
  (∀ a x, ((![v519] : Fin 1 → IVec S16 32) a x).toNat < S4104.size a)
theorem k0_idx344_inb : ∀ (v519 : IVec S16 32) (k0_hw344 : k0_chk344 v519), ∀ a x, ((![v519] : Fin 1 → IVec S16 32) a x).toNat < S4104.size a := fun v519 k0_hw344 => k0_hw344

def k0_chk345 (v520 : IVec S16 32) : Prop :=
  (∀ a x, ((![v520] : Fin 1 → IVec S16 32) a x).toNat < S128.size a)
theorem k0_idx345_inb : ∀ (v520 : IVec S16 32) (k0_hw345 : k0_chk345 v520), ∀ a x, ((![v520] : Fin 1 → IVec S16 32) a x).toNat < S128.size a := fun v520 k0_hw345 => k0_hw345

def k0_chk346 (v522 : IVec S16 32) : Prop :=
  (∀ a x, ((![v522] : Fin 1 → IVec S16 32) a x).toNat < S4104.size a)
theorem k0_idx346_inb : ∀ (v522 : IVec S16 32) (k0_hw346 : k0_chk346 v522), ∀ a x, ((![v522] : Fin 1 → IVec S16 32) a x).toNat < S4104.size a := fun v522 k0_hw346 => k0_hw346

def k0_chk347 (v523 : IVec S16 32) : Prop :=
  (∀ a x, ((![v523] : Fin 1 → IVec S16 32) a x).toNat < S128.size a)
theorem k0_idx347_inb : ∀ (v523 : IVec S16 32) (k0_hw347 : k0_chk347 v523), ∀ a x, ((![v523] : Fin 1 → IVec S16 32) a x).toNat < S128.size a := fun v523 k0_hw347 => k0_hw347

def k0_chk348 (v525 : IVec S16 32) : Prop :=
  (∀ a x, ((![v525] : Fin 1 → IVec S16 32) a x).toNat < S4104.size a)
theorem k0_idx348_inb : ∀ (v525 : IVec S16 32) (k0_hw348 : k0_chk348 v525), ∀ a x, ((![v525] : Fin 1 → IVec S16 32) a x).toNat < S4104.size a := fun v525 k0_hw348 => k0_hw348

def k0_chk349 (v526 : IVec S16 32) : Prop :=
  (∀ a x, ((![v526] : Fin 1 → IVec S16 32) a x).toNat < S128.size a)
theorem k0_idx349_inb : ∀ (v526 : IVec S16 32) (k0_hw349 : k0_chk349 v526), ∀ a x, ((![v526] : Fin 1 → IVec S16 32) a x).toNat < S128.size a := fun v526 k0_hw349 => k0_hw349

def k0_chk350 (v528 : IVec S16 32) : Prop :=
  (∀ a x, ((![v528] : Fin 1 → IVec S16 32) a x).toNat < S4104.size a)
theorem k0_idx350_inb : ∀ (v528 : IVec S16 32) (k0_hw350 : k0_chk350 v528), ∀ a x, ((![v528] : Fin 1 → IVec S16 32) a x).toNat < S4104.size a := fun v528 k0_hw350 => k0_hw350

def k0_chk351 (v529 : IVec S16 32) : Prop :=
  (∀ a x, ((![v529] : Fin 1 → IVec S16 32) a x).toNat < S128.size a)
theorem k0_idx351_inb : ∀ (v529 : IVec S16 32) (k0_hw351 : k0_chk351 v529), ∀ a x, ((![v529] : Fin 1 → IVec S16 32) a x).toNat < S128.size a := fun v529 k0_hw351 => k0_hw351

def k0_chk352 (v531 : IVec S16 32) : Prop :=
  (∀ a x, ((![v531] : Fin 1 → IVec S16 32) a x).toNat < S4104.size a)
theorem k0_idx352_inb : ∀ (v531 : IVec S16 32) (k0_hw352 : k0_chk352 v531), ∀ a x, ((![v531] : Fin 1 → IVec S16 32) a x).toNat < S4104.size a := fun v531 k0_hw352 => k0_hw352

def k0_chk353 (v532 : IVec S16 32) : Prop :=
  (∀ a x, ((![v532] : Fin 1 → IVec S16 32) a x).toNat < S128.size a)
theorem k0_idx353_inb : ∀ (v532 : IVec S16 32) (k0_hw353 : k0_chk353 v532), ∀ a x, ((![v532] : Fin 1 → IVec S16 32) a x).toNat < S128.size a := fun v532 k0_hw353 => k0_hw353

def k0_chk354 (v534 : IVec S16 32) : Prop :=
  (∀ a x, ((![v534] : Fin 1 → IVec S16 32) a x).toNat < S4104.size a)
theorem k0_idx354_inb : ∀ (v534 : IVec S16 32) (k0_hw354 : k0_chk354 v534), ∀ a x, ((![v534] : Fin 1 → IVec S16 32) a x).toNat < S4104.size a := fun v534 k0_hw354 => k0_hw354

def k0_chk355 (v535 : IVec S16 32) : Prop :=
  (∀ a x, ((![v535] : Fin 1 → IVec S16 32) a x).toNat < S128.size a)
theorem k0_idx355_inb : ∀ (v535 : IVec S16 32) (k0_hw355 : k0_chk355 v535), ∀ a x, ((![v535] : Fin 1 → IVec S16 32) a x).toNat < S128.size a := fun v535 k0_hw355 => k0_hw355

def k0_chk356 (v537 : IVec S16 32) : Prop :=
  (∀ a x, ((![v537] : Fin 1 → IVec S16 32) a x).toNat < S4104.size a)
theorem k0_idx356_inb : ∀ (v537 : IVec S16 32) (k0_hw356 : k0_chk356 v537), ∀ a x, ((![v537] : Fin 1 → IVec S16 32) a x).toNat < S4104.size a := fun v537 k0_hw356 => k0_hw356

def k0_chk357 (v538 : IVec S16 32) : Prop :=
  (∀ a x, ((![v538] : Fin 1 → IVec S16 32) a x).toNat < S128.size a)
theorem k0_idx357_inb : ∀ (v538 : IVec S16 32) (k0_hw357 : k0_chk357 v538), ∀ a x, ((![v538] : Fin 1 → IVec S16 32) a x).toNat < S128.size a := fun v538 k0_hw357 => k0_hw357

def k0_chk358 (v540 : IVec S16 32) : Prop :=
  (∀ a x, ((![v540] : Fin 1 → IVec S16 32) a x).toNat < S4104.size a)
theorem k0_idx358_inb : ∀ (v540 : IVec S16 32) (k0_hw358 : k0_chk358 v540), ∀ a x, ((![v540] : Fin 1 → IVec S16 32) a x).toNat < S4104.size a := fun v540 k0_hw358 => k0_hw358

def k0_chk359 (v541 : IVec S16 32) : Prop :=
  (∀ a x, ((![v541] : Fin 1 → IVec S16 32) a x).toNat < S128.size a)
theorem k0_idx359_inb : ∀ (v541 : IVec S16 32) (k0_hw359 : k0_chk359 v541), ∀ a x, ((![v541] : Fin 1 → IVec S16 32) a x).toNat < S128.size a := fun v541 k0_hw359 => k0_hw359

def k0_chk360 (v543 : IVec S16 32) : Prop :=
  (∀ a x, ((![v543] : Fin 1 → IVec S16 32) a x).toNat < S4104.size a)
theorem k0_idx360_inb : ∀ (v543 : IVec S16 32) (k0_hw360 : k0_chk360 v543), ∀ a x, ((![v543] : Fin 1 → IVec S16 32) a x).toNat < S4104.size a := fun v543 k0_hw360 => k0_hw360

def k0_chk361 (v544 : IVec S16 32) : Prop :=
  (∀ a x, ((![v544] : Fin 1 → IVec S16 32) a x).toNat < S128.size a)
theorem k0_idx361_inb : ∀ (v544 : IVec S16 32) (k0_hw361 : k0_chk361 v544), ∀ a x, ((![v544] : Fin 1 → IVec S16 32) a x).toNat < S128.size a := fun v544 k0_hw361 => k0_hw361

def k0_chk362 (v546 : IVec S16 32) : Prop :=
  (∀ a x, ((![v546] : Fin 1 → IVec S16 32) a x).toNat < S4104.size a)
theorem k0_idx362_inb : ∀ (v546 : IVec S16 32) (k0_hw362 : k0_chk362 v546), ∀ a x, ((![v546] : Fin 1 → IVec S16 32) a x).toNat < S4104.size a := fun v546 k0_hw362 => k0_hw362

def k0_chk363 (v547 : IVec S16 32) : Prop :=
  (∀ a x, ((![v547] : Fin 1 → IVec S16 32) a x).toNat < S128.size a)
theorem k0_idx363_inb : ∀ (v547 : IVec S16 32) (k0_hw363 : k0_chk363 v547), ∀ a x, ((![v547] : Fin 1 → IVec S16 32) a x).toNat < S128.size a := fun v547 k0_hw363 => k0_hw363

def k0_chk364 (v549 : IVec S16 32) : Prop :=
  (∀ a x, ((![v549] : Fin 1 → IVec S16 32) a x).toNat < S4104.size a)
theorem k0_idx364_inb : ∀ (v549 : IVec S16 32) (k0_hw364 : k0_chk364 v549), ∀ a x, ((![v549] : Fin 1 → IVec S16 32) a x).toNat < S4104.size a := fun v549 k0_hw364 => k0_hw364

def k0_chk365 (v550 : IVec S16 32) : Prop :=
  (∀ a x, ((![v550] : Fin 1 → IVec S16 32) a x).toNat < S128.size a)
theorem k0_idx365_inb : ∀ (v550 : IVec S16 32) (k0_hw365 : k0_chk365 v550), ∀ a x, ((![v550] : Fin 1 → IVec S16 32) a x).toNat < S128.size a := fun v550 k0_hw365 => k0_hw365

def k0_chk366 (v552 : IVec S16 32) : Prop :=
  (∀ a x, ((![v552] : Fin 1 → IVec S16 32) a x).toNat < S4104.size a)
theorem k0_idx366_inb : ∀ (v552 : IVec S16 32) (k0_hw366 : k0_chk366 v552), ∀ a x, ((![v552] : Fin 1 → IVec S16 32) a x).toNat < S4104.size a := fun v552 k0_hw366 => k0_hw366

def k0_chk367 (v553 : IVec S16 32) : Prop :=
  (∀ a x, ((![v553] : Fin 1 → IVec S16 32) a x).toNat < S128.size a)
theorem k0_idx367_inb : ∀ (v553 : IVec S16 32) (k0_hw367 : k0_chk367 v553), ∀ a x, ((![v553] : Fin 1 → IVec S16 32) a x).toNat < S128.size a := fun v553 k0_hw367 => k0_hw367

def k0_chk368 (v555 : IVec S16 32) : Prop :=
  (∀ a x, ((![v555] : Fin 1 → IVec S16 32) a x).toNat < S4104.size a)
theorem k0_idx368_inb : ∀ (v555 : IVec S16 32) (k0_hw368 : k0_chk368 v555), ∀ a x, ((![v555] : Fin 1 → IVec S16 32) a x).toNat < S4104.size a := fun v555 k0_hw368 => k0_hw368

def k0_chk369 (v556 : IVec S16 32) : Prop :=
  (∀ a x, ((![v556] : Fin 1 → IVec S16 32) a x).toNat < S128.size a)
theorem k0_idx369_inb : ∀ (v556 : IVec S16 32) (k0_hw369 : k0_chk369 v556), ∀ a x, ((![v556] : Fin 1 → IVec S16 32) a x).toNat < S128.size a := fun v556 k0_hw369 => k0_hw369

def k0_chk370 (v558 : IVec S16 32) : Prop :=
  (∀ a x, ((![v558] : Fin 1 → IVec S16 32) a x).toNat < S4104.size a)
theorem k0_idx370_inb : ∀ (v558 : IVec S16 32) (k0_hw370 : k0_chk370 v558), ∀ a x, ((![v558] : Fin 1 → IVec S16 32) a x).toNat < S4104.size a := fun v558 k0_hw370 => k0_hw370

def k0_chk371 (v559 : IVec S16 32) : Prop :=
  (∀ a x, ((![v559] : Fin 1 → IVec S16 32) a x).toNat < S128.size a)
theorem k0_idx371_inb : ∀ (v559 : IVec S16 32) (k0_hw371 : k0_chk371 v559), ∀ a x, ((![v559] : Fin 1 → IVec S16 32) a x).toNat < S128.size a := fun v559 k0_hw371 => k0_hw371

def k0_chk372 (v561 : IVec S16 32) : Prop :=
  (∀ a x, ((![v561] : Fin 1 → IVec S16 32) a x).toNat < S4104.size a)
theorem k0_idx372_inb : ∀ (v561 : IVec S16 32) (k0_hw372 : k0_chk372 v561), ∀ a x, ((![v561] : Fin 1 → IVec S16 32) a x).toNat < S4104.size a := fun v561 k0_hw372 => k0_hw372

def k0_chk373 (v562 : IVec S16 32) : Prop :=
  (∀ a x, ((![v562] : Fin 1 → IVec S16 32) a x).toNat < S128.size a)
theorem k0_idx373_inb : ∀ (v562 : IVec S16 32) (k0_hw373 : k0_chk373 v562), ∀ a x, ((![v562] : Fin 1 → IVec S16 32) a x).toNat < S128.size a := fun v562 k0_hw373 => k0_hw373

def k0_chk374 (v564 : IVec S16 32) : Prop :=
  (∀ a x, ((![v564] : Fin 1 → IVec S16 32) a x).toNat < S4104.size a)
theorem k0_idx374_inb : ∀ (v564 : IVec S16 32) (k0_hw374 : k0_chk374 v564), ∀ a x, ((![v564] : Fin 1 → IVec S16 32) a x).toNat < S4104.size a := fun v564 k0_hw374 => k0_hw374

def k0_chk375 (v565 : IVec S16 32) : Prop :=
  (∀ a x, ((![v565] : Fin 1 → IVec S16 32) a x).toNat < S128.size a)
theorem k0_idx375_inb : ∀ (v565 : IVec S16 32) (k0_hw375 : k0_chk375 v565), ∀ a x, ((![v565] : Fin 1 → IVec S16 32) a x).toNat < S128.size a := fun v565 k0_hw375 => k0_hw375

def k0_chk376 (v567 : IVec S16 32) : Prop :=
  (∀ a x, ((![v567] : Fin 1 → IVec S16 32) a x).toNat < S4104.size a)
theorem k0_idx376_inb : ∀ (v567 : IVec S16 32) (k0_hw376 : k0_chk376 v567), ∀ a x, ((![v567] : Fin 1 → IVec S16 32) a x).toNat < S4104.size a := fun v567 k0_hw376 => k0_hw376

def k0_chk377 (v568 : IVec S16 32) : Prop :=
  (∀ a x, ((![v568] : Fin 1 → IVec S16 32) a x).toNat < S128.size a)
theorem k0_idx377_inb : ∀ (v568 : IVec S16 32) (k0_hw377 : k0_chk377 v568), ∀ a x, ((![v568] : Fin 1 → IVec S16 32) a x).toNat < S128.size a := fun v568 k0_hw377 => k0_hw377

def k0_chk378 (v570 : IVec S16 32) : Prop :=
  (∀ a x, ((![v570] : Fin 1 → IVec S16 32) a x).toNat < S4104.size a)
theorem k0_idx378_inb : ∀ (v570 : IVec S16 32) (k0_hw378 : k0_chk378 v570), ∀ a x, ((![v570] : Fin 1 → IVec S16 32) a x).toNat < S4104.size a := fun v570 k0_hw378 => k0_hw378

def k0_chk379 (v571 : IVec S16 32) : Prop :=
  (∀ a x, ((![v571] : Fin 1 → IVec S16 32) a x).toNat < S128.size a)
theorem k0_idx379_inb : ∀ (v571 : IVec S16 32) (k0_hw379 : k0_chk379 v571), ∀ a x, ((![v571] : Fin 1 → IVec S16 32) a x).toNat < S128.size a := fun v571 k0_hw379 => k0_hw379

def k0_chk380 (v573 : IVec S16 32) : Prop :=
  (∀ a x, ((![v573] : Fin 1 → IVec S16 32) a x).toNat < S4104.size a)
theorem k0_idx380_inb : ∀ (v573 : IVec S16 32) (k0_hw380 : k0_chk380 v573), ∀ a x, ((![v573] : Fin 1 → IVec S16 32) a x).toNat < S4104.size a := fun v573 k0_hw380 => k0_hw380

def k0_chk381 (v574 : IVec S16 32) : Prop :=
  (∀ a x, ((![v574] : Fin 1 → IVec S16 32) a x).toNat < S128.size a)
theorem k0_idx381_inb : ∀ (v574 : IVec S16 32) (k0_hw381 : k0_chk381 v574), ∀ a x, ((![v574] : Fin 1 → IVec S16 32) a x).toNat < S128.size a := fun v574 k0_hw381 => k0_hw381

def k0_chk382 (v576 : IVec S16 32) : Prop :=
  (∀ a x, ((![v576] : Fin 1 → IVec S16 32) a x).toNat < S4104.size a)
theorem k0_idx382_inb : ∀ (v576 : IVec S16 32) (k0_hw382 : k0_chk382 v576), ∀ a x, ((![v576] : Fin 1 → IVec S16 32) a x).toNat < S4104.size a := fun v576 k0_hw382 => k0_hw382

def k0_chk383 (v577 : IVec S16 32) : Prop :=
  (∀ a x, ((![v577] : Fin 1 → IVec S16 32) a x).toNat < S128.size a)
theorem k0_idx383_inb : ∀ (v577 : IVec S16 32) (k0_hw383 : k0_chk383 v577), ∀ a x, ((![v577] : Fin 1 → IVec S16 32) a x).toNat < S128.size a := fun v577 k0_hw383 => k0_hw383

def k0_chk384 (v579 : IVec S16 32) : Prop :=
  (∀ a x, ((![v579] : Fin 1 → IVec S16 32) a x).toNat < S4104.size a)
theorem k0_idx384_inb : ∀ (v579 : IVec S16 32) (k0_hw384 : k0_chk384 v579), ∀ a x, ((![v579] : Fin 1 → IVec S16 32) a x).toNat < S4104.size a := fun v579 k0_hw384 => k0_hw384

def k0_chk385 (v580 : IVec S16 32) : Prop :=
  (∀ a x, ((![v580] : Fin 1 → IVec S16 32) a x).toNat < S128.size a)
theorem k0_idx385_inb : ∀ (v580 : IVec S16 32) (k0_hw385 : k0_chk385 v580), ∀ a x, ((![v580] : Fin 1 → IVec S16 32) a x).toNat < S128.size a := fun v580 k0_hw385 => k0_hw385

def k0_chk386 (v582 : IVec S16 32) : Prop :=
  (∀ a x, ((![v582] : Fin 1 → IVec S16 32) a x).toNat < S4104.size a)
theorem k0_idx386_inb : ∀ (v582 : IVec S16 32) (k0_hw386 : k0_chk386 v582), ∀ a x, ((![v582] : Fin 1 → IVec S16 32) a x).toNat < S4104.size a := fun v582 k0_hw386 => k0_hw386

def k0_chk387 (v583 : IVec S16 32) : Prop :=
  (∀ a x, ((![v583] : Fin 1 → IVec S16 32) a x).toNat < S128.size a)
theorem k0_idx387_inb : ∀ (v583 : IVec S16 32) (k0_hw387 : k0_chk387 v583), ∀ a x, ((![v583] : Fin 1 → IVec S16 32) a x).toNat < S128.size a := fun v583 k0_hw387 => k0_hw387

def k0_chk388 (v585 : IVec S16 32) : Prop :=
  (∀ a x, ((![v585] : Fin 1 → IVec S16 32) a x).toNat < S4104.size a)
theorem k0_idx388_inb : ∀ (v585 : IVec S16 32) (k0_hw388 : k0_chk388 v585), ∀ a x, ((![v585] : Fin 1 → IVec S16 32) a x).toNat < S4104.size a := fun v585 k0_hw388 => k0_hw388

def k0_chk389 (v586 : IVec S16 32) : Prop :=
  (∀ a x, ((![v586] : Fin 1 → IVec S16 32) a x).toNat < S128.size a)
theorem k0_idx389_inb : ∀ (v586 : IVec S16 32) (k0_hw389 : k0_chk389 v586), ∀ a x, ((![v586] : Fin 1 → IVec S16 32) a x).toNat < S128.size a := fun v586 k0_hw389 => k0_hw389

def k0_chk390 (v588 : IVec S16 32) : Prop :=
  (∀ a x, ((![v588] : Fin 1 → IVec S16 32) a x).toNat < S4104.size a)
theorem k0_idx390_inb : ∀ (v588 : IVec S16 32) (k0_hw390 : k0_chk390 v588), ∀ a x, ((![v588] : Fin 1 → IVec S16 32) a x).toNat < S4104.size a := fun v588 k0_hw390 => k0_hw390

def k0_chk391 (v589 : IVec S16 32) : Prop :=
  (∀ a x, ((![v589] : Fin 1 → IVec S16 32) a x).toNat < S128.size a)
theorem k0_idx391_inb : ∀ (v589 : IVec S16 32) (k0_hw391 : k0_chk391 v589), ∀ a x, ((![v589] : Fin 1 → IVec S16 32) a x).toNat < S128.size a := fun v589 k0_hw391 => k0_hw391

def k0_chk392 (v591 : IVec S16 32) : Prop :=
  (∀ a x, ((![v591] : Fin 1 → IVec S16 32) a x).toNat < S4104.size a)
theorem k0_idx392_inb : ∀ (v591 : IVec S16 32) (k0_hw392 : k0_chk392 v591), ∀ a x, ((![v591] : Fin 1 → IVec S16 32) a x).toNat < S4104.size a := fun v591 k0_hw392 => k0_hw392

def k0_chk393 (v592 : IVec S16 32) : Prop :=
  (∀ a x, ((![v592] : Fin 1 → IVec S16 32) a x).toNat < S128.size a)
theorem k0_idx393_inb : ∀ (v592 : IVec S16 32) (k0_hw393 : k0_chk393 v592), ∀ a x, ((![v592] : Fin 1 → IVec S16 32) a x).toNat < S128.size a := fun v592 k0_hw393 => k0_hw393

def k0_chk394 (v594 : IVec S16 32) : Prop :=
  (∀ a x, ((![v594] : Fin 1 → IVec S16 32) a x).toNat < S4104.size a)
theorem k0_idx394_inb : ∀ (v594 : IVec S16 32) (k0_hw394 : k0_chk394 v594), ∀ a x, ((![v594] : Fin 1 → IVec S16 32) a x).toNat < S4104.size a := fun v594 k0_hw394 => k0_hw394

def k0_chk395 (v595 : IVec S16 32) : Prop :=
  (∀ a x, ((![v595] : Fin 1 → IVec S16 32) a x).toNat < S128.size a)
theorem k0_idx395_inb : ∀ (v595 : IVec S16 32) (k0_hw395 : k0_chk395 v595), ∀ a x, ((![v595] : Fin 1 → IVec S16 32) a x).toNat < S128.size a := fun v595 k0_hw395 => k0_hw395

def k0_chk396 (v597 : IVec S16 32) : Prop :=
  (∀ a x, ((![v597] : Fin 1 → IVec S16 32) a x).toNat < S4104.size a)
theorem k0_idx396_inb : ∀ (v597 : IVec S16 32) (k0_hw396 : k0_chk396 v597), ∀ a x, ((![v597] : Fin 1 → IVec S16 32) a x).toNat < S4104.size a := fun v597 k0_hw396 => k0_hw396

def k0_chk397 (v598 : IVec S16 32) : Prop :=
  (∀ a x, ((![v598] : Fin 1 → IVec S16 32) a x).toNat < S128.size a)
theorem k0_idx397_inb : ∀ (v598 : IVec S16 32) (k0_hw397 : k0_chk397 v598), ∀ a x, ((![v598] : Fin 1 → IVec S16 32) a x).toNat < S128.size a := fun v598 k0_hw397 => k0_hw397

def k0_chk398 (v600 : IVec S16 32) : Prop :=
  (∀ a x, ((![v600] : Fin 1 → IVec S16 32) a x).toNat < S4104.size a)
theorem k0_idx398_inb : ∀ (v600 : IVec S16 32) (k0_hw398 : k0_chk398 v600), ∀ a x, ((![v600] : Fin 1 → IVec S16 32) a x).toNat < S4104.size a := fun v600 k0_hw398 => k0_hw398

def k0_chk399 (v601 : IVec S16 32) : Prop :=
  (∀ a x, ((![v601] : Fin 1 → IVec S16 32) a x).toNat < S128.size a)
theorem k0_idx399_inb : ∀ (v601 : IVec S16 32) (k0_hw399 : k0_chk399 v601), ∀ a x, ((![v601] : Fin 1 → IVec S16 32) a x).toNat < S128.size a := fun v601 k0_hw399 => k0_hw399

def k0_chk400 (v603 : IVec S16 32) : Prop :=
  (∀ a x, ((![v603] : Fin 1 → IVec S16 32) a x).toNat < S4104.size a)
theorem k0_idx400_inb : ∀ (v603 : IVec S16 32) (k0_hw400 : k0_chk400 v603), ∀ a x, ((![v603] : Fin 1 → IVec S16 32) a x).toNat < S4104.size a := fun v603 k0_hw400 => k0_hw400
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r4 : BitVec 32 := 0#32
  ![v1.toNat, 0]
abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k1_off2 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![1, v2.toNat]
def k1_off3 (i : grid1.Coords) : Fin 2 → Nat :=
  let c2_i32_2 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![2, v2.toNat]
def k1_off4 (i : grid1.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![3, v2.toNat]
def k1_off5 (i : grid1.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![4, v2.toNat]
def k1_off6 (i : grid1.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![5, v2.toNat]
def k1_off7 (i : grid1.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![6, v2.toNat]
def k1_off8 (i : grid1.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![7, v2.toNat]
def k1_off9 (i : grid1.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![8, v2.toNat]
def k1_off10 (i : grid1.Coords) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![9, v2.toNat]
def k1_off11 (i : grid1.Coords) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![10, v2.toNat]
def k1_off12 (i : grid1.Coords) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![11, v2.toNat]
def k1_off13 (i : grid1.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![12, v2.toNat]
def k1_off14 (i : grid1.Coords) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![13, v2.toNat]
def k1_off15 (i : grid1.Coords) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![14, v2.toNat]
def k1_off16 (i : grid1.Coords) : Fin 2 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![15, v2.toNat]
def k1_off17 (i : grid1.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![16, v2.toNat]
def k1_off18 (i : grid1.Coords) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![17, v2.toNat]
def k1_off19 (i : grid1.Coords) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![18, v2.toNat]
def k1_off20 (i : grid1.Coords) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![19, v2.toNat]
def k1_off21 (i : grid1.Coords) : Fin 2 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![20, v2.toNat]
def k1_off22 (i : grid1.Coords) : Fin 2 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![21, v2.toNat]
def k1_off23 (i : grid1.Coords) : Fin 2 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![22, v2.toNat]
def k1_off24 (i : grid1.Coords) : Fin 2 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![23, v2.toNat]
def k1_off25 (i : grid1.Coords) : Fin 2 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![24, v2.toNat]
def k1_off26 (i : grid1.Coords) : Fin 2 → Nat :=
  let c25_i32 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![25, v2.toNat]
def k1_off27 (i : grid1.Coords) : Fin 2 → Nat :=
  let c26_i32 : BitVec 32 := 26#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![26, v2.toNat]
def k1_off28 (i : grid1.Coords) : Fin 2 → Nat :=
  let c27_i32 : BitVec 32 := 27#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![27, v2.toNat]
def k1_off29 (i : grid1.Coords) : Fin 2 → Nat :=
  let c28_i32 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![28, v2.toNat]
def k1_off30 (i : grid1.Coords) : Fin 2 → Nat :=
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![29, v2.toNat]
def k1_off31 (i : grid1.Coords) : Fin 2 → Nat :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![30, v2.toNat]
def k1_off32 (i : grid1.Coords) : Fin 2 → Nat :=
  let c31_i32 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![31, v2.toNat]
def k1_off33 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096 : Shape := ⟨1, ![4096]⟩
abbrev S100000 : Shape := ⟨1, ![100000]⟩
abbrev S1 : Shape := ⟨1, ![1]⟩
abbrev S119 : Shape := ⟨1, ![119]⟩
abbrev S_ : Shape := ⟨0, ![]⟩
abbrev S100000x1 : Shape := ⟨2, ![100000, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .i32⟩
  | .hbm, ⟨2, _⟩ => ⟨S100000, .i32⟩
  | .hbm, ⟨3, _⟩ => ⟨S100000, .i32⟩
  | .hbm, ⟨4, _⟩ => ⟨S1, .f32⟩
  | .hbm, ⟨5, _⟩ => ⟨S1, .f32⟩
  | .hbm, ⟨6, _⟩ => ⟨S119, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S1, .i32⟩
  | .hbm, ⟨21, _⟩ => ⟨S_, .i32⟩
  | .hbm, ⟨22, _⟩ => ⟨S100000x1, .i32⟩
  | .hbm, ⟨23, _⟩ => ⟨S100000x1, .i1⟩
  | .hbm, ⟨24, _⟩ => ⟨S1x1, .i32⟩
  | .hbm, ⟨25, _⟩ => ⟨S100000x1, .i32⟩
  | .hbm, ⟨26, _⟩ => ⟨S100000x1, .i1⟩
  | .hbm, ⟨27, _⟩ => ⟨S100000x1, .i1⟩
  | .hbm, ⟨28, _⟩ => ⟨S_, .i1⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S4096, .f32⟩
  | .hbm, ⟨36, _⟩ => ⟨S100000x1, .i32⟩
  | .hbm, ⟨37, _⟩ => ⟨S4096, .f32⟩
  | .hbm, ⟨38, _⟩ => ⟨S4096, .f32⟩
  | .hbm, ⟨39, _⟩ => ⟨S4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩

abbrev nD : Nat := 1
abbrev τ : Topo := Topo.v7x

variable {F : FTy → Type} [FloatOps F]
-- ==== Proof.Step.lean ====
/-
  Single steps of a tile's program, each as a rule that turns "the state entails the rest" into "the
  state entails this step and the rest". A copy between this tile's memory and the device's is two
  steps, its start and its wait, since a printed part may end between the two.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.Proof.Step

open Idealize.ShloMosaic
open Idealize.ShloMosaic.SparseCore (S V T)
open Idealize.ShloMosaic.SparseCore.Cfg (HIx ownBufs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {nD : Nat} {τ : Topo} {sig : RefSig} {F : FTy → Type} [FloatOps F] {n : ℕ} {Λ : Labels}

/-- The ghost state: the handshakes' rounds and the transfers' counters. -/
abbrev UU (nD : Nat) (τ : Topo) (sig : RefSig) : Type := URounds (GSem nD τ sig) ℕ × Counters

local notation "𝕄" => MT nD τ sig (HIx n) (Elt F) ℕ (UU nD τ sig) ℕ

variable (defs : Defs nD τ sig (Elt F) Λ) (𝒱 : Variants) (c : Thread nD τ) {bd : Option 𝒱.V} {α β : Type}
variable {Q : α → sProp (MT nD τ sig (HIx n) (Elt F) ℕ (UU nD τ sig) ℕ)} {A B X : sProp (MT nD τ sig (HIx n) (Elt F) ℕ (UU nD τ sig) ℕ)}

local notation "WP" => wp (M := MT nD τ sig (HIx n) (Elt F) ℕ (UU nD τ sig) ℕ) frame (wpE defs 𝒱 c bd) Set.univ

omit [FloatOps F] in
theorem bind_step {p : Prog (TpuEff nD τ sig (Elt F) Λ c.2) β} {k : β → Prog (TpuEff nD τ sig (Elt F) Λ c.2) α}
    (h : A ⊢ WP p fun x => WP (k x) Q) : A ⊢ WP (p >>= k) Q := by
  rw [wp_bind]; exact h

omit [FloatOps F] in
theorem pure_step {x : α} (h : A ⊢ Q x) : A ⊢ WP (pure x : Prog (TpuEff nD τ sig (Elt F) Λ c.2) α) Q := by
  rw [wp_pure]; iintro H; imodintro; iapply h; iexact H

omit [FloatOps F] in
theorem tail_step {p : Prog (TpuEff nD τ sig (Elt F) Λ c.2) α} (h : A ⊢ WP (p >>= fun x => pure x) Q) : A ⊢ WP p Q := by
  rw [bind_pure] at h; exact h

omit [FloatOps F] in
theorem assume_step {P : Prop} {d : Decidable P} {k : PLift P → Prog (TpuEff nD τ sig (Elt F) Λ c.2) α} (h : P)
    (hk : A ⊢ WP (k ⟨h⟩) Q) : A ⊢ WP (Prog.lift (TpuEff.assume P d) >>= k) Q := by
  show A ⊢ WP (Prog.op (TpuEff.assume P d) fun x => .ret x >>= k) Q
  rw [wp_assume_of _ _ _ _ h]; exact hk

omit [FloatOps F] in
/-- Some tile state `A` holds a share of what a load reads, beside `X`. -/
theorem load_step {sp : CoreSpace} {s : Shape} {e : EltTy} {m : Memref sig c.2.kind sp s e} {r : LoadRect s} {hl : m.view.LoadsAt r}
    {k : (r.shape.Idx → Elt F e) → Prog (TpuEff nD τ sig (Elt F) Λ c.2) α}
    {S : Finset (Idx (m.view.loc c))} {q : PosShare TreeShare} {f : Buf (Elt F) (m.view.loc c)} (hS : m.view.setOn r.set ⊆ S)
    (hA : A ⊢ iprop((m.view.loc c ↦[S]{q} f) ∗ X)) (hB : iprop((m.view.loc c ↦[S]{q} f) ∗ X) ⊢ B)
    (hk : B ⊢ WP (k (m.view.readAt (Elt F) r f)) Q) :
    A ⊢ WP (Prog.lift (TpuEff.load m r hl) >>= k) Q := by
  show A ⊢ WP (Prog.op (TpuEff.load m r hl) fun x => .ret x >>= k) Q
  refine hA.trans ?_
  iintro ⟨H, HX⟩
  iapply (wp_load 𝒱 c bd Set.univ hS) $$ H
  iintro H
  iapply (hB.trans hk)
  isplitl [H] <;> iassumption

omit [FloatOps F] in
theorem store_step {sp : CoreSpace} {s : Shape} {e : EltTy} {m : Memref sig c.2.kind sp s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ c.2) α} {S : Finset (Idx ((m.access r).loc c))} {f : Buf (Elt F) ((m.access r).loc c)}
    (hS : (m.access r).setOn Mk ⊆ S)
    (hA : A ⊢ iprop(((m.access r).loc c ↦[S]{fullShare} f) ∗ X))
    (hB : iprop(((m.access r).loc c ↦[S]{fullShare} ((m.access r).write (Elt F) f w Mk)) ∗ X) ⊢ B)
    (hk : B ⊢ WP (k ⟨⟩) Q) : A ⊢ WP (Prog.lift (TpuEff.store m r w Mk hx hm) >>= k) Q := by
  show A ⊢ WP (Prog.op (TpuEff.store m r w Mk hx hm) fun x => .ret x >>= k) Q
  refine hA.trans ?_
  iintro ⟨H, HX⟩
  iapply (wp_store 𝒱 c bd Set.univ hS) $$ H
  iintro H
  iapply (hB.trans hk)
  isplitl [H] <;> iassumption

/-- A gather out of the tile's memory. -/
theorem gather_step {s t : Shape} {e : EltTy} {m : Memref sig c.2.kind .vmem s e} {idxs : Fin s.rank → IVec t 32}
    {h : ∀ a x, (idxs a x).toNat < s.size a} {hl : m.view.Loads} {k : Vec F t e → Prog (TpuEff nD τ sig (Elt F) Λ c.2) α}
    {S : Finset (Idx ((m.access (.whole s)).loc c))} {q : PosShare TreeShare} {f : Buf (Elt F) ((m.access (.whole s)).loc c)}
    (hS : (m.access (.whole s)).set ⊆ S)
    (hA : A ⊢ iprop(((m.access (.whole s)).loc c ↦[S]{q} f) ∗ X)) (hB : iprop(((m.access (.whole s)).loc c ↦[S]{q} f) ∗ X) ⊢ B)
    (hk : B ⊢ WP (k (loadIdx ((m.access (.whole s)).read (Elt F) f) idxs h)) Q) :
    A ⊢ WP (SparseCore.vectorLoadIdx m idxs h hl >>= k) Q := by
  refine hA.trans ?_
  iintro ⟨H, HX⟩
  iapply (SparseCore.wp_vectorLoadIdx 𝒱 c bd Set.univ hS) $$ H
  iintro H
  iapply (hB.trans hk)
  isplitl [H] <;> iassumption

/-- A scatter into the tile's memory. -/
theorem scatter_step {s : Shape} {e : EltTy} {dd : Fin 1 → Nat} {m : Memref sig c.2.kind .vmem s e} {idxs : Fin s.rank → IVec ⟨1, dd⟩ 32} {v : Vec F ⟨1, dd⟩ e}
    {mask : IVec ⟨1, dd⟩ 1} {add : Bool} {h : ∀ a x, (idxs a x).toNat < s.size a} {hs : (m.access (.whole s)).Stores Finset.univ}
    {k : PUnit → Prog (TpuEff nD τ sig (Elt F) Λ c.2) α} {f : Buf (Elt F) ((m.access (.whole s)).loc c)}
    (hA : A ⊢ iprop(((m.access (.whole s)).loc c ↦[(m.access (.whole s)).set]{fullShare} f) ∗ X))
    (hB : iprop(((m.access (.whole s)).loc c ↦[(m.access (.whole s)).set]{fullShare}
      ((m.access (.whole s)).write (Elt F) f (storeIdx ((m.access (.whole s)).read (Elt F) f) idxs v mask add h) Finset.univ)) ∗ X) ⊢ B)
    (hk : B ⊢ WP (k ⟨⟩) Q) : A ⊢ WP (SparseCore.vectorStoreIdx m idxs v mask add h hs >>= k) Q := by
  refine hA.trans ?_
  iintro ⟨H, HX⟩
  iapply (SparseCore.wp_vectorStoreIdx 𝒱 c bd Set.univ) $$ H
  iintro H
  iapply (hB.trans hk)
  isplitl [H] <;> iassumption

/-! ## Copies -/

/-- What a tile has in hand between its copies: leave to wait, its semaphores at zero, and what it owes. -/
def Own (O : CellTallies nD τ sig (HIx n)) (W : Waits sig (HIx n)) : sProp 𝕄 :=
  iprop(Transfers.MayWaits c (default : HIx n) O ∗ ownSems0 c ∗ ∃ W', ⌜∀ p ∈ W', p ∈ W ∨ p.2 = none⌝ ∗ owes c O W')

/-- A copy under way on semaphore `sm`, to deliver `D`; `X` is set aside. -/
def Mid (O : CellTallies nD τ sig (HIx n)) (W : Waits sig (HIx n)) (sm : DmaSem sig) (N : ℕ) (D X : sProp 𝕄) : sProp 𝕄 :=
  iprop(Transfers.MayWaits c (default : HIx n) O ∗ Transfers.Flight countersEmb c (.dma sm) (default : HIx n) N D
    ∗ ((semVal (c, .dma sm) 0 : sProp 𝕄) -∗ ownSems0 c)
    ∗ (∃ W', ⌜∀ p ∈ W', p ∈ W ∨ p.2 = none⌝ ∗ owes c O W') ∗ X)

omit [FloatOps F] in
theorem ownSems0_take {sm : SemLoc sig} (h : sm.isScoped c.2.kind = true) :
    (ownSems0 c : sProp 𝕄) ⊢ iprop(semVal (c, sm) 0 ∗ ((semVal (c, sm) 0 : sProp 𝕄) -∗ ownSems0 c)) := by
  unfold SparseCore.Cfg.ownSems0
  rw [SparseCore.bigSep_erase' ((mem_ownCells (g := ((c, sm) : GSem nD τ sig))).mpr ⟨rfl, h⟩)]
  iintro ⟨H, HR⟩
  isplitl [H]; · iexact H
  iintro H
  isplitl [H] <;> iassumption

omit [FloatOps F] in
theorem copy_start {sp sp' : Space} {s : Shape} {e : EltTy} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)} (O : CellTallies nD τ sig (HIx n)) (W : Waits sig (HIx n))
    (hsm : (SemLoc.dma sm : SemLoc sig).isScoped c.2.kind = true) (hN0 : 0 < dst.view.dmaCredit) (hSd : dst.view.set ⊆ Sd)
    (hA : A ⊢ iprop((src.view.loc c ↦[src.view.set]{q} fs) ∗ (dst.view.loc c ↦[Sd]{fullShare} fd) ∗ Own c O W ∗ X))
    (hk : Mid c O W sm dst.view.dmaCredit
        iprop((dst.view.loc c ↦[Sd]{fullShare} (dst.view.write (Elt F) fd (src.view.read (Elt F) fs) Finset.univ)) ∗ (src.view.loc c ↦[src.view.set]{q} fs)) X
      ⊢ WP (k ⟨⟩) Q) :
    A ⊢ WP (Prog.lift (TpuEff.enqueueDma src (.here dst) (.dma sm) hsrc hdst hsem) >>= k) Q := by
  show A ⊢ WP (Prog.op (TpuEff.enqueueDmaAs src (.here dst) .same (.dma sm) hsrc hdst hsem) fun x => .ret x >>= k) Q
  refine hA.trans ?_
  unfold Own
  iintro ⟨Hs, Hd, ⟨Hw, Hsems, HW⟩, HX⟩
  ihave H := (ownSems0_take c hsm) $$ Hsems
  icases H with ⟨Hsem, Hsems⟩
  iapply (Transfers.wp_dmaLocal countersEmb 𝒱 c bd (default : HIx n) dst.view.dmaCredit rfl hN0 hSd) $$ [Hs Hd Hsem]
  · isplitl [Hs]; · iexact Hs
    isplitl [Hd]; · iexact Hd
    iexact Hsem
  iintro Hfl
  iapply hk
  unfold Mid
  isplitl [Hw]; · iexact Hw
  isplitl [Hfl]; · iexact Hfl
  isplitl [Hsems]; · iexact Hsems
  isplitl [HW]; · iexact HW
  iexact HX

omit [FloatOps F] in
theorem copy_wait {sp sp' : Space} {s s' : Shape} {e e' : EltTy} {srcw : Memref sig c.2.kind sp s' e'} {dstw : Memref sig c.2.kind sp' s e} {sm : DmaSem sig}
    {hsrc : srcw.view.WordExact} {hdst : dstw.view.WordExact}
    {k : PUnit → Prog (TpuEff nD τ sig (Elt F) Λ c.2) α} {N : ℕ} {D : sProp 𝕄} {O : CellTallies nD τ sig (HIx n)} {W : Waits sig (HIx n)}
    (hN : dstw.view.dmaCredit = N) (hB : iprop(D ∗ Own c O W ∗ X) ⊢ B)
    (hk : B ⊢ WP (k ⟨⟩) Q) :
    Mid c O W sm N D X ⊢ WP (Prog.lift (TpuEff.waitDma2 sm srcw dstw hsrc hdst) >>= k) Q := by
  show _ ⊢ WP (Prog.op (TpuEff.waitDma2 sm srcw dstw hsrc hdst) fun x => .ret x >>= k) Q
  unfold Mid
  iintro ⟨#Hw, Hfl, Hsems, ⟨%W', %hW', HO⟩, HX⟩
  iapply (Transfers.wp_waitLocalO countersEmb 𝒱 c bd (default : HIx n) hN) $$ [Hfl HO]
  · isplitl [Hfl]; · iexact Hfl
    isplitl [HO]; · iexact HO
    iapply (Transfers.MayWaits.elim (SemLoc.dma sm)) $$ Hw
  iintro ⟨HD, Hsem, HO⟩
  iapply (hB.trans hk)
  isplitl [HD]; · iexact HD
  isplitr [HX]
  · unfold Own
    isplitr; · iexact Hw
    isplitl [Hsem Hsems]; · iapply Hsems; iexact Hsem
    iexists _; isplitr
    swap; · iexact HO
    ipureintro; intro p hp
    rcases Finset.mem_insert.mp hp with hp | hp; · exact .inr (hp ▸ rfl)
    exact hW' p hp
  iexact HX

omit [FloatOps F] in
/-- The same from a part of a source held in full: what was held comes back with the wait. -/
theorem copy_start_sub {sp sp' : Space} {s : Shape} {e : EltTy} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {fs : Buf (Elt F) (src.view.loc c)}
    {Ss : Finset (Idx (src.view.loc c))}
    {Sd : Finset (Idx (dst.view.loc c))} {fd : Buf (Elt F) (dst.view.loc c)} (O : CellTallies nD τ sig (HIx n)) (W : Waits sig (HIx n))
    (hsm : (SemLoc.dma sm : SemLoc sig).isScoped c.2.kind = true) (hN0 : 0 < dst.view.dmaCredit) (hSs : src.view.set ⊆ Ss) (hSd : dst.view.set ⊆ Sd)
    (hA : A ⊢ iprop((src.view.loc c ↦[Ss]{q} fs) ∗ (dst.view.loc c ↦[Sd]{fullShare} fd) ∗ Own c O W ∗ X))
    (hk : Mid c O W sm dst.view.dmaCredit
        iprop((dst.view.loc c ↦[Sd]{fullShare} (dst.view.write (Elt F) fd (src.view.read (Elt F) fs) Finset.univ)) ∗ (src.view.loc c ↦[src.view.set]{q} fs))
        iprop(((src.view.loc c ↦[src.view.set]{q} fs) -∗ (src.view.loc c ↦[Ss]{q} fs)) ∗ X)
      ⊢ WP (k ⟨⟩) Q) :
    A ⊢ WP (Prog.lift (TpuEff.enqueueDma src (.here dst) (.dma sm) hsrc hdst hsem) >>= k) Q := by
  refine copy_start defs 𝒱 c O W hsm hN0 hSd (hA.trans ?_) hk
  iintro ⟨Hs, Hd, HO, HX⟩
  ihave Hs := (pointsTo_split_subset (q := q) (f := fs) (S := Ss) hSs).1 $$ Hs
  icases Hs with ⟨Hs, Hr⟩
  isplitl [Hs]; · iexact Hs
  isplitl [Hd]; · iexact Hd
  isplitl [HO]; · iexact HO
  isplitl [Hr]
  · iintro Hs
    iapply (pointsTo_split_subset (q := q) (f := fs) (S := Ss) hSs).2
    isplitl [Hs] <;> iassumption
  iexact HX

omit [FloatOps F] in
/-- Its wait. -/
theorem copy_wait_sub {sp sp' : Space} {s s' : Shape} {e e' : EltTy} {srcw : Memref sig c.2.kind sp s' e'} {dstw : Memref sig c.2.kind sp' s e} {sm : DmaSem sig}
    {hsrc : srcw.view.WordExact} {hdst : dstw.view.WordExact}
    {k : PUnit → Prog (TpuEff nD τ sig (Elt F) Λ c.2) α} {N : ℕ} {D S S' : sProp (MT nD τ sig (HIx n) (Elt F) ℕ (UU nD τ sig) ℕ)} {O : CellTallies nD τ sig (HIx n)} {W : Waits sig (HIx n)}
    (hN : dstw.view.dmaCredit = N) (hB : iprop(D ∗ S' ∗ Own c O W ∗ X) ⊢ B)
    (hk : B ⊢ WP (k ⟨⟩) Q) :
    Mid c O W sm N iprop(D ∗ S) iprop((S -∗ S') ∗ X) ⊢ WP (Prog.lift (TpuEff.waitDma2 sm srcw dstw hsrc hdst) >>= k) Q := by
  have h : iprop((D ∗ S) ∗ Own c O W ∗ (S -∗ S') ∗ X) ⊢ iprop(D ∗ S' ∗ Own c O W ∗ X) := by
    iintro ⟨⟨HD, HS⟩, HO, Hw, HX⟩
    isplitl [HD]; · iexact HD
    isplitl [HS Hw]; · iapply Hw; iexact HS
    isplitl [HO] <;> iassumption
  exact copy_wait defs 𝒱 c hN (h.trans hB) hk

omit [FloatOps F] in
/-- A copy into a whole buffer and its wait. -/
theorem copy_in {sp : Space} {b : Ref sig c.2.kind} {src : Memref sig c.2.kind sp b.ty.shape b.ty.elt} {sm : DmaSem sig}
    {hsrc hsrc' : src.view.WordExact} {hdst hdst' : (Memref.whole b : Memref sig c.2.kind b.space b.ty.shape b.ty.elt).view.WordExact} {hsem : DmaTarget.Typed (nD := nD) sp (.dma sm) (.here (Memref.whole b))}
    {k : PUnit → Prog (TpuEff nD τ sig (Elt F) Λ c.2) α} {q : PosShare TreeShare} {fs : Buf (Elt F) (src.view.loc c)}
    {fd v : Buf (Elt F) (c.loc b)} (O : CellTallies nD τ sig (HIx n)) (W : Waits sig (HIx n))
    (hsm : (SemLoc.dma sm : SemLoc sig).isScoped c.2.kind = true) (hN0 : 0 < (Memref.whole b : Memref sig c.2.kind b.space b.ty.shape b.ty.elt).view.dmaCredit)
    (hv : src.view.read (Elt F) fs = v)
    (hA : A ⊢ iprop((src.view.loc c ↦{q} fs) ∗ (c.loc b ↦{fullShare} fd) ∗ Own c O W ∗ X))
    (hB : iprop((src.view.loc c ↦{q} fs) ∗ (c.loc b ↦{fullShare} v) ∗ Own c O W ∗ X) ⊢ B)
    (hk : B ⊢ WP (k ⟨⟩) Q) :
    A ⊢ WP (Prog.lift (TpuEff.enqueueDma src (.here (Memref.whole b)) (.dma sm) hsrc hdst hsem)
      >>= fun _ => Prog.lift (TpuEff.waitDma2 sm src (Memref.whole b) hsrc' hdst') >>= k) Q := by
  refine copy_start_sub defs 𝒱 c O W hsm hN0 (Finset.subset_univ _) (Finset.subset_univ _) hA ?_
  refine copy_wait_sub defs 𝒱 c rfl ?_ hk
  rw [hv]
  iintro ⟨Hd, Hs, HO, HX⟩
  iapply hB
  isplitl [Hs]; · iexact Hs
  isplitl [Hd]
  · iapply (Entails.of_eq (show (((Memref.whole b : Memref sig c.2.kind b.space b.ty.shape b.ty.elt).view.loc c ↦{fullShare} (View.write (Elt F) (Memref.whole b : Memref sig c.2.kind b.space b.ty.shape b.ty.elt).view fd v Finset.univ) : sProp 𝕄))
      = (c.loc b ↦{fullShare} v) by rw [View.write_whole_univ])) $$ Hd
  isplitl [HO] <;> iassumption

/-! ## A thread's buffers, taken out one by one -/

/-- The thread's own buffers but those taken. -/
def bufsBut (L : Finset (DevRef τ sig)) : sProp 𝕄 :=
  bigSep (SparseCore.Cfg.ownRefs c.2 \ L) fun b => iprop(∃ f, ((c.1, b) : Loc nD τ sig) ↦{fullShare} f)

omit [FloatOps F] in
theorem bufsBut_empty : (ownBufs c : sProp 𝕄) = bufsBut c ∅ := by
  unfold SparseCore.Cfg.ownBufs bufsBut; rw [Finset.sdiff_empty]

omit [FloatOps F] in
theorem bufsBut_take {L : Finset (DevRef τ sig)} {b : DevRef τ sig} (h : b ∈ SparseCore.Cfg.ownRefs c.2) (hb : b ∉ L) :
    (bufsBut c L : sProp 𝕄) = iprop((∃ f, ((c.1, b) : Loc nD τ sig) ↦{fullShare} f) ∗ bufsBut c (insert b L)) := by
  unfold bufsBut
  rw [SparseCore.bigSep_erase' (Finset.mem_sdiff.mpr ⟨h, hb⟩), Finset.sdiff_insert]

end Cert.Proof.Step

end
-- ==== Proof.Vals.lean ====
/-
  What the two kernels compute, as plain functions of the arrays they are handed, at any instance of
  the floats: the row each tile of the first kernel accumulates, the table of those rows, and the
  result the second kernel makes of it. Then where a printed slice's elements lie.
-/
module

public import Idealize.ShloMosaic.Lib.ValueIdxCore
public import Idealize.ShloMosaic.Lib.Pipeline.ValueKit.Geometry
public import Idealize.ShloMosaic.PureOps

@[expose] public section

noncomputable section

namespace Cert.Proof.Vals

open Idealize.ShloMosaic Idealize.ShloMosaic.ValueIdx

/-- The shape of a list of `n`. -/
abbrev A1 (n : ℕ) : Shape := ⟨1, ![n]⟩
/-- The shape of a table of `a` rows of `b`. -/
abbrev A2 (a b : ℕ) : Shape := ⟨2, ![a, b]⟩

/-- Entry `k` of a list of words, zero past its end. -/
def wat {n : ℕ} (Z : (A1 n).Idx → BitVec 32) (k : ℕ) : BitVec 32 := if h : k < n then Z (ix1 ⟨k, h⟩) else 0

theorem wat_lt {n N : ℕ} {Z : (A1 n).Idx → BitVec 32} (h : ∀ x, (Z x).toNat < N) (hN : 0 < N) (k : ℕ) : (wat Z k).toNat < N := by
  unfold wat; split
  · exact h _
  · exact hN

theorem wat_of_lt {n : ℕ} (Z : (A1 n).Idx → BitVec 32) {k : ℕ} (h : k < n) : wat Z k = Z (ix1 ⟨k, h⟩) := dif_pos h

/-- The sixteen words from `o` on. -/
def win {n : ℕ} (Z : (A1 n).Idx → BitVec 32) (o : ℕ) : (A1 16).Idx → BitVec 32 := fun x => wat Z (o + (x 0).val)

theorem win_chk {n N : ℕ} {Z : (A1 n).Idx → BitVec 32} (h : ∀ x, (Z x).toNat < N) (hN : 0 < N) (o : ℕ) :
    ∀ a x, ((![win Z o] : Fin 1 → (A1 16).Idx → BitVec 32) a x).toNat < (A1 N).size a := by
  intro a x; match a with | 0 => exact wat_lt h hN _

/-- Tile `w`'s part of the words: 3200 of them. -/
def rowOf (ZA : (A1 102400).Idx → BitVec 32) (w : ℕ) : (A1 3200).Idx → BitVec 32 := fun x => wat ZA (3200 * w + (x 0).val)

theorem rowOf_lt {N : ℕ} {ZA : (A1 102400).Idx → BitVec 32} (h : ∀ x, (ZA x).toNat < N) (hN : 0 < N) (w : ℕ) : ∀ x, (rowOf ZA w x).toNat < N :=
  fun _ => wat_lt h hN _

variable {F : FTy → Type} [FloatOps F]

section One

variable (AE : (A1 128).Idx → Elt F .f32) (ZR : (A1 4104).Idx → Elt F .f32) {Z G : (A1 3200).Idx → BitVec 32}
  (hZ : ∀ x, (Z x).toNat < 128) (hG : ∀ x, (G x).toNat < 4104)

/-- The energies of the sixteen atoms from `o` on. -/
def ener (o : ℕ) : (A1 16).Idx → Elt F .f32 := loadIdx AE ![win Z o] (win_chk hZ (by decide) o)

/-- The accumulator after `n` rounds of sixteen atoms each. -/
def accN : ℕ → (A1 4104).Idx → Elt F .f32
  | 0 => ZR
  | n + 1 => storeIdx (accN n) ![win G (16 * n)] (ener AE hZ (16 * n)) (fun _ => 1#1) true (win_chk hG (by decide) _)

/-- The accumulator when the atoms before `o` are in. -/
def accAt (o : ℕ) : (A1 4104).Idx → Elt F .f32 := accN AE ZR hZ hG (o / 16)

theorem accAt_zero : accAt AE ZR hZ hG 0 = ZR := rfl

theorem accAt_succ {o : ℕ} (h : o % 16 = 0) :
    accAt AE ZR hZ hG (o + 16) = storeIdx (accAt AE ZR hZ hG o) ![win G o] (ener AE hZ o) (fun _ => 1#1) true (win_chk hG (by decide) o) := by
  obtain ⟨k, rfl⟩ : ∃ k, o = 16 * k := ⟨o / 16, by omega⟩
  unfold accAt
  rw [show (16 * k + 16) / 16 = k + 1 by omega, show 16 * k / 16 = k by omega]
  rfl

end One

/-- The table of the accumulators, a row per tile. -/
def partial' (ZA GA : (A1 102400).Idx → BitVec 32) (AE : (A1 128).Idx → Elt F .f32) (ZR : (A1 4104).Idx → Elt F .f32)
    (hZ : ∀ x, (ZA x).toNat < 128) (hG : ∀ x, (GA x).toNat < 4104) : (A2 32 4104).Idx → Elt F .f32 :=
  fun i => accN AE ZR (rowOf_lt hZ (by decide) (i 0).val) (rowOf_lt hG (by decide) (i 0).val) 200 (ix1 (i 1))

/-- The first `n + 1` rows of a table summed down a column, first to last. -/
def colSum (P : ℕ → Elt F .f32) : ℕ → Elt F .f32
  | 0 => P 0
  | n + 1 => FloatOps.addf (colSum P n) (P (n + 1))

/-- Entry `(r, c)` of the table of accumulators, by numbers. -/
def pat (P : (A2 32 4104).Idx → Elt F .f32) (r c : ℕ) : Elt F .f32 := P (ix2 ⟨r % 32, Nat.mod_lt _ (by decide)⟩ ⟨c % 4104, Nat.mod_lt _ (by decide)⟩)

omit [FloatOps F] in
theorem pat_of (P : (A2 32 4104).Idx → Elt F .f32) (i : (A2 32 4104).Idx) {r c : ℕ} (hr : (i 0).val = r) (hc : (i 1).val = c) : P i = pat P r c := by
  have h0 : (i 0).val < 32 := (i 0).isLt
  have h1 : (i 1).val < 4104 := (i 1).isLt
  subst hr hc
  unfold pat
  refine congrArg P ?_
  funext d
  match d with
  | 0 => exact Fin.ext (Nat.mod_eq_of_lt h0).symm
  | 1 => exact Fin.ext (Nat.mod_eq_of_lt h1).symm

/-- Entry `j` of a list of 4096, by its number. -/
def fat {α : Type} (E : (A1 4096).Idx → α) (j : ℕ) : α := E (ix1 ⟨j % 4096, Nat.mod_lt _ (by decide)⟩)

theorem fat_of {α : Type} (E : (A1 4096).Idx → α) (i : (A1 4096).Idx) {j : ℕ} (hj : (i 0).val = j) : E i = fat E j := by
  have h0 : (i 0).val < 4096 := (i 0).isLt
  subst hj
  unfold fat
  refine congrArg E ?_
  funext d
  match d with
  | 0 => exact Fin.ext (Nat.mod_eq_of_lt h0).symm

/-- The result at a molecule: its energy scaled, its atoms' shifts, and the partial sums of its atoms' energies. -/
def resAt (EN : (A1 4096).Idx → Elt F .f32) (NA : (A1 4096).Idx → BitVec 32) (s h : Elt F .f32) (P : (A2 32 4104).Idx → Elt F .f32) (j : ℕ) : Elt F .f32 :=
  FloatOps.addf (FloatOps.addf (FloatOps.mulf (fat EN j) s) (FloatOps.mulf (FloatOps.sitofp .f32 (fat NA j)) h)) (colSum (fun r => pat P r j) 31)

/-- The result. -/
def result (EN : (A1 4096).Idx → Elt F .f32) (NA : (A1 4096).Idx → BitVec 32) (s h : Elt F .f32) (P : (A2 32 4104).Idx → Elt F .f32) : (A1 4096).Idx → Elt F .f32 :=
  fun i => resAt EN NA s h P (i 0).val

/-! ## Where a slice's elements lie -/

theorem reshape_row {n : ℕ} (h : (A1 n).numel = (A2 1 n).numel) (x : (A1 n).Idx) : Shape.reshapeEquiv h x = (ix2 0 (x 0) : (A2 1 n).Idx) := by
  refine Shape.reshapeEquiv_eq_of_rowMajor h ?_
  rw [Shape.rowMajor_val_one, Shape.rowMajor_val_two]
  simp
  rfl

/-- An index of a list from its position. -/
theorem idx1_ext {n : ℕ} {x y : (A1 n).Idx} (h : (x 0).val = (y 0).val) : x = y := by
  funext a; match a with | 0 => exact Fin.ext h
theorem idx2_ext {a b : ℕ} {x y : (A2 a b).Idx} (h0 : (x 0).val = (y 0).val) (h1 : (x 1).val = (y 1).val) : x = y := by
  funext d; match d with
  | 0 => exact Fin.ext h0
  | 1 => exact Fin.ext h1

end Cert.Proof.Vals

end
-- ==== Proof.Ranges.lean ====
/-
  What the precondition says of the two index arrays, and what a list padded at its end holds.
-/
module

public import proofs.«01_k».proof.Pre_in_range
public import proofs.«01_k».proof.Proof.Vals
public import Idealize.ShloMosaic.Lib.ReduceAll
public import Idealize.ShloMosaic.Lib.Pipeline.Value

@[expose] public section

noncomputable section

namespace Cert.Proof.Ranges

open Idealize.ShloMosaic Idealize.ShloMosaic.ValueIdx Cert.Proof.Vals

instance : Subsingleton (⟨0, ![]⟩ : Shape).Idx := ⟨fun _ _ => funext fun k => k.elim0⟩

/-- A word at least zero and below `n`, read signed, is its own value below `n`. -/
theorem word_range (v : BitVec 32) (n : ℕ) (hn : n < 2 ^ 31) (h0 : IntOp.cmpi .sge v 0#32 = 1#1) (h1 : IntOp.cmpi .slt v (BitVec.ofNat 32 n) = 1#1) : v.toNat < n := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat, Nat.reducePow, Nat.reduceMod] at h0 h1
  have : n % 4294967296 = n := Nat.mod_eq_of_lt (by omega)
  rw [this] at h1
  omega

/-- The precondition: the atomic numbers are below 119, the molecules below 4096. -/
theorem of_pre {F : FTy → Type} [FloatOps F] [Cert.Pre_in_range.Facts] {a0 : (A1 4096).Idx → Elt F .f32} {a1 : (A1 4096).Idx → BitVec 32} {a2 a3 : (A1 100000).Idx → BitVec 32} {a4 a5 : (A1 1).Idx → Elt F .f32} {a6 : (A1 119).Idx → Elt F .f32}
    (e : Cert.Pre_in_range.fn (F := F) a0 a1 a2 a3 a4 a5 a6 = fun _ => 1#1) : (∀ x, (a2 x).toNat < 119) ∧ ∀ x, (a3 x).toNat < 4096 := by
  have both (p q : BitVec 1) : IntOp.andi p q = 1#1 → p = 1#1 ∧ q = 1#1 := by revert p q; decide
  have e' := congrFun e (fun k => k.elim0)
  unfold Cert.Pre_in_range.fn at e'
  obtain ⟨e1, h4⟩ := both _ _ e'
  obtain ⟨e2, h3⟩ := both _ _ e1
  obtain ⟨h1, h2⟩ := both _ _ e2
  refine ⟨fun x => ?_, fun x => ?_⟩
  · exact word_range _ 119 (by decide) (Host.reduce_andi_all _ _ _ _ _ h1 x) (Host.reduce_andi_all _ _ _ _ _ h2 x)
  · exact word_range _ 4096 (by decide) (Host.reduce_andi_all _ _ _ _ _ h3 x) (Host.reduce_andi_all _ _ _ _ _ h4 x)

/-- A list followed by one repeated entry. -/
theorem padded {α : Type} {n k t : ℕ} (a : (A1 n).Idx → α) (v : α) (hc : Shape.Concatenates [A1 n, A1 k] (A1 t) 0) (j : (A1 t).Idx) :
    concatenate (A1 t) 0 [⟨A1 n, a⟩, ⟨A1 k, fun _ => v⟩] hc j = if h : (j 0).val < n then a (ix1 ⟨(j 0).val, h⟩) else v := by
  split
  · next h =>
    exact concatenate_pair_apply_left (t := A1 t) (s₁ := A1 n) (s₂ := A1 k) 0 a (fun _ => v) hc j rfl (ix1 ⟨(j 0).val, h⟩) (fun b => by
      match b with | 0 => rfl)
  · next h =>
    have hs : n + k = t := by have := hc.2.2; simpa using this
    have hj : (j 0).val < t := (j 0).isLt
    exact concatenate_pair_apply_right (t := A1 t) (s₁ := A1 n) (s₂ := A1 k) 0 a (fun _ => v) hc j rfl rfl (ix1 ⟨(j 0).val - n, by omega⟩)
      (fun b hb => absurd (Fin.ext (by have : b.val < 1 := b.isLt; show b.val = 0; omega)) hb) (by show (j 0).val - n + n = (j 0).val; omega)

end Cert.Proof.Ranges

end
-- ==== Proof.KerIBase.lean ====
/-
  The kernel's program as the launch theorem sees it, the buffers its two calls work on, and the
  steps of Step.lean at a tile of the first call.
-/
module

public import proofs.«01_k».proof.Defs
public import proofs.«01_k».proof.Proof.Step
public import proofs.«01_k».proof.Proof.Vals
public import proofs.«01_k».proof.Proof.Gen.KernelIdeal
public import proofs.«01_k».proof.Proof.Gen.KernelIdeal.Skeleton

@[expose] public section

noncomputable section

namespace Cert.Proof.KerI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev EH : Emb UH (MT nD τ sig (HIx 2) (Elt F) ℕ (UU nD τ sig) ℕ) := embL

/-! ## The buffers of the device's memory -/

abbrev aeArgLoc (d : Dev nD) : Loc nD τ sig := (SparseCore.T d).loc main_arg6
abbrev enLoc (d : Dev nD) : Loc nD τ sig := (SparseCore.T d).loc main_arg0
abbrev naLoc (d : Dev nD) : Loc nD τ sig := (SparseCore.T d).loc main_arg1
abbrev zLoc (d : Dev nD) : Loc nD τ sig := (SparseCore.T d).loc main_v1
abbrev gLoc (d : Dev nD) : Loc nD τ sig := (SparseCore.T d).loc main_v3
abbrev aeLoc (d : Dev nD) : Loc nD τ sig := (SparseCore.T d).loc main_v6
abbrev zrLoc (d : Dev nD) : Loc nD τ sig := (SparseCore.T d).loc main_v7
abbrev partLoc (d : Dev nD) : Loc nD τ sig := (SparseCore.T d).loc main_v8
abbrev scLoc (d : Dev nD) : Loc nD τ sig := (SparseCore.T d).loc main_v9
abbrev shLoc (d : Dev nD) : Loc nD τ sig := (SparseCore.T d).loc main_v10
abbrev outLoc (d : Dev nD) : Loc nD τ sig := (SparseCore.T d).loc main_v11

/-! ## The tile a grid point names -/

abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)
/-- Its number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

end Cert.Proof.KerI

end
-- ==== Proof.KerITile1.lean ====
/-
  A tile of the first call: four copies in, two hundred rounds of sixteen atoms (their energies
  gathered from the table and added into the accumulator), and the accumulator copied out.
-/
module

public import proofs.«01_k».proof.Proof.KerIBase

@[expose] public section

noncomputable section

namespace Cert.Proof.KerI

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals

variable {F : FTy → Type} [FloatOps F]

local notation "𝕄" => MT nD τ sig (HIx 2) (Elt F) ℕ (UU nD τ sig) ℕ

local notation "zV" => (Memref.whole Cert.KernelIdeal.main_v1_scv : Memref Cert.KernelIdeal.sig Kind.scVector Space.hbm Cert.KernelIdeal.S102400 EltTy.i32)
local notation "gV" => (Memref.whole Cert.KernelIdeal.main_v3_scv : Memref Cert.KernelIdeal.sig Kind.scVector Space.hbm Cert.KernelIdeal.S102400 EltTy.i32)
local notation "aV" => (Memref.whole Cert.KernelIdeal.main_v6_scv : Memref Cert.KernelIdeal.sig Kind.scVector Space.hbm Cert.KernelIdeal.S128 EltTy.f32)
local notation "rV" => (Memref.whole Cert.KernelIdeal.main_v7_scv : Memref Cert.KernelIdeal.sig Kind.scVector Space.hbm Cert.KernelIdeal.S4104 EltTy.f32)
local notation "pV" => (Memref.whole Cert.KernelIdeal.main_v8_scv : Memref Cert.KernelIdeal.sig Kind.scVector Space.hbm Cert.KernelIdeal.S32x4104 EltTy.f32)
local notation "sZ" => (Memref.whole Cert.KernelIdeal.cc0_scratch0 : Memref Cert.KernelIdeal.sig Kind.scVector Space.vmem Cert.KernelIdeal.S3200 EltTy.i32)
local notation "sG" => (Memref.whole Cert.KernelIdeal.cc0_scratch1 : Memref Cert.KernelIdeal.sig Kind.scVector Space.vmem Cert.KernelIdeal.S3200 EltTy.i32)
local notation "sA" => (Memref.whole Cert.KernelIdeal.cc0_scratch2 : Memref Cert.KernelIdeal.sig Kind.scVector Space.vmem Cert.KernelIdeal.S128 EltTy.f32)
local notation "sC" => (Memref.whole Cert.KernelIdeal.cc0_scratch3 : Memref Cert.KernelIdeal.sig Kind.scVector Space.vmem Cert.KernelIdeal.S4104 EltTy.f32)

variable (d : Dev nD) (L : grid0.Coords)

/-! ## The rounds -/

section Rounds

variable (AE : S128.Idx → Elt F .f32) (ZR : S4104.Idx → Elt F .f32) {Z G : S3200.Idx → BitVec 32}
  (hZ : ∀ x, (Z x).toNat < 128) (hG : ∀ x, (G x).toNat < 4104) (X : sProp (MT nD τ sig (HIx 2) (Elt F) ℕ (UU nD τ sig) ℕ))

/-- A tile's scratch when the atoms before `o` are in. -/
def St (o : ℕ) : sProp 𝕄 :=
  iprop(((tV d L).loc cc0_scratch0 ↦{fullShare} Z) ∗ ((tV d L).loc cc0_scratch1 ↦{fullShare} G) ∗ ((tV d L).loc cc0_scratch2 ↦{fullShare} AE)
    ∗ ((tV d L).loc cc0_scratch3 ↦{fullShare} (accAt AE ZR hZ hG o)) ∗ X)

variable {AE ZR hZ hG X} {α : Type} {Q : α → sProp (MT nD τ sig (HIx 2) (Elt F) ℕ (UU nD τ sig) ℕ)}

local notation "WP" => wp (M := MT nD τ sig (HIx 2) (Elt F) ℕ (UU nD τ sig) ℕ) frame (wpE (defs₀ (F := F)) 𝒱₀ (tV d L) none) Set.univ

omit [FloatOps F] in
theorem read_sZ {o : ℕ} (inb : ∀ a, (![o] : Fin 1 → ℕ) a + S16.size a ≤ S3200.size a) :
    (sZ).view.readAt (Elt F) (Rect.unit (s := S3200) ![o] S16.size inb).toLoadRect Z = win Z o := by
  funext x
  rw [View.readAt_rect, View.read_apply, cast_eq]
  unfold win
  have hx : (x 0).val < 16 := (x 0).isLt
  have ho : o + 16 ≤ 3200 := inb 0
  rw [wat_of_lt _ (by omega)]
  congr 1
  refine idx1_ext ?_
  exact ValueKit.view_emb_slice_whole_unit_val _ _ _ _ _ _

theorem loadZ {o o' : ℕ} {inb : ∀ a, (![o'] : Fin 1 → ℕ) a + S16.size a ≤ S3200.size a} {hl}
    {k : (S16.Idx → BitVec 32) → Prog (TpuEff nD τ sig (Elt F) Λ₀ (tV d L).2) α} (ho : o = o')
    (hk : St d L AE ZR hZ hG X o' ⊢ WP (k (win Z o')) Q) :
    St d L AE ZR hZ hG X o ⊢ WP (Prog.lift (.load sZ (Rect.unit (s := S3200) ![o'] S16.size inb).toLoadRect hl) >>= k) Q := by
  subst ho
  refine load_step (defs₀ (F := F)) 𝒱₀ (tV d L) (S := Finset.univ) (q := fullShare) (f := Z) (Finset.subset_univ _) (B := St d L AE ZR hZ hG X o) (X := iprop(((tV d L).loc cc0_scratch1 ↦{fullShare} G) ∗ ((tV d L).loc cc0_scratch2 ↦{fullShare} AE)
    ∗ ((tV d L).loc cc0_scratch3 ↦{fullShare} (accAt AE ZR hZ hG o)) ∗ X)) .rfl .rfl ?_
  rw [read_sZ]; exact hk

omit [FloatOps F] in
theorem read_sG {o : ℕ} (inb : ∀ a, (![o] : Fin 1 → ℕ) a + S16.size a ≤ S3200.size a) :
    (sG).view.readAt (Elt F) (Rect.unit (s := S3200) ![o] S16.size inb).toLoadRect G = win G o := by
  funext x
  rw [View.readAt_rect, View.read_apply, cast_eq]
  unfold win
  have hx : (x 0).val < 16 := (x 0).isLt
  have ho : o + 16 ≤ 3200 := inb 0
  rw [wat_of_lt _ (by omega)]
  congr 1
  refine idx1_ext ?_
  exact ValueKit.view_emb_slice_whole_unit_val _ _ _ _ _ _

theorem loadG {o o' : ℕ} {inb : ∀ a, (![o'] : Fin 1 → ℕ) a + S16.size a ≤ S3200.size a} {hl}
    {k : (S16.Idx → BitVec 32) → Prog (TpuEff nD τ sig (Elt F) Λ₀ (tV d L).2) α} (ho : o = o')
    (hk : St d L AE ZR hZ hG X o' ⊢ WP (k (win G o')) Q) :
    St d L AE ZR hZ hG X o ⊢ WP (Prog.lift (.load sG (Rect.unit (s := S3200) ![o'] S16.size inb).toLoadRect hl) >>= k) Q := by
  subst ho
  refine load_step (defs₀ (F := F)) 𝒱₀ (tV d L) (S := Finset.univ) (q := fullShare) (f := G) (Finset.subset_univ _) (B := St d L AE ZR hZ hG X o) (X := iprop(((tV d L).loc cc0_scratch0 ↦{fullShare} Z) ∗ ((tV d L).loc cc0_scratch2 ↦{fullShare} AE)
    ∗ ((tV d L).loc cc0_scratch3 ↦{fullShare} (accAt AE ZR hZ hG o)) ∗ X)) ?_ ?_ ?_
  · unfold St; iintro ⟨HZ, HG, HR⟩
    isplitl [HG]; · iexact HG
    isplitl [HZ] <;> iassumption
  · unfold St; iintro ⟨HG, HZ, HR⟩
    isplitl [HZ]; · iexact HZ
    isplitl [HG] <;> iassumption
  · rw [read_sG]; exact hk

theorem gatherA {o o' : ℕ} {h : ∀ a x, ((![win Z o'] : Fin 1 → S16.Idx → BitVec 32) a x).toNat < S128.size a} {hl}
    {k : (S16.Idx → Elt F .f32) → Prog (TpuEff nD τ sig (Elt F) Λ₀ (tV d L).2) α}
    (hk : St d L AE ZR hZ hG X o ⊢ WP (k (ener AE hZ o')) Q) :
    St d L AE ZR hZ hG X o ⊢ WP (SparseCore.vectorLoadIdx sA ![win Z o'] h hl >>= k) Q := by
  refine gather_step (defs₀ (F := F)) 𝒱₀ (tV d L) (S := Finset.univ) (q := fullShare) (f := AE) (Finset.subset_univ _) (B := St d L AE ZR hZ hG X o) (X := iprop(((tV d L).loc cc0_scratch0 ↦{fullShare} Z) ∗ ((tV d L).loc cc0_scratch1 ↦{fullShare} G)
    ∗ ((tV d L).loc cc0_scratch3 ↦{fullShare} (accAt AE ZR hZ hG o)) ∗ X)) ?_ ?_ ?_
  · unfold St; iintro ⟨HZ, HG, HA, HR⟩
    isplitl [HA]; · iexact HA
    isplitl [HZ]; · iexact HZ
    isplitl [HG] <;> iassumption
  · unfold St; iintro ⟨HA, HZ, HG, HR⟩
    isplitl [HZ]; · iexact HZ
    isplitl [HG]; · iexact HG
    isplitl [HA] <;> iassumption
  · rw [Memref.read_access_whole]; exact hk

theorem scatterC {o : ℕ} (ho : o % 16 = 0) {h : ∀ a x, ((![win G o] : Fin 1 → S16.Idx → BitVec 32) a x).toNat < S4104.size a} {hs}
    {k : PUnit → Prog (TpuEff nD τ sig (Elt F) Λ₀ (tV d L).2) α}
    (hk : St d L AE ZR hZ hG X (o + 16) ⊢ WP (k ⟨⟩) Q) :
    St d L AE ZR hZ hG X o ⊢ WP (SparseCore.vectorStoreIdx sC ![win G o] (ener AE hZ o) (fun _ => 1#1) true h hs >>= k) Q := by
  refine scatter_step (defs₀ (F := F)) 𝒱₀ (tV d L) (f := accAt AE ZR hZ hG o) (B := St d L AE ZR hZ hG X (o + 16)) (X := iprop(((tV d L).loc cc0_scratch0 ↦{fullShare} Z) ∗ ((tV d L).loc cc0_scratch1 ↦{fullShare} G)
    ∗ ((tV d L).loc cc0_scratch2 ↦{fullShare} AE) ∗ X)) ?_ ?_ hk
  · rw [Memref.set_access_whole]; unfold St; iintro ⟨HZ, HG, HA, HC, HR⟩
    isplitl [HC]; · iexact HC
    isplitl [HZ]; · iexact HZ
    isplitl [HG]; · iexact HG
    isplitl [HA] <;> iassumption
  · rw [Memref.set_access_whole, Memref.read_access_whole, Memref.write_access_whole_univ]
    unfold St; rw [accAt_succ _ _ _ _ ho]; iintro ⟨HC, HZ, HG, HA, HR⟩
    isplitl [HZ]; · iexact HZ
    isplitl [HG]; · iexact HG
    isplitl [HA]; · iexact HA
    isplitl [HC] <;> iassumption

end Rounds

/-! ## The copies -/

section Tile

variable (ZA GA : S102400.Idx → BitVec 32) (AE : S128.Idx → Elt F .f32) (ZR : S4104.Idx → Elt F .f32)
  (hZ : ∀ x, (ZA x).toNat < 128) (hG : ∀ x, (GA x).toNat < 4104) (q : PosShare TreeShare)

/-- The row of the partial sums that tile `L` fills. -/
def rowSet (L : grid0.Coords) : Finset S32x4104.Idx := Finset.univ.filter fun i => (i 0).val = wid L

omit [FloatOps F] in
theorem rowOf_read (h : ∀ a, (k0_off1 L) a + S3200.size a ≤ S102400.size a) (ty : _) (f : S102400.Idx → BitVec 32) :
    ((zV).slice (Rect.unit (s := S102400) (k0_off1 L) S3200.size h) ty).view.read (Elt F) f = rowOf f (wid L) := by
  funext x
  rw [View.read_apply, cast_eq]
  unfold rowOf
  have hx : (x 0).val < 3200 := (x 0).isLt
  have hw := wid_lt L
  rw [wat_of_lt _ (by omega)]
  refine congrArg f (idx1_ext ?_)
  refine (ValueKit.view_emb_slice_whole_unit_val _ _ _ _ _ _).trans ?_
  have e : k0_off1 L 0 = 6400 * (L 1).val + 3200 * (L 0).val := congrFun (k0_off1_eq L) 0
  show k0_off1 L 0 + (x 0).val = 3200 * wid L + (x 0).val
  unfold wid; omega

theorem rowOf_readG (h : ∀ a, (k0_off1 L) a + S3200.size a ≤ S102400.size a) (ty : _) (f : S102400.Idx → BitVec 32) :
    ((gV).slice (Rect.unit (s := S102400) (k0_off1 L) S3200.size h) ty).view.read (Elt F) f = rowOf f (wid L) :=
  rowOf_read L h ty f

theorem set_row (h : ∀ a, (k0_off2 L) a + S1x4104.size a ≤ S32x4104.size a) (ty : _) :
    (((pV).slice (Rect.unit (s := S32x4104) (k0_off2 L) S1x4104.size h) ty).squeeze S4104 squeezes_S1x4104_S4104).view.set = rowSet L := by
  refine (View.set_reshape _ _).trans ((View.set_slice_whole _ _).trans ?_)
  have e0 : k0_off2 L 0 = 2 * (L 1).val + (L 0).val := congrFun (k0_off2_eq L) 0
  have e1 : k0_off2 L 1 = 0 := congrFun (k0_off2_eq L) 1
  ext i
  refine Rect.mem_set_unit.trans ?_
  unfold rowSet
  rw [Finset.mem_filter]
  have h1 : (i 1).val < 4104 := (i 1).isLt
  constructor
  · intro H
    have := H 0
    refine ⟨Finset.mem_univ _, ?_⟩
    have e : k0_off2 L 0 ≤ (i 0).val ∧ (i 0).val < k0_off2 L 0 + 1 := this
    unfold wid; omega
  · rintro ⟨-, H⟩ a
    unfold wid at H
    match a with
    | 0 => exact (show k0_off2 L 0 ≤ (i 0).val ∧ (i 0).val < k0_off2 L 0 + 1 by omega)
    | 1 => exact (show k0_off2 L 1 ≤ (i 1).val ∧ (i 1).val < k0_off2 L 1 + 4104 by omega)

theorem write_row (h : ∀ a, (k0_off2 L) a + S1x4104.size a ≤ S32x4104.size a) (ty : _) (f : S32x4104.Idx → Elt F .f32) :
    ∀ i ∈ rowSet L, (((pV).slice (Rect.unit (s := S32x4104) (k0_off2 L) S1x4104.size h) ty).squeeze S4104 squeezes_S1x4104_S4104).view.write (Elt F) f
        (accAt AE ZR (rowOf_lt hZ (by decide) (wid L)) (rowOf_lt hG (by decide) (wid L)) 3200) Finset.univ i
      = partial' ZA GA AE ZR hZ hG i := by
  intro i hi
  have hi' := (set_row L h ty).symm ▸ hi
  obtain ⟨x, -, rfl⟩ := Finset.mem_map.mp hi'
  rw [View.write_emb_of_mem _ _ (Finset.mem_univ _), cast_eq]
  have e : (((pV).slice (Rect.unit (s := S32x4104) (k0_off2 L) S1x4104.size h) ty).squeeze S4104 squeezes_S1x4104_S4104).view.emb x
      = ix2 ⟨wid L, wid_lt L⟩ (x 0) := by
    refine (congrArg ((pV).slice (Rect.unit (s := S32x4104) (k0_off2 L) S1x4104.size h) ty).view.emb (reshape_row _ x)).trans ?_
    refine idx2_ext ?_ ?_
    · refine (ValueKit.view_emb_slice_whole_unit_val _ _ _ _ _ _).trans ?_
      exact congrFun (k0_off2_eq L) 0
    · refine (ValueKit.view_emb_slice_whole_unit_val _ _ _ _ _ _).trans ?_
      have e1 : k0_off2 L 1 = 0 := congrFun (k0_off2_eq L) 1
      show k0_off2 L 1 + (x 0).val = (x 0).val
      omega
  rw [e]
  refine congrArg (accAt AE ZR (rowOf_lt hZ (by decide) (wid L)) (rowOf_lt hG (by decide) (wid L)) 3200) ?_
  exact idx1_ext rfl

omit [FloatOps F] in
/-- The four scratch buffers among the tile's own. -/
theorem ownBufs_1 :
    (ownBufs (tV d L) : sProp 𝕄) = iprop((∃ f, (tV d L).loc cc0_scratch0 ↦{fullShare} f) ∗ (∃ f, (tV d L).loc cc0_scratch1 ↦{fullShare} f)
      ∗ (∃ f, (tV d L).loc cc0_scratch2 ↦{fullShare} f) ∗ (∃ f, (tV d L).loc cc0_scratch3 ↦{fullShare} f)
      ∗ bufsBut (tV d L) {(tV d L).2.devRef cc0_scratch3, (tV d L).2.devRef cc0_scratch2, (tV d L).2.devRef cc0_scratch1, (tV d L).2.devRef cc0_scratch0}) := by
  have inj : ∀ a b : Ref sig .scVector, a ≠ b → (tV d L).2.devRef a ≠ (tV d L).2.devRef b := fun _ _ h e => h (Proc.devRef_injective _ e)
  rw [bufsBut_empty]
  refine (bufsBut_take (tV d L) (b := (tV d L).2.devRef cc0_scratch0) (SparseCore.Cfg.mem_ownRefs_of_owner rfl) (by simp)).trans ?_
  rw [bufsBut_take (tV d L) (b := (tV d L).2.devRef cc0_scratch1) (SparseCore.Cfg.mem_ownRefs_of_owner rfl)
      (by simp only [Finset.mem_insert, Finset.notMem_empty, or_false]; exact inj _ _ (by decide)),
    bufsBut_take (tV d L) (b := (tV d L).2.devRef cc0_scratch2) (SparseCore.Cfg.mem_ownRefs_of_owner rfl)
      (by simp only [Finset.mem_insert, Finset.notMem_empty, or_false, not_or]; exact ⟨inj _ _ (by decide), inj _ _ (by decide)⟩),
    bufsBut_take (tV d L) (b := (tV d L).2.devRef cc0_scratch3) (SparseCore.Cfg.mem_ownRefs_of_owner rfl)
      (by simp only [Finset.mem_insert, Finset.notMem_empty, or_false, not_or]; exact ⟨inj _ _ (by decide), inj _ _ (by decide), inj _ _ (by decide)⟩)]
  rfl

/-- What a tile holds while its scratch fills. -/
def Cp (p0 : S32x4104.Idx → Elt F .f32) (R : sProp (MT nD τ sig (HIx 2) (Elt F) ℕ (UU nD τ sig) ℕ)) (z g : S3200.Idx → BitVec 32) (a : S128.Idx → Elt F .f32) (c : S4104.Idx → Elt F .f32) : sProp 𝕄 :=
  iprop((zLoc d ↦{q} ZA) ∗ (gLoc d ↦{q} GA) ∗ (aeLoc d ↦{q} AE) ∗ (zrLoc d ↦{q} ZR) ∗ (partLoc d ↦[rowSet L]{fullShare} p0)
    ∗ ((tV d L).loc cc0_scratch0 ↦{fullShare} z) ∗ ((tV d L).loc cc0_scratch1 ↦{fullShare} g)
    ∗ ((tV d L).loc cc0_scratch2 ↦{fullShare} a) ∗ ((tV d L).loc cc0_scratch3 ↦{fullShare} c) ∗ R)

variable {ZA GA AE ZR q} {p0 : S32x4104.Idx → Elt F .f32} {R : sProp (MT nD τ sig (HIx 2) (Elt F) ℕ (UU nD τ sig) ℕ)}
  {z g : S3200.Idx → BitVec 32} {a : S128.Idx → Elt F .f32} {c : S4104.Idx → Elt F .f32}
  {O : CellTallies nD τ sig (HIx 2)} {W : Waits sig (HIx 2)} {α : Type} {Q : α → sProp (MT nD τ sig (HIx 2) (Elt F) ℕ (UU nD τ sig) ℕ)}
  {k : PUnit → Prog (TpuEff nD τ sig (Elt F) Λ₀ (tV d L).2) α}

local notation "WP" => wp (M := MT nD τ sig (HIx 2) (Elt F) ℕ (UU nD τ sig) ℕ) frame (wpE (defs₀ (F := F)) 𝒱₀ (tV d L) none) Set.univ

abbrev zSl : Memref sig .scVector .hbm S3200 .i32 := (zV).slice (Rect.unit (s := S102400) (k0_off1 L) S3200.size (k0_off1_inb L)) (fun _ => rfl)
abbrev gSl : Memref sig .scVector .hbm S3200 .i32 := (gV).slice (Rect.unit (s := S102400) (k0_off1 L) S3200.size (k0_off1_inb L)) (fun _ => rfl)

set_option maxHeartbeats 1000000 in
/-- The four copies in. -/
theorem part1_copies {hs0 hs0' : (zSl L).view.WordExact} {hs1 hs1' : (gSl L).view.WordExact} {hs2 hs2' : (aV).view.WordExact} {hs3 hs3' : (rV).view.WordExact} {hd0 hd0' : (sZ).view.WordExact} {hd1 hd1' : (sG).view.WordExact} {hd2 hd2' : (sA).view.WordExact} {hd3 hd3' : (sC).view.WordExact}
    {hm0 : DmaTarget.Typed (nD := nD) (τ := τ) (p := (tV d L).2) .hbm (.dma cc0_scoped0.sem) (.here sZ)} {hm1 : DmaTarget.Typed (nD := nD) (τ := τ) (p := (tV d L).2) .hbm (.dma cc0_scoped1.sem) (.here sG)} {hm2 : DmaTarget.Typed (nD := nD) (τ := τ) (p := (tV d L).2) .hbm (.dma cc0_scoped2.sem) (.here sA)} {hm3 : DmaTarget.Typed (nD := nD) (τ := τ) (p := (tV d L).2) .hbm (.dma cc0_scoped3.sem) (.here sC)}
    (hk : St d L AE ZR (rowOf_lt hZ (by decide) (wid L)) (rowOf_lt hG (by decide) (wid L))
      iprop((partLoc d ↦[rowSet L]{fullShare} p0) ∗ R ∗ Own (tV d L) O W) 0 ⊢ WP (k ⟨⟩) Q) :
    iprop(Cp d L ZA GA AE ZR q p0 R z g a c ∗ Own (tV d L) O W)
      ⊢ WP (Prog.lift (TpuEff.enqueueDma (zSl L) (.here sZ) (.dma cc0_scoped0.sem) hs0 hd0 hm0)
          >>= fun _ => Prog.lift (TpuEff.waitDma2 cc0_scoped0.sem (zSl L) sZ hs0' hd0')
          >>= fun _ => Prog.lift (TpuEff.enqueueDma (gSl L) (.here sG) (.dma cc0_scoped1.sem) hs1 hd1 hm1)
          >>= fun _ => Prog.lift (TpuEff.waitDma2 cc0_scoped1.sem (gSl L) sG hs1' hd1')
          >>= fun _ => Prog.lift (TpuEff.enqueueDma aV (.here sA) (.dma cc0_scoped2.sem) hs2 hd2 hm2)
          >>= fun _ => Prog.lift (TpuEff.waitDma2 cc0_scoped2.sem aV sA hs2' hd2')
          >>= fun _ => Prog.lift (TpuEff.enqueueDma rV (.here sC) (.dma cc0_scoped3.sem) hs3 hd3 hm3)
          >>= fun _ => Prog.lift (TpuEff.waitDma2 cc0_scoped3.sem rV sC hs3' hd3') >>= k) Q := by
  unfold Cp
  refine copy_in (defs₀ (F := F)) 𝒱₀ (tV d L) (b := cc0_scratch0) (q := q) (fs := ZA) (fd := z) (v := rowOf ZA (wid L)) O W rfl (View.dmaCredit_pos _ (show 0 < S3200.numel by decide)) (rowOf_read L _ _ ZA)
    (X := iprop((gLoc d ↦{q} GA) ∗ (aeLoc d ↦{q} AE) ∗ (zrLoc d ↦{q} ZR) ∗ (partLoc d ↦[rowSet L]{fullShare} p0) ∗ ((tV d L).loc cc0_scratch1 ↦{fullShare} (g)) ∗ ((tV d L).loc cc0_scratch2 ↦{fullShare} (a)) ∗ ((tV d L).loc cc0_scratch3 ↦{fullShare} (c)) ∗ R)) (B := iprop((zLoc d ↦{q} ZA) ∗ ((tV d L).loc cc0_scratch0 ↦{fullShare} (rowOf ZA (wid L))) ∗ Own (tV d L) O W ∗ (gLoc d ↦{q} GA) ∗ (aeLoc d ↦{q} AE) ∗ (zrLoc d ↦{q} ZR) ∗ (partLoc d ↦[rowSet L]{fullShare} p0) ∗ ((tV d L).loc cc0_scratch1 ↦{fullShare} (g)) ∗ ((tV d L).loc cc0_scratch2 ↦{fullShare} (a)) ∗ ((tV d L).loc cc0_scratch3 ↦{fullShare} (c)) ∗ R)) ?_ .rfl ?_
  · iintro ⟨⟨Hz, Hg, Ha, Hr, Ho, H0, H1, H2, H3, HR⟩, HO⟩; isplitl [Hz]; · iexact Hz
    iframe ∗
  refine copy_in (defs₀ (F := F)) 𝒱₀ (tV d L) (b := cc0_scratch1) (q := q) (fs := GA) (fd := g) (v := rowOf GA (wid L)) O W rfl (View.dmaCredit_pos _ (show 0 < S3200.numel by decide)) (rowOf_readG L _ _ GA)
    (X := iprop((aeLoc d ↦{q} AE) ∗ (zrLoc d ↦{q} ZR) ∗ (partLoc d ↦[rowSet L]{fullShare} p0) ∗ ((tV d L).loc cc0_scratch0 ↦{fullShare} (rowOf ZA (wid L))) ∗ ((tV d L).loc cc0_scratch2 ↦{fullShare} (a)) ∗ ((tV d L).loc cc0_scratch3 ↦{fullShare} (c)) ∗ R)) (B := iprop((gLoc d ↦{q} GA) ∗ ((tV d L).loc cc0_scratch1 ↦{fullShare} (rowOf GA (wid L))) ∗ Own (tV d L) O W ∗ (aeLoc d ↦{q} AE) ∗ (zrLoc d ↦{q} ZR) ∗ (partLoc d ↦[rowSet L]{fullShare} p0) ∗ ((tV d L).loc cc0_scratch0 ↦{fullShare} (rowOf ZA (wid L))) ∗ ((tV d L).loc cc0_scratch2 ↦{fullShare} (a)) ∗ ((tV d L).loc cc0_scratch3 ↦{fullShare} (c)) ∗ R)) ?_ .rfl ?_
  · iintro ⟨-, H0, HO, Hg, Ha, Hr, Ho, H1, H2, H3, HR⟩; isplitl [Hg]; · iexact Hg
    iframe ∗
  refine copy_in (defs₀ (F := F)) 𝒱₀ (tV d L) (b := cc0_scratch2) (q := q) (fs := AE) (fd := a) (v := AE) O W rfl (View.dmaCredit_pos _ (show 0 < S128.numel by decide)) (View.read_whole _ _)
    (X := iprop((zrLoc d ↦{q} ZR) ∗ (partLoc d ↦[rowSet L]{fullShare} p0) ∗ ((tV d L).loc cc0_scratch0 ↦{fullShare} (rowOf ZA (wid L))) ∗ ((tV d L).loc cc0_scratch1 ↦{fullShare} (rowOf GA (wid L))) ∗ ((tV d L).loc cc0_scratch3 ↦{fullShare} (c)) ∗ R)) (B := iprop((aeLoc d ↦{q} AE) ∗ ((tV d L).loc cc0_scratch2 ↦{fullShare} (AE)) ∗ Own (tV d L) O W ∗ (zrLoc d ↦{q} ZR) ∗ (partLoc d ↦[rowSet L]{fullShare} p0) ∗ ((tV d L).loc cc0_scratch0 ↦{fullShare} (rowOf ZA (wid L))) ∗ ((tV d L).loc cc0_scratch1 ↦{fullShare} (rowOf GA (wid L))) ∗ ((tV d L).loc cc0_scratch3 ↦{fullShare} (c)) ∗ R)) ?_ .rfl ?_
  · iintro ⟨-, H1, HO, Ha, Hr, Ho, H0, H2, H3, HR⟩; isplitl [Ha]; · iexact Ha
    iframe ∗
  refine copy_in (defs₀ (F := F)) 𝒱₀ (tV d L) (b := cc0_scratch3) (q := q) (fs := ZR) (fd := c) (v := ZR) O W rfl (View.dmaCredit_pos _ (show 0 < S4104.numel by decide)) (View.read_whole _ _)
    (X := iprop((partLoc d ↦[rowSet L]{fullShare} p0) ∗ ((tV d L).loc cc0_scratch0 ↦{fullShare} (rowOf ZA (wid L))) ∗ ((tV d L).loc cc0_scratch1 ↦{fullShare} (rowOf GA (wid L))) ∗ ((tV d L).loc cc0_scratch2 ↦{fullShare} (AE)) ∗ R)) (B := iprop((zrLoc d ↦{q} ZR) ∗ ((tV d L).loc cc0_scratch3 ↦{fullShare} (ZR)) ∗ Own (tV d L) O W ∗ (partLoc d ↦[rowSet L]{fullShare} p0) ∗ ((tV d L).loc cc0_scratch0 ↦{fullShare} (rowOf ZA (wid L))) ∗ ((tV d L).loc cc0_scratch1 ↦{fullShare} (rowOf GA (wid L))) ∗ ((tV d L).loc cc0_scratch2 ↦{fullShare} (AE)) ∗ R)) ?_ .rfl ?_
  · iintro ⟨-, H2, HO, Hr, Ho, H0, H1, H3, HR⟩; isplitl [Hr]; · iexact Hr
    iframe ∗
  refine BIBase.Entails.trans ?_ hk
  iintro ⟨-, H3, HO, Ho, H0, H1, H2, HR⟩
  unfold St; rw [accAt_zero]
  iframe ∗

abbrev pSl : Memref sig .scVector .hbm S4104 .f32 :=
  ((pV).slice (Rect.unit (s := S32x4104) (k0_off2 L) S1x4104.size (k0_off2_inb L)) (fun _ => rfl)).squeeze S4104 squeezes_S1x4104_S4104

set_option maxHeartbeats 1000000 in
/-- The accumulator copied out. -/
theorem part_out {hs hs' : (sC).view.WordExact} {hd hd' : (pSl L).view.WordExact}
    {hm : DmaTarget.Typed (nD := nD) (τ := τ) (p := (tV d L).2) .vmem (.dma cc0_scoped4.sem) (.here (pSl L))} :
    St d L AE ZR (rowOf_lt hZ (by decide) (wid L)) (rowOf_lt hG (by decide) (wid L))
      iprop((partLoc d ↦[rowSet L]{fullShare} p0) ∗ bufsBut (tV d L) {(tV d L).2.devRef cc0_scratch3, (tV d L).2.devRef cc0_scratch2, (tV d L).2.devRef cc0_scratch1, (tV d L).2.devRef cc0_scratch0} ∗ Own (tV d L) O W) 3200
      ⊢ WP (Prog.lift (TpuEff.enqueueDma sC (.here (pSl L)) (.dma cc0_scoped4.sem) hs hd hm)
          >>= fun _ => Prog.lift (TpuEff.waitDma2 cc0_scoped4.sem sC (pSl L) hs' hd'))
        fun _ => iprop((partLoc d ↦[rowSet L]{fullShare} (partial' ZA GA AE ZR hZ hG)) ∗ ownBufs (tV d L) ∗ Own (tV d L) O W) := by
  refine copy_start_sub (defs₀ (F := F)) 𝒱₀ (tV d L) (q := fullShare) (fs := accAt AE ZR (rowOf_lt hZ (by decide) (wid L)) (rowOf_lt hG (by decide) (wid L)) 3200)
    (fd := p0) (Ss := Finset.univ) (Sd := rowSet L) O W rfl (View.dmaCredit_pos _ (show 0 < S4104.numel by decide)) (Finset.subset_univ _) (set_row L _ _).le
    (X := iprop(((tV d L).loc cc0_scratch0 ↦{fullShare} (rowOf ZA (wid L))) ∗ ((tV d L).loc cc0_scratch1 ↦{fullShare} (rowOf GA (wid L)))
      ∗ ((tV d L).loc cc0_scratch2 ↦{fullShare} AE) ∗ bufsBut (tV d L) {(tV d L).2.devRef cc0_scratch3, (tV d L).2.devRef cc0_scratch2, (tV d L).2.devRef cc0_scratch1, (tV d L).2.devRef cc0_scratch0})) ?_ ?_
  · unfold St; iintro ⟨H0, H1, H2, H3, Ho, HR, HO⟩
    isplitl [H3]; · iexact H3
    isplitl [Ho]; · iexact Ho
    iframe ∗
  refine tail_step (defs₀ (F := F)) 𝒱₀ (tV d L) ?_
  refine copy_wait_sub (defs₀ (F := F)) 𝒱₀ (tV d L) rfl (B := iprop((partLoc d ↦[rowSet L]{fullShare} (partial' ZA GA AE ZR hZ hG)) ∗ ownBufs (tV d L) ∗ Own (tV d L) O W)) ?_
    (pure_step (defs₀ (F := F)) 𝒱₀ (tV d L) .rfl)
  rw [View.read_whole, ownBufs_1]
  iintro ⟨Ho, H3, HO, H0, H1, H2, HR⟩
  isplitl [Ho]
  · iapply (Entails.of_eq (pointsTo_congr (write_row L ZA GA AE ZR hZ hG _ _ p0))) $$ Ho
  isplitr [HO]
  swap; · iexact HO
  isplitl [H0]; · iexists _; iexact H0
  isplitl [H1]; · iexists _; iexact H1
  isplitl [H2]; · iexists _; iexact H2
  isplitl [H3]; · iexists _; iexact H3
  iexact HR

set_option maxHeartbeats 4000000 in
/-- The task of tile `L` on device `d`, once its scratch is opened. -/
theorem tile_run1 :
    iprop(Cp d L ZA GA AE ZR q p0 (bufsBut (tV d L) {(tV d L).2.devRef cc0_scratch3, (tV d L).2.devRef cc0_scratch2, (tV d L).2.devRef cc0_scratch1, (tV d L).2.devRef cc0_scratch0}) z g a c ∗ Own (tV d L) O W)
      ⊢ WP (cc0__pass1 L zV (Memref.isWhole_whole _) gV (Memref.isWhole_whole _) aV (Memref.isWhole_whole _) rV (Memref.isWhole_whole _) pV (Memref.isWhole_whole _)
            sZ (Memref.isWhole_whole _) sG (Memref.isWhole_whole _) sA (Memref.isWhole_whole _) sC (Memref.isWhole_whole _) cc0_scoped0 cc0_scoped1 cc0_scoped2 cc0_scoped3 cc0_scoped4)
          fun _ => iprop((partLoc d ↦[rowSet L]{fullShare} (partial' ZA GA AE ZR hZ hG)) ∗ ownBufs (tV d L) ∗ Own (tV d L) O W) := by
  rw [cc0__pass1_eq_skeleton]; unfold cc0__pass1_skel
  refine bind_step (defs₀ (F := F)) 𝒱₀ (tV d L) ?_
  rw [k0_part1_eq_skeleton]; unfold k0_part1_skel
  refine part1_copies d L hZ hG ?_
  iterate 4
    refine loadZ d L rfl ?_
    refine assume_step (defs₀ (F := F)) 𝒱₀ (tV d L) (win_chk (rowOf_lt hZ (by decide) (wid L)) (by decide) _) ?_
    refine gatherA d L ?_
    refine loadG d L rfl ?_
    refine assume_step (defs₀ (F := F)) 𝒱₀ (tV d L) (win_chk (rowOf_lt hG (by decide) (wid L)) (by decide) _) ?_
    refine scatterC d L rfl ?_
  refine loadZ d L rfl ?_
  refine assume_step (defs₀ (F := F)) 𝒱₀ (tV d L) (win_chk (rowOf_lt hZ (by decide) (wid L)) (by decide) _) ?_
  refine pure_step (defs₀ (F := F)) 𝒱₀ (tV d L) ?_
  iterate 13
    refine bind_step (defs₀ (F := F)) 𝒱₀ (tV d L) ?_
    first
      | (rw [k0_part2_eq_skeleton]; unfold k0_part2_skel)
      | (rw [k0_part4_eq_skeleton]; unfold k0_part4_skel)
      | (rw [k0_part6_eq_skeleton]; unfold k0_part6_skel)
      | (rw [k0_part8_eq_skeleton]; unfold k0_part8_skel)
      | (rw [k0_part10_eq_skeleton]; unfold k0_part10_skel)
      | (rw [k0_part12_eq_skeleton]; unfold k0_part12_skel)
      | (rw [k0_part14_eq_skeleton]; unfold k0_part14_skel)
      | (rw [k0_part16_eq_skeleton]; unfold k0_part16_skel)
      | (rw [k0_part18_eq_skeleton]; unfold k0_part18_skel)
      | (rw [k0_part20_eq_skeleton]; unfold k0_part20_skel)
      | (rw [k0_part22_eq_skeleton]; unfold k0_part22_skel)
      | (rw [k0_part24_eq_skeleton]; unfold k0_part24_skel)
      | (rw [k0_part26_eq_skeleton]; unfold k0_part26_skel)
    refine gatherA d L ?_
    refine loadG d L rfl ?_
    refine assume_step (defs₀ (F := F)) 𝒱₀ (tV d L) (win_chk (rowOf_lt hG (by decide) (wid L)) (by decide) _) ?_
    refine scatterC d L rfl ?_
    iterate 6
      refine loadZ d L rfl ?_
      refine assume_step (defs₀ (F := F)) 𝒱₀ (tV d L) (win_chk (rowOf_lt hZ (by decide) (wid L)) (by decide) _) ?_
      refine gatherA d L ?_
      refine loadG d L rfl ?_
      refine assume_step (defs₀ (F := F)) 𝒱₀ (tV d L) (win_chk (rowOf_lt hG (by decide) (wid L)) (by decide) _) ?_
      refine scatterC d L rfl ?_
    refine loadZ d L rfl ?_
    refine assume_step (defs₀ (F := F)) 𝒱₀ (tV d L) (win_chk (rowOf_lt hZ (by decide) (wid L)) (by decide) _) ?_
    refine gatherA d L ?_
    refine loadG d L rfl ?_
    refine assume_step (defs₀ (F := F)) 𝒱₀ (tV d L) (win_chk (rowOf_lt hG (by decide) (wid L)) (by decide) _) ?_
    refine pure_step (defs₀ (F := F)) 𝒱₀ (tV d L) ?_
    refine bind_step (defs₀ (F := F)) 𝒱₀ (tV d L) ?_
    first
      | (rw [k0_part3_eq_skeleton]; unfold k0_part3_skel)
      | (rw [k0_part5_eq_skeleton]; unfold k0_part5_skel)
      | (rw [k0_part7_eq_skeleton]; unfold k0_part7_skel)
      | (rw [k0_part9_eq_skeleton]; unfold k0_part9_skel)
      | (rw [k0_part11_eq_skeleton]; unfold k0_part11_skel)
      | (rw [k0_part13_eq_skeleton]; unfold k0_part13_skel)
      | (rw [k0_part15_eq_skeleton]; unfold k0_part15_skel)
      | (rw [k0_part17_eq_skeleton]; unfold k0_part17_skel)
      | (rw [k0_part19_eq_skeleton]; unfold k0_part19_skel)
      | (rw [k0_part21_eq_skeleton]; unfold k0_part21_skel)
      | (rw [k0_part23_eq_skeleton]; unfold k0_part23_skel)
      | (rw [k0_part25_eq_skeleton]; unfold k0_part25_skel)
      | (rw [k0_part27_eq_skeleton]; unfold k0_part27_skel)
    refine scatterC d L rfl ?_
    iterate 7
      refine loadZ d L rfl ?_
      refine assume_step (defs₀ (F := F)) 𝒱₀ (tV d L) (win_chk (rowOf_lt hZ (by decide) (wid L)) (by decide) _) ?_
      refine gatherA d L ?_
      refine loadG d L rfl ?_
      refine assume_step (defs₀ (F := F)) 𝒱₀ (tV d L) (win_chk (rowOf_lt hG (by decide) (wid L)) (by decide) _) ?_
      refine scatterC d L rfl ?_
    refine loadZ d L rfl ?_
    refine assume_step (defs₀ (F := F)) 𝒱₀ (tV d L) (win_chk (rowOf_lt hZ (by decide) (wid L)) (by decide) _) ?_
    refine pure_step (defs₀ (F := F)) 𝒱₀ (tV d L) ?_
  refine gatherA d L ?_
  refine loadG d L rfl ?_
  refine assume_step (defs₀ (F := F)) 𝒱₀ (tV d L) (win_chk (rowOf_lt hG (by decide) (wid L)) (by decide) _) ?_
  refine scatterC d L rfl ?_
  exact part_out d L hZ hG

variable (ZA GA AE ZR q p0 O W) in
/-- The task of tile `L` on device `d`. -/
theorem tile_body1 :
    iprop(((zLoc d ↦{q} ZA) ∗ (gLoc d ↦{q} GA) ∗ (aeLoc d ↦{q} AE) ∗ (zrLoc d ↦{q} ZR) ∗ (partLoc d ↦[rowSet L]{fullShare} p0))
        ∗ ownBufs (tV d L) ∗ Own (tV d L) O W)
      ⊢ WP (cc0__pass1 L zV (Memref.isWhole_whole _) gV (Memref.isWhole_whole _) aV (Memref.isWhole_whole _) rV (Memref.isWhole_whole _) pV (Memref.isWhole_whole _)
            sZ (Memref.isWhole_whole _) sG (Memref.isWhole_whole _) sA (Memref.isWhole_whole _) sC (Memref.isWhole_whole _) cc0_scoped0 cc0_scoped1 cc0_scoped2 cc0_scoped3 cc0_scoped4)
          fun _ => iprop((partLoc d ↦[rowSet L]{fullShare} (partial' ZA GA AE ZR hZ hG)) ∗ ownBufs (tV d L) ∗ Own (tV d L) O W) := by
  have h : iprop(((zLoc d ↦{q} ZA) ∗ (gLoc d ↦{q} GA) ∗ (aeLoc d ↦{q} AE) ∗ (zrLoc d ↦{q} ZR) ∗ (partLoc d ↦[rowSet L]{fullShare} p0))
        ∗ ownBufs (tV d L) ∗ Own (tV d L) O W)
      ⊢ iprop(∃ (z g : S3200.Idx → BitVec 32) (a : S128.Idx → Elt F .f32) (c : S4104.Idx → Elt F .f32),
        Cp d L ZA GA AE ZR q p0 (bufsBut (tV d L) {(tV d L).2.devRef cc0_scratch3, (tV d L).2.devRef cc0_scratch2, (tV d L).2.devRef cc0_scratch1, (tV d L).2.devRef cc0_scratch0}) z g a c ∗ Own (tV d L) O W) := by
    rw [ownBufs_1]
    iintro ⟨⟨Hz, Hg, Ha, Hr, Ho⟩, ⟨⟨%f0, H0⟩, ⟨%f1, H1⟩, ⟨%f2, H2⟩, ⟨%f3, H3⟩, HR⟩, HO⟩
    iexists f0, f1, f2, f3
    unfold Cp
    iframe ∗
  exact h.trans (exists_elim fun _ => exists_elim fun _ => exists_elim fun _ => exists_elim fun _ => tile_run1 d L hZ hG)

end Tile

end Cert.Proof.KerI

end
-- ==== Proof.KerITile2.lean ====
/-
  A tile of the second call: its 128 molecules' columns of the table of partial sums copied in row
  by row, with their energies, atom counts, the scale and the shift; eight rounds of sixteen
  molecules, each summing the 32 rows; and the result copied out.
-/
module

public import proofs.«01_k».proof.Proof.KerIBase

@[expose] public section

noncomputable section

namespace Cert.Proof.KerI

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals

variable {F : FTy → Type} [FloatOps F]

local notation "𝕄" => MT nD τ sig (HIx 2) (Elt F) ℕ (UU nD τ sig) ℕ

local notation "pV" => (Memref.whole Cert.KernelIdeal.main_v8_scv : Memref Cert.KernelIdeal.sig Kind.scVector Space.hbm Cert.KernelIdeal.S32x4104 EltTy.f32)
local notation "eV" => (Memref.whole Cert.KernelIdeal.main_arg0_scv : Memref Cert.KernelIdeal.sig Kind.scVector Space.hbm Cert.KernelIdeal.S4096 EltTy.f32)
local notation "nV" => (Memref.whole Cert.KernelIdeal.main_arg1_scv : Memref Cert.KernelIdeal.sig Kind.scVector Space.hbm Cert.KernelIdeal.S4096 EltTy.i32)
local notation "sV" => (Memref.whole Cert.KernelIdeal.main_v9_scv : Memref Cert.KernelIdeal.sig Kind.scVector Space.hbm Cert.KernelIdeal.S16 EltTy.f32)
local notation "hV" => (Memref.whole Cert.KernelIdeal.main_v10_scv : Memref Cert.KernelIdeal.sig Kind.scVector Space.hbm Cert.KernelIdeal.S16 EltTy.f32)
local notation "oV" => (Memref.whole Cert.KernelIdeal.main_v11_scv : Memref Cert.KernelIdeal.sig Kind.scVector Space.hbm Cert.KernelIdeal.S4096 EltTy.f32)
local notation "tB" => (Memref.whole Cert.KernelIdeal.cc1_scratch0 : Memref Cert.KernelIdeal.sig Kind.scVector Space.vmem Cert.KernelIdeal.S32x128 EltTy.f32)
local notation "tE" => (Memref.whole Cert.KernelIdeal.cc1_scratch1 : Memref Cert.KernelIdeal.sig Kind.scVector Space.vmem Cert.KernelIdeal.S128 EltTy.f32)
local notation "tN" => (Memref.whole Cert.KernelIdeal.cc1_scratch2 : Memref Cert.KernelIdeal.sig Kind.scVector Space.vmem Cert.KernelIdeal.S128 EltTy.i32)
local notation "tS" => (Memref.whole Cert.KernelIdeal.cc1_scratch3 : Memref Cert.KernelIdeal.sig Kind.scVector Space.vmem Cert.KernelIdeal.S16 EltTy.f32)
local notation "tH" => (Memref.whole Cert.KernelIdeal.cc1_scratch4 : Memref Cert.KernelIdeal.sig Kind.scVector Space.vmem Cert.KernelIdeal.S16 EltTy.f32)
local notation "tO" => (Memref.whole Cert.KernelIdeal.cc1_scratch5 : Memref Cert.KernelIdeal.sig Kind.scVector Space.vmem Cert.KernelIdeal.S128 EltTy.f32)

variable (d : Dev nD) (L : grid0.Coords)

/-! ## The slices a tile reads and writes -/

section Slices

abbrev rowSrc (off : Fin 2 → ℕ) (h : ∀ a, off a + S1x128.size a ≤ S32x4104.size a) : Memref sig .scVector .hbm S128 .f32 :=
  ((pV).slice (Rect.unit (s := S32x4104) off S1x128.size h) (fun _ => rfl)).squeeze S128 squeezes_S1x128_S128
abbrev rowDst (r : ℕ) (h : ∀ a, (![r, 0] : Fin 2 → ℕ) a + S1x128.size a ≤ S32x128.size a) : Memref sig .scVector .vmem S128 .f32 :=
  ((tB).slice (Rect.unit (s := S32x128) ![r, 0] S1x128.size h) (fun _ => rfl)).squeeze S128 squeezes_S1x128_S128
abbrev eSl : Memref sig .scVector .hbm S128 .f32 := (eV).slice (Rect.unit (s := S4096) (k1_off33 L) S128.size (k1_off33_inb L)) (fun _ => rfl)
abbrev nSl : Memref sig .scVector .hbm S128 .i32 := (nV).slice (Rect.unit (s := S4096) (k1_off33 L) S128.size (k1_off33_inb L)) (fun _ => rfl)
abbrev oSl : Memref sig .scVector .hbm S128 .f32 := (oV).slice (Rect.unit (s := S4096) (k1_off33 L) S128.size (k1_off33_inb L)) (fun _ => rfl)

/-- The molecules of tile `L`. -/
def chunkSet (L : grid0.Coords) : Finset S4096.Idx := Finset.univ.filter fun i => (i 0).val / 128 = wid L

theorem off33_val : k1_off33 L 0 = 128 * wid L := by
  have e : k1_off33 L 0 = 256 * (L 1).val + 128 * (L 0).val := congrFun (k1_off33_eq L) 0
  unfold wid; omega

theorem eSl_read (f : S4096.Idx → Elt F .f32) : (eSl L).view.read (Elt F) f = fun i => fat f (128 * wid L + (i 0).val) := by
  funext x
  rw [View.read_apply, cast_eq]
  refine fat_of f _ ?_
  refine (ValueKit.view_emb_slice_whole_unit_val _ _ _ _ _ _).trans ?_
  exact congrArg (· + (x 0).val) (off33_val L)

theorem nSl_read (f : S4096.Idx → BitVec 32) : (nSl L).view.read (Elt F) f = fun i => fat f (128 * wid L + (i 0).val) := by
  funext x
  rw [View.read_apply, cast_eq]
  refine fat_of f _ ?_
  refine (ValueKit.view_emb_slice_whole_unit_val _ _ _ _ _ _).trans ?_
  exact congrArg (· + (x 0).val) (off33_val L)

theorem set_chunk : (oSl L).view.set = chunkSet L := by
  refine (View.set_slice_whole _ _).trans ?_
  have e0 := off33_val L
  ext i
  refine Rect.mem_set_unit.trans ?_
  unfold chunkSet
  rw [Finset.mem_filter]
  constructor
  · intro H
    have e : k1_off33 L 0 ≤ (i 0).val ∧ (i 0).val < k1_off33 L 0 + 128 := H 0
    exact ⟨Finset.mem_univ _, by omega⟩
  · rintro ⟨-, H⟩ a
    match a with
    | 0 => exact (show k1_off33 L 0 ≤ (i 0).val ∧ (i 0).val < k1_off33 L 0 + 128 by omega)

theorem write_chunk (f : S4096.Idx → Elt F .f32) (R : ℕ → Elt F .f32) :
    ∀ i ∈ chunkSet L, (oSl L).view.write (Elt F) f (fun x => R (128 * wid L + (x 0).val)) Finset.univ i = R (i 0).val := by
  intro i hi
  have hi' := (set_chunk L).symm ▸ hi
  obtain ⟨x, -, rfl⟩ := Finset.mem_map.mp hi'
  rw [View.write_emb_of_mem _ _ (Finset.mem_univ _), cast_eq]
  refine congrArg R ?_
  refine (Eq.trans (ValueKit.view_emb_slice_whole_unit_val _ _ _ _ _ _) ?_).symm
  exact congrArg (· + (x 0).val) (off33_val L)

theorem rowSrc_read {off : Fin 2 → ℕ} (h) {r : ℕ} (ho : off = ![r, 256 * (L 1).val + 128 * (L 0).val]) (P : S32x4104.Idx → Elt F .f32) :
    (rowSrc off h).view.read (Elt F) P = fun x => pat P r (128 * wid L + (x 0).val) := by
  subst ho
  funext x
  rw [View.read_apply, cast_eq]
  have e : (rowSrc ![r, 256 * (L 1).val + 128 * (L 0).val] h).view.emb x
      = ((pV).slice (Rect.unit (s := S32x4104) ![r, 256 * (L 1).val + 128 * (L 0).val] S1x128.size h) (fun _ => rfl)).view.emb (ix2 0 (x 0)) :=
    congrArg ((pV).slice (Rect.unit (s := S32x4104) ![r, 256 * (L 1).val + 128 * (L 0).val] S1x128.size h) (fun _ => rfl)).view.emb (reshape_row _ x)
  refine pat_of P _ ?_ ?_
  · rw [e]; exact ValueKit.view_emb_slice_whole_unit_val _ _ _ _ _ _
  · rw [e]
    refine (ValueKit.view_emb_slice_whole_unit_val _ _ _ _ _ _).trans ?_
    show 256 * (L 1).val + 128 * (L 0).val + (x 0).val = 128 * wid L + (x 0).val
    unfold wid; omega

/-- The rows before `r` filled. -/
def blkAt (B : ℕ → ℕ → Elt F .f32) (f : S32x128.Idx → Elt F .f32) (r : ℕ) : S32x128.Idx → Elt F .f32 :=
  fun i => if (i 0).val < r then B (i 0).val (i 1).val else f i

theorem rowDst_write (r : ℕ) (h) (B : ℕ → ℕ → Elt F .f32) (f : S32x128.Idx → Elt F .f32) :
    (rowDst r h).view.write (Elt F) (blkAt B f r) (fun x => B r (x 0).val) Finset.univ = blkAt B f (r + 1) := by
  have e : ∀ x : S128.Idx, (rowDst r h).view.emb x = ((tB).slice (Rect.unit (s := S32x128) ![r, 0] S1x128.size h) (fun _ => rfl)).view.emb (ix2 0 (x 0)) :=
    fun x => congrArg ((tB).slice (Rect.unit (s := S32x128) ![r, 0] S1x128.size h) (fun _ => rfl)).view.emb (reshape_row _ x)
  have e0 : ∀ x : S128.Idx, (((rowDst r h).view.emb x : S32x128.Idx) 0).val = r := fun x => by
    rw [e x]; exact ValueKit.view_emb_slice_whole_unit_val _ _ _ _ _ _
  have e1 : ∀ x : S128.Idx, (((rowDst r h).view.emb x : S32x128.Idx) 1).val = (x 0).val := fun x => by
    rw [e x]
    refine (ValueKit.view_emb_slice_whole_unit_val _ _ _ _ _ _).trans ?_
    exact Nat.zero_add _
  funext i
  by_cases hi : (i 0).val = r
  · have hx : i = (rowDst r h).view.emb (ix1 (i 1)) := idx2_ext (hi.trans (e0 _).symm) (e1 (ix1 (i 1))).symm
    have := View.write_emb_of_mem (v := (rowDst r h).view) (Val := Elt F) (blkAt B f r) (fun x : S128.Idx => B r (x 0).val) (Finset.mem_univ (ix1 (i 1)))
    rw [hx]
    refine this.trans ?_
    rw [cast_eq]
    unfold blkAt
    rw [if_pos (by rw [e0]; omega), e0, e1]
  · rw [View.write_of_not_mem]
    · unfold blkAt
      by_cases h' : (i 0).val < r
      · rw [if_pos h', if_pos (by omega)]
      · rw [if_neg h', if_neg (by omega)]
    · intro hm
      obtain ⟨x, -, rfl⟩ := Finset.mem_map.mp hm
      exact hi (e0 x)

/-- The molecules before `c` done. -/
def outAt (R : ℕ → Elt F .f32) (f : S128.Idx → Elt F .f32) (c : ℕ) : S128.Idx → Elt F .f32 := fun i => if (i 0).val < c then R (i 0).val else f i

theorem out_write (c : ℕ) (h : ∀ a, (![c] : Fin 1 → ℕ) a + S16.size a ≤ S128.size a) (R : ℕ → Elt F .f32) (f : S128.Idx → Elt F .f32) :
    ((tO).access (Rect.unit (s := S128) ![c] S16.size h)).write (Elt F) (outAt R f c) (fun x => R (c + (x 0).val)) Finset.univ = outAt R f (c + 16) := by
  have e : ∀ x : S16.Idx, ((((tO).access (Rect.unit (s := S128) ![c] S16.size h)).emb x : S128.Idx) 0).val = c + (x 0).val :=
    fun x => ValueKit.view_emb_slice_whole_unit_val _ _ _ _ _ _
  funext i
  by_cases hi : c ≤ (i 0).val ∧ (i 0).val < c + 16
  · have hx : i = ((tO).access (Rect.unit (s := S128) ![c] S16.size h)).emb (ix1 ⟨(i 0).val - c, by omega⟩) :=
      idx1_ext ((show (i 0).val = c + ((i 0).val - c) by omega).trans (e (ix1 ⟨(i 0).val - c, by omega⟩)).symm)
    have := View.write_emb_of_mem (v := ((tO).access (Rect.unit (s := S128) ![c] S16.size h))) (Val := Elt F) (outAt R f c) (fun x : S16.Idx => R (c + (x 0).val))
      (Finset.mem_univ (ix1 ⟨(i 0).val - c, by omega⟩))
    rw [hx]
    refine this.trans ?_
    rw [cast_eq]
    unfold outAt
    have hc : c + ((i 0).val - c) < c + 16 := by omega
    rw [e, if_pos hc]
  · rw [View.write_of_not_mem]
    · unfold outAt
      by_cases h' : (i 0).val < c
      · rw [if_pos h', if_pos (by omega)]
      · rw [if_neg h', if_neg (by omega)]
    · intro hm
      obtain ⟨x, -, rfl⟩ := Finset.mem_map.mp hm
      have hx : (x 0).val < 16 := (x 0).isLt
      have := e x
      omega

end Slices

/-! ## The steps -/

section Steps

variable (P : S32x4104.Idx → Elt F .f32) (EN : S4096.Idx → Elt F .f32) (NA : S4096.Idx → BitVec 32) (s h : Elt F .f32) (q : PosShare TreeShare)
  (o0 : S4096.Idx → Elt F .f32) (R : sProp (MT nD τ sig (HIx 2) (Elt F) ℕ (UU nD τ sig) ℕ)) (O : CellTallies nD τ sig (HIx 2)) (W : Waits sig (HIx 2))

/-- Its state: the scratch at the contents named, and what it was handed. -/
def S2 (b : S32x128.Idx → Elt F .f32) (e : S128.Idx → Elt F .f32) (n : S128.Idx → BitVec 32) (t u : S16.Idx → Elt F .f32) (o : S128.Idx → Elt F .f32) : sProp 𝕄 :=
  iprop(((tV d L).loc cc1_scratch0 ↦{fullShare} b) ∗ ((tV d L).loc cc1_scratch1 ↦{fullShare} e) ∗ ((tV d L).loc cc1_scratch2 ↦{fullShare} n)
    ∗ ((tV d L).loc cc1_scratch3 ↦{fullShare} t) ∗ ((tV d L).loc cc1_scratch4 ↦{fullShare} u) ∗ ((tV d L).loc cc1_scratch5 ↦{fullShare} o)
    ∗ (partLoc d ↦{q} P) ∗ (enLoc d ↦{q} EN) ∗ (naLoc d ↦{q} NA) ∗ (scLoc d ↦{q} (fun _ => s)) ∗ (shLoc d ↦{q} (fun _ => h)) ∗ (outLoc d ↦[chunkSet L]{fullShare} o0)
    ∗ Own (tV d L) O W ∗ R)

variable {P EN NA s h q o0 R O W} {f : S32x128.Idx → Elt F .f32} {b : S32x128.Idx → Elt F .f32} {e : S128.Idx → Elt F .f32} {n : S128.Idx → BitVec 32} {t u : S16.Idx → Elt F .f32} {o : S128.Idx → Elt F .f32}
  {α : Type} {Q : α → sProp (MT nD τ sig (HIx 2) (Elt F) ℕ (UU nD τ sig) ℕ)} {k : PUnit → Prog (TpuEff nD τ sig (Elt F) Λ₀ (tV d L).2) α}

local notation "WP" => wp (M := MT nD τ sig (HIx 2) (Elt F) ℕ (UU nD τ sig) ℕ) frame (wpE (defs₀ (F := F)) 𝒱₀ (tV d L) none) Set.univ

variable (P EN NA s h q o0 R O W f e n t u o) in
/-- The copy of row `r` under way. -/
def RowMid (r : ℕ) (sm : DmaSem sig) (N : ℕ) (S : Finset S32x4104.Idx) : sProp 𝕄 :=
  Mid (tV d L) O W sm N
    iprop(((tV d L).loc cc1_scratch0 ↦{fullShare} (blkAt (fun r j => pat P r (128 * wid L + j)) f (r + 1))) ∗ (partLoc d ↦[S]{q} P))
    iprop(((partLoc d ↦[S]{q} P) -∗ (partLoc d ↦{q} P))
      ∗ ((tV d L).loc cc1_scratch1 ↦{fullShare} e) ∗ ((tV d L).loc cc1_scratch2 ↦{fullShare} n)
      ∗ ((tV d L).loc cc1_scratch3 ↦{fullShare} t) ∗ ((tV d L).loc cc1_scratch4 ↦{fullShare} u) ∗ ((tV d L).loc cc1_scratch5 ↦{fullShare} o)
      ∗ (enLoc d ↦{q} EN) ∗ (naLoc d ↦{q} NA) ∗ (scLoc d ↦{q} (fun _ => s)) ∗ (shLoc d ↦{q} (fun _ => h)) ∗ (outLoc d ↦[chunkSet L]{fullShare} o0) ∗ R)

theorem rowEnq {r : ℕ} {off : Fin 2 → ℕ} [co : ClosedOff off] {hi : ∀ a, off a + S1x128.size a ≤ S32x4104.size a} {hi' : ∀ a, (![r, 0] : Fin 2 → ℕ) a + S1x128.size a ≤ S32x128.size a}
    {sm : DmaSem sig} {hs : (rowSrc off hi).view.WordExact} {hd : (rowDst r hi').view.WordExact} {hm : DmaTarget.Typed (nD := nD) (τ := τ) (p := (tV d L).2) .hbm (.dma sm) (.here (rowDst r hi'))}
    (ho : co.form = ![r, 256 * (L 1).val + 128 * (L 0).val]) (hsm : (SemLoc.dma sm : SemLoc sig).isScoped .scVector = true)
    (hk : RowMid d L P EN NA s h q o0 R O W f e n t u o r sm (rowDst r hi').view.dmaCredit (rowSrc off hi).view.set ⊢ WP (k ⟨⟩) Q) :
    S2 d L P EN NA s h q o0 R O W (blkAt (fun r j => pat P r (128 * wid L + j)) f r) e n t u o
      ⊢ WP (Prog.lift (TpuEff.enqueueDma (rowSrc off hi) (.here (rowDst r hi')) (.dma sm) hs hd hm) >>= k) Q := by
  refine copy_start_sub (defs₀ (F := F)) 𝒱₀ (tV d L) (q := q) (fs := P) (fd := blkAt (fun r j => pat P r (128 * wid L + j)) f r) (Ss := Finset.univ) (Sd := Finset.univ) O W hsm
    (View.dmaCredit_pos _ (show 0 < S128.numel by decide)) (Finset.subset_univ _) (Finset.subset_univ _)
    (X := iprop(((tV d L).loc cc1_scratch1 ↦{fullShare} e) ∗ ((tV d L).loc cc1_scratch2 ↦{fullShare} n)
      ∗ ((tV d L).loc cc1_scratch3 ↦{fullShare} t) ∗ ((tV d L).loc cc1_scratch4 ↦{fullShare} u) ∗ ((tV d L).loc cc1_scratch5 ↦{fullShare} o)
      ∗ (enLoc d ↦{q} EN) ∗ (naLoc d ↦{q} NA) ∗ (scLoc d ↦{q} (fun _ => s)) ∗ (shLoc d ↦{q} (fun _ => h)) ∗ (outLoc d ↦[chunkSet L]{fullShare} o0) ∗ R)) ?_ ?_
  · unfold S2; iintro ⟨Hb, He, Hn, Ht, Hu, Ho, Hp, HE, HN, HS, HH, HO, HW, HR⟩
    isplitl [Hp]; · iexact Hp
    isplitl [Hb]; · iexact Hb
    iframe ∗
  rw [rowSrc_read L hi (co.eq.trans ho), rowDst_write r hi' (fun r j => pat P r (128 * wid L + j)) f]
  exact hk

theorem rowWait {r : ℕ} {off : Fin 2 → ℕ} {hi : ∀ a, off a + S1x128.size a ≤ S32x4104.size a} {hi' : ∀ a, (![r, 0] : Fin 2 → ℕ) a + S1x128.size a ≤ S32x128.size a}
    {sm : DmaSem sig} {hs : (rowSrc off hi).view.WordExact} {hd : (rowDst r hi').view.WordExact} {S : Finset S32x4104.Idx}
    (hk : S2 d L P EN NA s h q o0 R O W (blkAt (fun r j => pat P r (128 * wid L + j)) f (r + 1)) e n t u o ⊢ WP (k ⟨⟩) Q) :
    RowMid d L P EN NA s h q o0 R O W f e n t u o r sm (rowDst r hi').view.dmaCredit S
      ⊢ WP (Prog.lift (TpuEff.waitDma2 sm (rowSrc off hi) (rowDst r hi') hs hd) >>= k) Q := by
  unfold RowMid
  refine copy_wait_sub (defs₀ (F := F)) 𝒱₀ (tV d L) rfl
    (B := S2 d L P EN NA s h q o0 R O W (blkAt (fun r j => pat P r (128 * wid L + j)) f (r + 1)) e n t u o) ?_ hk
  iintro ⟨Hb, Hp, HO, HX⟩
  unfold S2; iframe ∗

variable (P EN NA s h q o0 R O W b n t u o) in
/-- The copy of the energies under way. -/
def EnMid (sm : DmaSem sig) (N : ℕ) (S : Finset S4096.Idx) : sProp 𝕄 :=
  Mid (tV d L) O W sm N
    iprop(((tV d L).loc cc1_scratch1 ↦{fullShare} (fun i => fat EN (128 * wid L + (i 0).val))) ∗ (enLoc d ↦[S]{q} EN))
    iprop(((enLoc d ↦[S]{q} EN) -∗ (enLoc d ↦{q} EN))
      ∗ ((tV d L).loc cc1_scratch0 ↦{fullShare} b) ∗ ((tV d L).loc cc1_scratch2 ↦{fullShare} n)
      ∗ ((tV d L).loc cc1_scratch3 ↦{fullShare} t) ∗ ((tV d L).loc cc1_scratch4 ↦{fullShare} u) ∗ ((tV d L).loc cc1_scratch5 ↦{fullShare} o)
      ∗ (partLoc d ↦{q} P) ∗ (naLoc d ↦{q} NA) ∗ (scLoc d ↦{q} (fun _ => s)) ∗ (shLoc d ↦{q} (fun _ => h)) ∗ (outLoc d ↦[chunkSet L]{fullShare} o0) ∗ R)

theorem enEnq {sm : DmaSem sig} {hs : (eSl L).view.WordExact} {hd : (tE).view.WordExact} {hm : DmaTarget.Typed (nD := nD) (τ := τ) (p := (tV d L).2) .hbm (.dma sm) (.here tE)}
    (hsm : (SemLoc.dma sm : SemLoc sig).isScoped .scVector = true)
    (hk : EnMid d L P EN NA s h q o0 R O W b n t u o sm (tE).view.dmaCredit (eSl L).view.set ⊢ WP (k ⟨⟩) Q) :
    S2 d L P EN NA s h q o0 R O W b e n t u o ⊢ WP (Prog.lift (TpuEff.enqueueDma (eSl L) (.here tE) (.dma sm) hs hd hm) >>= k) Q := by
  refine copy_start_sub (defs₀ (F := F)) 𝒱₀ (tV d L) (q := q) (fs := EN) (fd := e) (Ss := Finset.univ) (Sd := Finset.univ) O W hsm
    (View.dmaCredit_pos _ (show 0 < S128.numel by decide)) (Finset.subset_univ _) (Finset.subset_univ _)
    (X := iprop(((tV d L).loc cc1_scratch0 ↦{fullShare} b) ∗ ((tV d L).loc cc1_scratch2 ↦{fullShare} n)
      ∗ ((tV d L).loc cc1_scratch3 ↦{fullShare} t) ∗ ((tV d L).loc cc1_scratch4 ↦{fullShare} u) ∗ ((tV d L).loc cc1_scratch5 ↦{fullShare} o)
      ∗ (partLoc d ↦{q} P) ∗ (naLoc d ↦{q} NA) ∗ (scLoc d ↦{q} (fun _ => s)) ∗ (shLoc d ↦{q} (fun _ => h)) ∗ (outLoc d ↦[chunkSet L]{fullShare} o0) ∗ R)) ?_ ?_
  · unfold S2; iintro ⟨Hb, He, Hn, Ht, Hu, Ho, Hp, HE, HN, HS, HH, HO, HW, HR⟩
    isplitl [HE]; · iexact HE
    isplitl [He]; · iexact He
    iframe ∗
  rw [View.write_whole_univ, eSl_read]
  exact hk

theorem enWait {sm : DmaSem sig} {hs : (eSl L).view.WordExact} {hd : (tE).view.WordExact} {S : Finset S4096.Idx}
    (hk : S2 d L P EN NA s h q o0 R O W b (fun i => fat EN (128 * wid L + (i 0).val)) n t u o ⊢ WP (k ⟨⟩) Q) :
    EnMid d L P EN NA s h q o0 R O W b n t u o sm (tE).view.dmaCredit S ⊢ WP (Prog.lift (TpuEff.waitDma2 sm (eSl L) tE hs hd) >>= k) Q := by
  unfold EnMid
  refine copy_wait_sub (defs₀ (F := F)) 𝒱₀ (tV d L) rfl
    (B := S2 d L P EN NA s h q o0 R O W b (fun i => fat EN (128 * wid L + (i 0).val)) n t u o) ?_ hk
  iintro ⟨He, HE, HO, HX⟩
  unfold S2; iframe ∗

set_option maxHeartbeats 1000000 in
theorem restCopies {hs1 hs1' : (nSl L).view.WordExact} {hs2 hs2' : (sV).view.WordExact} {hs3 hs3' : (hV).view.WordExact}
    {hd1 hd1' : (tN).view.WordExact} {hd2 hd2' : (tS).view.WordExact} {hd3 hd3' : (tH).view.WordExact}
    {hm1 : DmaTarget.Typed (nD := nD) (τ := τ) (p := (tV d L).2) .hbm (.dma cc1_scoped33.sem) (.here tN)}
    {hm2 : DmaTarget.Typed (nD := nD) (τ := τ) (p := (tV d L).2) .hbm (.dma cc1_scoped34.sem) (.here tS)}
    {hm3 : DmaTarget.Typed (nD := nD) (τ := τ) (p := (tV d L).2) .hbm (.dma cc1_scoped35.sem) (.here tH)}
    (hk : S2 d L P EN NA s h q o0 R O W b e (fun i => fat NA (128 * wid L + (i 0).val)) (fun _ => s) (fun _ => h) o ⊢ WP (k ⟨⟩) Q) :
    S2 d L P EN NA s h q o0 R O W b e n t u o
      ⊢ WP (Prog.lift (TpuEff.enqueueDma (nSl L) (.here tN) (.dma cc1_scoped33.sem) hs1 hd1 hm1)
          >>= fun _ => Prog.lift (TpuEff.waitDma2 cc1_scoped33.sem (nSl L) tN hs1' hd1')
          >>= fun _ => Prog.lift (TpuEff.enqueueDma sV (.here tS) (.dma cc1_scoped34.sem) hs2 hd2 hm2)
          >>= fun _ => Prog.lift (TpuEff.waitDma2 cc1_scoped34.sem sV tS hs2' hd2')
          >>= fun _ => Prog.lift (TpuEff.enqueueDma hV (.here tH) (.dma cc1_scoped35.sem) hs3 hd3 hm3)
          >>= fun _ => Prog.lift (TpuEff.waitDma2 cc1_scoped35.sem hV tH hs3' hd3') >>= k) Q := by
  refine copy_in (defs₀ (F := F)) 𝒱₀ (tV d L) (b := cc1_scratch2) (q := q) (fs := NA) (fd := n) O W rfl (View.dmaCredit_pos _ (show 0 < S128.numel by decide)) (nSl_read L NA)
    (B := S2 d L P EN NA s h q o0 R O W b e (fun i => fat NA (128 * wid L + (i 0).val)) t u o)
    (X := iprop(((tV d L).loc cc1_scratch0 ↦{fullShare} b) ∗ ((tV d L).loc cc1_scratch1 ↦{fullShare} e)
      ∗ ((tV d L).loc cc1_scratch3 ↦{fullShare} t) ∗ ((tV d L).loc cc1_scratch4 ↦{fullShare} u) ∗ ((tV d L).loc cc1_scratch5 ↦{fullShare} o)
      ∗ (partLoc d ↦{q} P) ∗ (enLoc d ↦{q} EN) ∗ (scLoc d ↦{q} (fun _ => s)) ∗ (shLoc d ↦{q} (fun _ => h)) ∗ (outLoc d ↦[chunkSet L]{fullShare} o0) ∗ R)) ?_ ?_ ?_
  · unfold S2; iintro ⟨Hb, He, Hn, Ht, Hu, Ho, Hp, HE, HN, HS, HH, HO, HW, HR⟩
    isplitl [HN]; · iexact HN
    iframe ∗
  · unfold S2; iintro ⟨HN, Hn, HW, Hb, He, Ht, Hu, Ho, Hp, HE, HS, HH, HO, HR⟩
    isplitl [Hb]; · iexact Hb
    isplitl [He]; · iexact He
    isplitl [Hn]; · iexact Hn
    isplitl [Ht]; · iexact Ht
    isplitl [Hu]; · iexact Hu
    isplitl [Ho]; · iexact Ho
    isplitl [Hp]; · iexact Hp
    isplitl [HE]; · iexact HE
    isplitl [HN]; · iexact HN
    iframe ∗
  refine copy_in (defs₀ (F := F)) 𝒱₀ (tV d L) (b := cc1_scratch3) (q := q) (fs := fun _ => s) (fd := t) O W rfl (View.dmaCredit_pos _ (show 0 < S16.numel by decide)) (View.read_whole _ _)
    (B := S2 d L P EN NA s h q o0 R O W b e (fun i => fat NA (128 * wid L + (i 0).val)) (fun _ => s) u o)
    (X := iprop(((tV d L).loc cc1_scratch0 ↦{fullShare} b) ∗ ((tV d L).loc cc1_scratch1 ↦{fullShare} e) ∗ ((tV d L).loc cc1_scratch2 ↦{fullShare} (fun i => fat NA (128 * wid L + (i 0).val)))
      ∗ ((tV d L).loc cc1_scratch4 ↦{fullShare} u) ∗ ((tV d L).loc cc1_scratch5 ↦{fullShare} o)
      ∗ (partLoc d ↦{q} P) ∗ (enLoc d ↦{q} EN) ∗ (naLoc d ↦{q} NA) ∗ (shLoc d ↦{q} (fun _ => h)) ∗ (outLoc d ↦[chunkSet L]{fullShare} o0) ∗ R)) ?_ ?_ ?_
  · unfold S2; iintro ⟨Hb, He, Hn, Ht, Hu, Ho, Hp, HE, HN, HS, HH, HO, HW, HR⟩
    isplitl [HS]; · iexact HS
    iframe ∗
  · unfold S2; iintro ⟨HS, Ht, HW, Hb, He, Hn, Hu, Ho, Hp, HE, HN, HH, HO, HR⟩
    isplitl [Hb]; · iexact Hb
    isplitl [He]; · iexact He
    isplitl [Hn]; · iexact Hn
    isplitl [Ht]; · iexact Ht
    isplitl [Hu]; · iexact Hu
    isplitl [Ho]; · iexact Ho
    isplitl [Hp]; · iexact Hp
    isplitl [HE]; · iexact HE
    isplitl [HN]; · iexact HN
    isplitl [HS]; · iexact HS
    iframe ∗
  refine copy_in (defs₀ (F := F)) 𝒱₀ (tV d L) (b := cc1_scratch4) (q := q) (fs := fun _ => h) (fd := u) O W rfl (View.dmaCredit_pos _ (show 0 < S16.numel by decide)) (View.read_whole _ _)
    (B := S2 d L P EN NA s h q o0 R O W b e (fun i => fat NA (128 * wid L + (i 0).val)) (fun _ => s) (fun _ => h) o)
    (X := iprop(((tV d L).loc cc1_scratch0 ↦{fullShare} b) ∗ ((tV d L).loc cc1_scratch1 ↦{fullShare} e) ∗ ((tV d L).loc cc1_scratch2 ↦{fullShare} (fun i => fat NA (128 * wid L + (i 0).val)))
      ∗ ((tV d L).loc cc1_scratch3 ↦{fullShare} (fun _ => s)) ∗ ((tV d L).loc cc1_scratch5 ↦{fullShare} o)
      ∗ (partLoc d ↦{q} P) ∗ (enLoc d ↦{q} EN) ∗ (naLoc d ↦{q} NA) ∗ (scLoc d ↦{q} (fun _ => s)) ∗ (outLoc d ↦[chunkSet L]{fullShare} o0) ∗ R)) ?_ ?_ hk
  · unfold S2; iintro ⟨Hb, He, Hn, Ht, Hu, Ho, Hp, HE, HN, HS, HH, HO, HW, HR⟩
    isplitl [HH]; · iexact HH
    iframe ∗
  · unfold S2; iintro ⟨HH, Hu, HW, Hb, He, Hn, Ht, Ho, Hp, HE, HN, HS, HO, HR⟩
    isplitl [Hb]; · iexact Hb
    isplitl [He]; · iexact He
    isplitl [Hn]; · iexact Hn
    isplitl [Ht]; · iexact Ht
    isplitl [Hu]; · iexact Hu
    isplitl [Ho]; · iexact Ho
    isplitl [Hp]; · iexact Hp
    isplitl [HE]; · iexact HE
    isplitl [HN]; · iexact HN
    isplitl [HS]; · iexact HS
    isplitl [HH]; · iexact HH
    iframe ∗

variable (P EN NA s h q o0 R O W f o) in
/-- Everything copied in, and the molecules before `c` done. -/
def Rdy (c : ℕ) : sProp 𝕄 :=
  S2 d L P EN NA s h q o0 R O W (blkAt (fun r j => pat P r (128 * wid L + j)) f 32) (fun i => fat EN (128 * wid L + (i 0).val)) (fun i => fat NA (128 * wid L + (i 0).val))
    (fun _ => s) (fun _ => h) (outAt (fun j => resAt EN NA s h P (128 * wid L + j)) o c)

theorem toRdy {X : sProp (MT nD τ sig (HIx 2) (Elt F) ℕ (UU nD τ sig) ℕ)} (hk : Rdy d L P EN NA s h q o0 R O W f o 0 ⊢ X) :
    S2 d L P EN NA s h q o0 R O W (blkAt (fun r j => pat P r (128 * wid L + j)) f 32) (fun i => fat EN (128 * wid L + (i 0).val)) (fun i => fat NA (128 * wid L + (i 0).val))
      (fun _ => s) (fun _ => h) o ⊢ X := by
  unfold Rdy at hk
  rwa [show outAt (fun j => resAt EN NA s h P (128 * wid L + j)) o 0 = o from funext fun i => if_neg (Nat.not_lt_zero _)] at hk

/-- Sixteen entries of a row of the block, as they are loaded. -/
def rowv (P : S32x4104.Idx → Elt F .f32) (r c : ℕ) : S1x16.Idx → Elt F .f32 := fun x => pat P r (128 * wid L + (c + (x 1).val))

theorem cast_rowv (r c : ℕ) (x : S16.Idx) : shapeCast S16 (rowv L P r c) shapeCasts_S1x16_S16 x = pat P r (128 * wid L + (c + (x 0).val)) :=
  congrArg (rowv L P r c) (reshape_row _ x)

theorem read_tB {r c : ℕ} (hr : r < 32) (inb : ∀ a, (![r, c] : Fin 2 → ℕ) a + S1x16.size a ≤ S32x128.size a) :
    (tB).view.readAt (Elt F) (Rect.unit (s := S32x128) ![r, c] S1x16.size inb).toLoadRect (blkAt (fun r j => pat P r (128 * wid L + j)) f 32) = rowv L P r c := by
  funext x
  have e0 : ((((tB).access (Rect.unit (s := S32x128) ![r, c] S1x16.size inb)).emb x : S32x128.Idx) 0).val = r := by
    refine (ValueKit.view_emb_slice_whole_unit_val _ _ _ _ _ _).trans ?_
    have : (x 0).val < 1 := (x 0).isLt
    show r + (x 0).val = r
    omega
  have e1 : ((((tB).access (Rect.unit (s := S32x128) ![r, c] S1x16.size inb)).emb x : S32x128.Idx) 1).val = c + (x 1).val :=
    ValueKit.view_emb_slice_whole_unit_val _ _ _ _ _ _
  rw [View.readAt_rect, View.read_apply, cast_eq]
  refine (if_pos (e0.trans_lt hr)).trans ?_
  show pat P _ (128 * wid L + _) = _
  rw [e0, e1]; rfl

theorem read_tE {c : ℕ} (inb : ∀ a, (![c] : Fin 1 → ℕ) a + S16.size a ≤ S128.size a) :
    (tE).view.readAt (Elt F) (Rect.unit (s := S128) ![c] S16.size inb).toLoadRect (fun i => fat EN (128 * wid L + (i 0).val)) = fun x => fat EN (128 * wid L + (c + (x 0).val)) := by
  funext x
  rw [View.readAt_rect, View.read_apply, cast_eq]
  exact congrArg (fun n => fat EN (128 * wid L + n)) (ValueKit.view_emb_slice_whole_unit_val _ _ _ _ _ _)

theorem read_tN {c : ℕ} (inb : ∀ a, (![c] : Fin 1 → ℕ) a + S16.size a ≤ S128.size a) :
    (tN).view.readAt (Elt F) (Rect.unit (s := S128) ![c] S16.size inb).toLoadRect (fun i => fat NA (128 * wid L + (i 0).val)) = fun x => fat NA (128 * wid L + (c + (x 0).val)) := by
  funext x
  rw [View.readAt_rect, View.read_apply, cast_eq]
  exact congrArg (fun n => fat NA (128 * wid L + n)) (ValueKit.view_emb_slice_whole_unit_val _ _ _ _ _ _)

variable {c : ℕ}

theorem loadB {r c' : ℕ} {inb : ∀ a, (![r, c'] : Fin 2 → ℕ) a + S1x16.size a ≤ S32x128.size a} {hl}
    {k : (S1x16.Idx → Elt F .f32) → Prog (TpuEff nD τ sig (Elt F) Λ₀ (tV d L).2) α} (hr : r < 32)
    (hk : Rdy d L P EN NA s h q o0 R O W f o c ⊢ WP (k (rowv L P r c')) Q) :
    Rdy d L P EN NA s h q o0 R O W f o c ⊢ WP (Prog.lift (.load tB (Rect.unit (s := S32x128) ![r, c'] S1x16.size inb).toLoadRect hl) >>= k) Q := by
  refine load_step (defs₀ (F := F)) 𝒱₀ (tV d L) (S := Finset.univ) (q := fullShare) (f := blkAt (fun r j => pat P r (128 * wid L + j)) f 32) (Finset.subset_univ _)
    (B := Rdy d L P EN NA s h q o0 R O W f o c) .rfl .rfl ?_
  rw [read_tB L hr]; exact hk

theorem loadE {c' : ℕ} {inb : ∀ a, (![c'] : Fin 1 → ℕ) a + S16.size a ≤ S128.size a} {hl}
    {k : (S16.Idx → Elt F .f32) → Prog (TpuEff nD τ sig (Elt F) Λ₀ (tV d L).2) α}
    (hk : Rdy d L P EN NA s h q o0 R O W f o c ⊢ WP (k (fun x => fat EN (128 * wid L + (c' + (x 0).val)))) Q) :
    Rdy d L P EN NA s h q o0 R O W f o c ⊢ WP (Prog.lift (.load tE (Rect.unit (s := S128) ![c'] S16.size inb).toLoadRect hl) >>= k) Q := by
  refine load_step (defs₀ (F := F)) 𝒱₀ (tV d L) (S := Finset.univ) (q := fullShare) (f := fun i => fat EN (128 * wid L + (i 0).val)) (Finset.subset_univ _)
    (B := Rdy d L P EN NA s h q o0 R O W f o c) sep_left_comm.1 sep_left_comm.1 ?_
  rw [read_tE L]; exact hk

theorem loadN {c' : ℕ} {inb : ∀ a, (![c'] : Fin 1 → ℕ) a + S16.size a ≤ S128.size a} {hl}
    {k : (S16.Idx → BitVec 32) → Prog (TpuEff nD τ sig (Elt F) Λ₀ (tV d L).2) α}
    (hk : Rdy d L P EN NA s h q o0 R O W f o c ⊢ WP (k (fun x => fat NA (128 * wid L + (c' + (x 0).val)))) Q) :
    Rdy d L P EN NA s h q o0 R O W f o c ⊢ WP (Prog.lift (.load tN (Rect.unit (s := S128) ![c'] S16.size inb).toLoadRect hl) >>= k) Q := by
  refine load_step (defs₀ (F := F)) 𝒱₀ (tV d L) (S := Finset.univ) (q := fullShare) (f := fun i => fat NA (128 * wid L + (i 0).val)) (Finset.subset_univ _)
    (B := Rdy d L P EN NA s h q o0 R O W f o c) ((sep_mono_right sep_left_comm.1).trans sep_left_comm.1) (sep_left_comm.1.trans (sep_mono_right sep_left_comm.1)) ?_
  rw [read_tN L]; exact hk

/-- The first three contents of a state taken off, the fourth in front. -/
theorem front4 {A1 A2 A3 A4 X : sProp (MT nD τ sig (HIx 2) (Elt F) ℕ (UU nD τ sig) ℕ)} :
    iprop(A1 ∗ A2 ∗ A3 ∗ A4 ∗ X) ⊣⊢ iprop(A4 ∗ A1 ∗ A2 ∗ A3 ∗ X) := by
  isplit
  · iintro ⟨H1, H2, H3, H4, HX⟩; iframe ∗
  · iintro ⟨H4, H1, H2, H3, HX⟩; iframe ∗

theorem loadS {inb : ∀ a, (![0] : Fin 1 → ℕ) a + S16.size a ≤ S16.size a} {hl}
    {k : (S16.Idx → Elt F .f32) → Prog (TpuEff nD τ sig (Elt F) Λ₀ (tV d L).2) α}
    (hk : Rdy d L P EN NA s h q o0 R O W f o c ⊢ WP (k (fun _ => s)) Q) :
    Rdy d L P EN NA s h q o0 R O W f o c ⊢ WP (Prog.lift (.load tS (Rect.unit (s := S16) ![0] S16.size inb).toLoadRect hl) >>= k) Q :=
  load_step (defs₀ (F := F)) 𝒱₀ (tV d L) (S := Finset.univ) (q := fullShare) (f := fun _ => s) (Finset.subset_univ _)
    (B := Rdy d L P EN NA s h q o0 R O W f o c) front4.1 front4.2 hk

theorem loadH {inb : ∀ a, (![0] : Fin 1 → ℕ) a + S16.size a ≤ S16.size a} {hl}
    {k : (S16.Idx → Elt F .f32) → Prog (TpuEff nD τ sig (Elt F) Λ₀ (tV d L).2) α}
    (hk : Rdy d L P EN NA s h q o0 R O W f o c ⊢ WP (k (fun _ => h)) Q) :
    Rdy d L P EN NA s h q o0 R O W f o c ⊢ WP (Prog.lift (.load tH (Rect.unit (s := S16) ![0] S16.size inb).toLoadRect hl) >>= k) Q :=
  load_step (defs₀ (F := F)) 𝒱₀ (tV d L) (S := Finset.univ) (q := fullShare) (f := fun _ => h) (Finset.subset_univ _)
    (B := Rdy d L P EN NA s h q o0 R O W f o c) ((sep_mono_right front4.1).trans sep_left_comm.1) (sep_left_comm.1.trans (sep_mono_right front4.2)) hk

/-- The sixth content of a state in front. -/
theorem front6 {A1 A2 A3 A4 A5 A6 X : sProp (MT nD τ sig (HIx 2) (Elt F) ℕ (UU nD τ sig) ℕ)} :
    iprop(A1 ∗ A2 ∗ A3 ∗ A4 ∗ A5 ∗ A6 ∗ X) ⊣⊢ iprop(A6 ∗ A1 ∗ A2 ∗ A3 ∗ A4 ∗ A5 ∗ X) := by
  isplit
  · iintro ⟨H1, H2, H3, H4, H5, H6, HX⟩; iframe ∗
  · iintro ⟨H6, H1, H2, H3, H4, H5, HX⟩; iframe ∗

/-- The load before a store, whose value goes nowhere. -/
theorem loadD {c' : ℕ} {inb : ∀ a, (![c'] : Fin 1 → ℕ) a + S16.size a ≤ S128.size a} {hl}
    {k : (S16.Idx → Elt F .f32) → Prog (TpuEff nD τ sig (Elt F) Λ₀ (tV d L).2) α}
    (hk : ∀ v, Rdy d L P EN NA s h q o0 R O W f o c ⊢ WP (k v) Q) :
    Rdy d L P EN NA s h q o0 R O W f o c ⊢ WP (Prog.lift (.load tO (Rect.unit (s := S128) ![c'] S16.size inb).toLoadRect hl) >>= k) Q :=
  load_step (defs₀ (F := F)) 𝒱₀ (tV d L) (S := Finset.univ) (q := fullShare) (f := outAt (fun j => resAt EN NA s h P (128 * wid L + j)) o c) (Finset.subset_univ _)
    (B := Rdy d L P EN NA s h q o0 R O W f o c) front6.1 front6.2 (hk _)

theorem storeO {inb : ∀ a, (![c] : Fin 1 → ℕ) a + S16.size a ≤ S128.size a} {w : S16.Idx → Elt F .f32} {hx hm}
    (hw : w = fun x => FloatOps.addf (FloatOps.addf (FloatOps.mulf (fat EN (128 * wid L + (c + (x 0).val))) s)
        (FloatOps.mulf (FloatOps.sitofp .f32 (fat NA (128 * wid L + (c + (x 0).val)))) h)) (colSum (fun r => shapeCast S16 (rowv L P r c) shapeCasts_S1x16_S16 x) 31))
    (hk : Rdy d L P EN NA s h q o0 R O W f o (c + 16) ⊢ WP (k ⟨⟩) Q) :
    Rdy d L P EN NA s h q o0 R O W f o c ⊢ WP (Prog.lift (.store tO (Rect.unit (s := S128) ![c] S16.size inb) w Finset.univ hx hm) >>= k) Q := by
  have hw' : w = fun x => resAt EN NA s h P (128 * wid L + (c + (x 0).val)) :=
    hw.trans (funext fun x => congrArg (fun g => FloatOps.addf _ (colSum g 31)) (funext fun r => cast_rowv L r c x))
  subst hw'
  refine store_step (defs₀ (F := F)) 𝒱₀ (tV d L) (S := Finset.univ) (f := outAt (fun j => resAt EN NA s h P (128 * wid L + j)) o c) (Finset.subset_univ _)
    (B := Rdy d L P EN NA s h q o0 R O W f o (c + 16)) front6.1 ?_ hk
  refine BIBase.Entails.trans (sep_mono_left (Entails.of_eq ?_)) front6.2
  exact congrArg (fun v => iprop((tV d L).loc cc1_scratch5 ↦{fullShare} v)) (out_write c inb (fun j => resAt EN NA s h P (128 * wid L + j)) o)

end Steps

/-! ## The scratch, and the result copied out -/

theorem ownBufs_2 :
    (ownBufs (tV d L) : sProp 𝕄) = iprop((∃ f, (tV d L).loc cc1_scratch0 ↦{fullShare} f) ∗ (∃ f, (tV d L).loc cc1_scratch1 ↦{fullShare} f)
      ∗ (∃ f, (tV d L).loc cc1_scratch2 ↦{fullShare} f) ∗ (∃ f, (tV d L).loc cc1_scratch3 ↦{fullShare} f)
      ∗ (∃ f, (tV d L).loc cc1_scratch4 ↦{fullShare} f) ∗ (∃ f, (tV d L).loc cc1_scratch5 ↦{fullShare} f)
      ∗ bufsBut (tV d L) {(tV d L).2.devRef cc1_scratch5, (tV d L).2.devRef cc1_scratch4, (tV d L).2.devRef cc1_scratch3, (tV d L).2.devRef cc1_scratch2, (tV d L).2.devRef cc1_scratch1, (tV d L).2.devRef cc1_scratch0}) := by
  have inj : ∀ a b : Ref sig .scVector, a ≠ b → (tV d L).2.devRef a ≠ (tV d L).2.devRef b := fun _ _ h e => h (Proc.devRef_injective _ e)
  rw [bufsBut_empty]
  refine (bufsBut_take (tV d L) (b := (tV d L).2.devRef cc1_scratch0) (SparseCore.Cfg.mem_ownRefs_of_owner rfl) (by simp)).trans ?_
  rw [bufsBut_take (tV d L) (b := (tV d L).2.devRef cc1_scratch1) (SparseCore.Cfg.mem_ownRefs_of_owner rfl)
      (by simp only [Finset.mem_insert, Finset.notMem_empty, or_false]; exact inj _ _ (by decide)),
    bufsBut_take (tV d L) (b := (tV d L).2.devRef cc1_scratch2) (SparseCore.Cfg.mem_ownRefs_of_owner rfl)
      (by simp only [Finset.mem_insert, Finset.notMem_empty, or_false, not_or]; exact ⟨inj _ _ (by decide), inj _ _ (by decide)⟩),
    bufsBut_take (tV d L) (b := (tV d L).2.devRef cc1_scratch3) (SparseCore.Cfg.mem_ownRefs_of_owner rfl)
      (by simp only [Finset.mem_insert, Finset.notMem_empty, or_false, not_or]; exact ⟨inj _ _ (by decide), inj _ _ (by decide), inj _ _ (by decide)⟩),
    bufsBut_take (tV d L) (b := (tV d L).2.devRef cc1_scratch4) (SparseCore.Cfg.mem_ownRefs_of_owner rfl)
      (by simp only [Finset.mem_insert, Finset.notMem_empty, or_false, not_or]; exact ⟨inj _ _ (by decide), inj _ _ (by decide), inj _ _ (by decide), inj _ _ (by decide)⟩),
    bufsBut_take (tV d L) (b := (tV d L).2.devRef cc1_scratch5) (SparseCore.Cfg.mem_ownRefs_of_owner rfl)
      (by simp only [Finset.mem_insert, Finset.notMem_empty, or_false, not_or]
          exact ⟨inj _ _ (by decide), inj _ _ (by decide), inj _ _ (by decide), inj _ _ (by decide), inj _ _ (by decide)⟩)]
  rfl

section Tile

variable {P : S32x4104.Idx → Elt F .f32} {EN : S4096.Idx → Elt F .f32} {NA : S4096.Idx → BitVec 32} {s h : Elt F .f32} {q : PosShare TreeShare}
  {o0 : S4096.Idx → Elt F .f32} {O : CellTallies nD τ sig (HIx 2)} {W : Waits sig (HIx 2)} {f : S32x128.Idx → Elt F .f32} {o : S128.Idx → Elt F .f32}

local notation "WP" => wp (M := MT nD τ sig (HIx 2) (Elt F) ℕ (UU nD τ sig) ℕ) frame (wpE (defs₀ (F := F)) 𝒱₀ (tV d L) none) Set.univ

/-- The scratch of the other call, and whatever else a tile owns. -/
abbrev Others : sProp (MT nD τ sig (HIx 2) (Elt F) ℕ (UU nD τ sig) ℕ) :=
  bufsBut (tV d L) {(tV d L).2.devRef cc1_scratch5, (tV d L).2.devRef cc1_scratch4, (tV d L).2.devRef cc1_scratch3, (tV d L).2.devRef cc1_scratch2, (tV d L).2.devRef cc1_scratch1, (tV d L).2.devRef cc1_scratch0}

variable (P EN NA s h q O W) in
/-- What a tile hands back. -/
def Done : sProp (MT nD τ sig (HIx 2) (Elt F) ℕ (UU nD τ sig) ℕ) :=
  iprop(((enLoc d ↦{q} EN) ∗ (naLoc d ↦{q} NA) ∗ (outLoc d ↦[chunkSet L]{fullShare} (result EN NA s h P))) ∗ ownBufs (tV d L) ∗ Own (tV d L) O W)

set_option maxHeartbeats 1000000 in
theorem out_copy {hs hs' : (tO).view.WordExact} {hd hd' : (oSl L).view.WordExact}
    {hm : DmaTarget.Typed (nD := nD) (τ := τ) (p := (tV d L).2) .vmem (.dma cc1_scoped36.sem) (.here (oSl L))} :
    Rdy d L P EN NA s h q o0 (Others d L) O W f o 128
      ⊢ WP (Prog.lift (TpuEff.enqueueDma tO (.here (oSl L)) (.dma cc1_scoped36.sem) hs hd hm)
          >>= fun _ => Prog.lift (TpuEff.waitDma2 cc1_scoped36.sem tO (oSl L) hs' hd') >>= fun _ => pure PUnit.unit)
        fun _ => Done d L P EN NA s h q O W := by
  have e : outAt (fun j => resAt EN NA s h P (128 * wid L + j)) o 128 = fun i => resAt EN NA s h P (128 * wid L + (i 0).val) :=
    funext fun i => if_pos (i 0).isLt
  unfold Rdy
  rw [e]
  refine copy_start_sub (defs₀ (F := F)) 𝒱₀ (tV d L) (q := fullShare) (fs := fun i => resAt EN NA s h P (128 * wid L + (i 0).val))
    (fd := o0) (Ss := Finset.univ) (Sd := chunkSet L) O W rfl (View.dmaCredit_pos _ (show 0 < S128.numel by decide)) (Finset.subset_univ _) (set_chunk L).le
    (X := iprop(((tV d L).loc cc1_scratch0 ↦{fullShare} (blkAt (fun r j => pat P r (128 * wid L + j)) f 32)) ∗ ((tV d L).loc cc1_scratch1 ↦{fullShare} (fun i => fat EN (128 * wid L + (i 0).val)))
      ∗ ((tV d L).loc cc1_scratch2 ↦{fullShare} (fun i => fat NA (128 * wid L + (i 0).val)))
      ∗ ((tV d L).loc cc1_scratch3 ↦{fullShare} (fun _ => s)) ∗ ((tV d L).loc cc1_scratch4 ↦{fullShare} (fun _ => h))
      ∗ (partLoc d ↦{q} P) ∗ (enLoc d ↦{q} EN) ∗ (naLoc d ↦{q} NA) ∗ (scLoc d ↦{q} (fun _ => s)) ∗ (shLoc d ↦{q} (fun _ => h)) ∗ Others d L)) ?_ ?_
  · unfold S2; iintro ⟨Hb, He, Hn, Ht, Hu, Ho, Hp, HE, HN, HS, HH, HO, HW, HR⟩
    isplitl [Ho]; · iexact Ho
    isplitl [HO]; · iexact HO
    iframe ∗
  refine copy_wait_sub (defs₀ (F := F)) 𝒱₀ (tV d L) rfl (B := Done d L P EN NA s h q O W) ?_ (pure_step (defs₀ (F := F)) 𝒱₀ (tV d L) .rfl)
  unfold Done
  rw [View.read_whole, ownBufs_2]
  iintro ⟨HO, Ho, HW, Hb, He, Hn, Ht, Hu, Hp, HE, HN, HS, HH, HR⟩
  isplitl [HO HE HN]
  · isplitl [HE]; · iexact HE
    isplitl [HN]; · iexact HN
    iapply (Entails.of_eq (pointsTo_congr (write_chunk L o0 (resAt EN NA s h P)))) $$ HO
  isplitr [HW]
  swap; · iexact HW
  isplitl [Hb]; · iexists _; iexact Hb
  isplitl [He]; · iexists _; iexact He
  isplitl [Hn]; · iexists _; iexact Hn
  isplitl [Ht]; · iexists _; iexact Ht
  isplitl [Hu]; · iexists _; iexact Hu
  isplitl [Ho]; · iexists _; iexact Ho
  iexact HR

end Tile

end Cert.Proof.KerI

end
-- ==== Proof.KerIRun2.lean ====
/-
  A tile of the second call run from start to end: the steps of its skeleton taken in turn.
-/
module

public import proofs.«01_k».proof.Proof.KerITile2

@[expose] public section

noncomputable section

namespace Cert.Proof.KerI

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals

variable {F : FTy → Type} [FloatOps F]

local notation "𝕄" => MT nD τ sig (HIx 2) (Elt F) ℕ (UU nD τ sig) ℕ

local notation "pV" => (Memref.whole Cert.KernelIdeal.main_v8_scv : Memref Cert.KernelIdeal.sig Kind.scVector Space.hbm Cert.KernelIdeal.S32x4104 EltTy.f32)
local notation "eV" => (Memref.whole Cert.KernelIdeal.main_arg0_scv : Memref Cert.KernelIdeal.sig Kind.scVector Space.hbm Cert.KernelIdeal.S4096 EltTy.f32)
local notation "nV" => (Memref.whole Cert.KernelIdeal.main_arg1_scv : Memref Cert.KernelIdeal.sig Kind.scVector Space.hbm Cert.KernelIdeal.S4096 EltTy.i32)
local notation "sV" => (Memref.whole Cert.KernelIdeal.main_v9_scv : Memref Cert.KernelIdeal.sig Kind.scVector Space.hbm Cert.KernelIdeal.S16 EltTy.f32)
local notation "hV" => (Memref.whole Cert.KernelIdeal.main_v10_scv : Memref Cert.KernelIdeal.sig Kind.scVector Space.hbm Cert.KernelIdeal.S16 EltTy.f32)
local notation "oV" => (Memref.whole Cert.KernelIdeal.main_v11_scv : Memref Cert.KernelIdeal.sig Kind.scVector Space.hbm Cert.KernelIdeal.S4096 EltTy.f32)
local notation "tB" => (Memref.whole Cert.KernelIdeal.cc1_scratch0 : Memref Cert.KernelIdeal.sig Kind.scVector Space.vmem Cert.KernelIdeal.S32x128 EltTy.f32)
local notation "tE" => (Memref.whole Cert.KernelIdeal.cc1_scratch1 : Memref Cert.KernelIdeal.sig Kind.scVector Space.vmem Cert.KernelIdeal.S128 EltTy.f32)
local notation "tN" => (Memref.whole Cert.KernelIdeal.cc1_scratch2 : Memref Cert.KernelIdeal.sig Kind.scVector Space.vmem Cert.KernelIdeal.S128 EltTy.i32)
local notation "tS" => (Memref.whole Cert.KernelIdeal.cc1_scratch3 : Memref Cert.KernelIdeal.sig Kind.scVector Space.vmem Cert.KernelIdeal.S16 EltTy.f32)
local notation "tH" => (Memref.whole Cert.KernelIdeal.cc1_scratch4 : Memref Cert.KernelIdeal.sig Kind.scVector Space.vmem Cert.KernelIdeal.S16 EltTy.f32)
local notation "tO" => (Memref.whole Cert.KernelIdeal.cc1_scratch5 : Memref Cert.KernelIdeal.sig Kind.scVector Space.vmem Cert.KernelIdeal.S128 EltTy.f32)

variable (d : Dev nD) (L : grid0.Coords)

variable {P : S32x4104.Idx → Elt F .f32} {EN : S4096.Idx → Elt F .f32} {NA : S4096.Idx → BitVec 32} {s h : Elt F .f32} {q : PosShare TreeShare}
  {o0 : S4096.Idx → Elt F .f32} {O : CellTallies nD τ sig (HIx 2)} {W : Waits sig (HIx 2)} {f : S32x128.Idx → Elt F .f32} {e : S128.Idx → Elt F .f32} {n : S128.Idx → BitVec 32}
  {t u : S16.Idx → Elt F .f32} {o : S128.Idx → Elt F .f32}

local notation "WP" => wp (M := MT nD τ sig (HIx 2) (Elt F) ℕ (UU nD τ sig) ℕ) frame (wpE (defs₀ (F := F)) 𝒱₀ (tV d L) none) Set.univ

set_option maxHeartbeats 8000000 in
set_option maxRecDepth 100000 in
theorem tile_run2 :
    S2 d L P EN NA s h q o0 (Others d L) O W (blkAt (fun r j => pat P r (128 * wid L + j)) f 0) e n t u o
      ⊢ WP (cc1__pass2 L pV (Memref.isWhole_whole _) eV (Memref.isWhole_whole _) nV (Memref.isWhole_whole _) sV (Memref.isWhole_whole _) hV (Memref.isWhole_whole _) oV (Memref.isWhole_whole _)
            tB (Memref.isWhole_whole _) tE (Memref.isWhole_whole _) tN (Memref.isWhole_whole _) tS (Memref.isWhole_whole _) tH (Memref.isWhole_whole _) tO (Memref.isWhole_whole _)
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36)
          fun _ => Done d L P EN NA s h q O W := by
  rw [cc1__pass2_eq_skeleton]; unfold cc1__pass2_skel
  refine bind_step (defs₀ (F := F)) 𝒱₀ (tV d L) ?_
  rw [k1_part41_eq_skeleton]; unfold k1_part41_skel
  refine bind_step (defs₀ (F := F)) 𝒱₀ (tV d L) ?_
  rw [k1_part1_eq_skeleton]; unfold k1_part1_skel
  refine rowEnq d L (by rfl) rfl ?_
  refine rowWait d L ?_
  refine rowEnq d L (by rfl) rfl ?_
  refine rowWait d L ?_
  refine pure_step (defs₀ (F := F)) 𝒱₀ (tV d L) ?_
  iterate 5
    refine bind_step (defs₀ (F := F)) 𝒱₀ (tV d L) ?_
    first
      | (rw [k1_part2_eq_skeleton]; unfold k1_part2_skel)
      | (rw [k1_part4_eq_skeleton]; unfold k1_part4_skel)
      | (rw [k1_part6_eq_skeleton]; unfold k1_part6_skel)
      | (rw [k1_part8_eq_skeleton]; unfold k1_part8_skel)
      | (rw [k1_part10_eq_skeleton]; unfold k1_part10_skel)
    refine rowEnq d L (by rfl) rfl ?_
    refine rowWait d L ?_
    refine rowEnq d L (by rfl) rfl ?_
    refine rowWait d L ?_
    refine rowEnq d L (by rfl) rfl ?_
    refine pure_step (defs₀ (F := F)) 𝒱₀ (tV d L) ?_
    refine bind_step (defs₀ (F := F)) 𝒱₀ (tV d L) ?_
    first
      | (rw [k1_part3_eq_skeleton]; unfold k1_part3_skel)
      | (rw [k1_part5_eq_skeleton]; unfold k1_part5_skel)
      | (rw [k1_part7_eq_skeleton]; unfold k1_part7_skel)
      | (rw [k1_part9_eq_skeleton]; unfold k1_part9_skel)
      | (rw [k1_part11_eq_skeleton]; unfold k1_part11_skel)
    refine rowWait d L ?_
    refine rowEnq d L (by rfl) rfl ?_
    refine rowWait d L ?_
    refine rowEnq d L (by rfl) rfl ?_
    refine rowWait d L ?_
    refine pure_step (defs₀ (F := F)) 𝒱₀ (tV d L) ?_
  refine bind_step (defs₀ (F := F)) 𝒱₀ (tV d L) ?_
  rw [k1_part12_eq_skeleton]; unfold k1_part12_skel
  refine rowEnq d L (by rfl) rfl ?_
  refine rowWait d L ?_
  refine rowEnq d L (by rfl) rfl ?_
  refine rowWait d L ?_
  refine rowEnq d L (by rfl) rfl ?_
  refine pure_step (defs₀ (F := F)) 𝒱₀ (tV d L) ?_
  refine bind_step (defs₀ (F := F)) 𝒱₀ (tV d L) ?_
  rw [k1_part13_eq_skeleton]; unfold k1_part13_skel
  refine rowWait d L ?_
  refine rowEnq d L (by rfl) rfl ?_
  refine rowWait d L ?_
  refine rowEnq d L (by rfl) rfl ?_
  refine rowWait d L ?_
  refine enEnq d L rfl ?_
  refine pure_step (defs₀ (F := F)) 𝒱₀ (tV d L) ?_
  refine bind_step (defs₀ (F := F)) 𝒱₀ (tV d L) ?_
  rw [k1_part14_eq_skeleton]; unfold k1_part14_skel
  refine enWait d L ?_
  refine restCopies d L ?_
  refine toRdy d L ?_
  refine loadS d L ?_
  refine loadH d L ?_
  iterate 8
    refine loadB d L (by decide) ?_
  refine pure_step (defs₀ (F := F)) 𝒱₀ (tV d L) ?_
  refine bind_step (defs₀ (F := F)) 𝒱₀ (tV d L) ?_
  rw [k1_part15_eq_skeleton]; unfold k1_part15_skel
  iterate 10
    refine loadB d L (by decide) ?_
  refine pure_step (defs₀ (F := F)) 𝒱₀ (tV d L) ?_
  refine bind_step (defs₀ (F := F)) 𝒱₀ (tV d L) ?_
  rw [k1_part16_eq_skeleton]; unfold k1_part16_skel
  iterate 10
    refine loadB d L (by decide) ?_
  refine pure_step (defs₀ (F := F)) 𝒱₀ (tV d L) ?_
  refine bind_step (defs₀ (F := F)) 𝒱₀ (tV d L) ?_
  rw [k1_part17_eq_skeleton]; unfold k1_part17_skel
  iterate 4
    refine loadB d L (by decide) ?_
  refine loadE d L ?_
  refine loadN d L ?_
  refine loadD d L fun _ => ?_
  refine storeO d L (by rfl) ?_
  iterate 4
    refine loadB d L (by decide) ?_
  refine pure_step (defs₀ (F := F)) 𝒱₀ (tV d L) ?_
  refine bind_step (defs₀ (F := F)) 𝒱₀ (tV d L) ?_
  rw [k1_part18_eq_skeleton]; unfold k1_part18_skel
  iterate 10
    refine loadB d L (by decide) ?_
  refine pure_step (defs₀ (F := F)) 𝒱₀ (tV d L) ?_
  refine bind_step (defs₀ (F := F)) 𝒱₀ (tV d L) ?_
  rw [k1_part19_eq_skeleton]; unfold k1_part19_skel
  iterate 10
    refine loadB d L (by decide) ?_
  refine pure_step (defs₀ (F := F)) 𝒱₀ (tV d L) ?_
  refine bind_step (defs₀ (F := F)) 𝒱₀ (tV d L) ?_
  rw [k1_part20_eq_skeleton]; unfold k1_part20_skel
  iterate 8
    refine loadB d L (by decide) ?_
  refine loadE d L ?_
  refine loadN d L ?_
  refine loadD d L fun _ => ?_
  refine pure_step (defs₀ (F := F)) 𝒱₀ (tV d L) ?_
  refine bind_step (defs₀ (F := F)) 𝒱₀ (tV d L) ?_
  rw [k1_part21_eq_skeleton]; unfold k1_part21_skel
  refine storeO d L (by rfl) ?_
  iterate 10
    refine loadB d L (by decide) ?_
  refine pure_step (defs₀ (F := F)) 𝒱₀ (tV d L) ?_
  refine bind_step (defs₀ (F := F)) 𝒱₀ (tV d L) ?_
  rw [k1_part22_eq_skeleton]; unfold k1_part22_skel
  iterate 10
    refine loadB d L (by decide) ?_
  refine pure_step (defs₀ (F := F)) 𝒱₀ (tV d L) ?_
  refine bind_step (defs₀ (F := F)) 𝒱₀ (tV d L) ?_
  rw [k1_part23_eq_skeleton]; unfold k1_part23_skel
  iterate 10
    refine loadB d L (by decide) ?_
  refine pure_step (defs₀ (F := F)) 𝒱₀ (tV d L) ?_
  refine bind_step (defs₀ (F := F)) 𝒱₀ (tV d L) ?_
  rw [k1_part24_eq_skeleton]; unfold k1_part24_skel
  iterate 2
    refine loadB d L (by decide) ?_
  refine loadE d L ?_
  refine loadN d L ?_
  refine loadD d L fun _ => ?_
  refine storeO d L (by rfl) ?_
  iterate 6
    refine loadB d L (by decide) ?_
  refine pure_step (defs₀ (F := F)) 𝒱₀ (tV d L) ?_
  refine bind_step (defs₀ (F := F)) 𝒱₀ (tV d L) ?_
  rw [k1_part25_eq_skeleton]; unfold k1_part25_skel
  iterate 10
    refine loadB d L (by decide) ?_
  refine pure_step (defs₀ (F := F)) 𝒱₀ (tV d L) ?_
  refine bind_step (defs₀ (F := F)) 𝒱₀ (tV d L) ?_
  rw [k1_part26_eq_skeleton]; unfold k1_part26_skel
  iterate 10
    refine loadB d L (by decide) ?_
  refine pure_step (defs₀ (F := F)) 𝒱₀ (tV d L) ?_
  refine bind_step (defs₀ (F := F)) 𝒱₀ (tV d L) ?_
  rw [k1_part27_eq_skeleton]; unfold k1_part27_skel
  iterate 6
    refine loadB d L (by decide) ?_
  refine loadE d L ?_
  refine loadN d L ?_
  refine loadD d L fun _ => ?_
  refine storeO d L (by rfl) ?_
  iterate 2
    refine loadB d L (by decide) ?_
  refine pure_step (defs₀ (F := F)) 𝒱₀ (tV d L) ?_
  refine bind_step (defs₀ (F := F)) 𝒱₀ (tV d L) ?_
  rw [k1_part28_eq_skeleton]; unfold k1_part28_skel
  iterate 10
    refine loadB d L (by decide) ?_
  refine pure_step (defs₀ (F := F)) 𝒱₀ (tV d L) ?_
  refine bind_step (defs₀ (F := F)) 𝒱₀ (tV d L) ?_
  rw [k1_part29_eq_skeleton]; unfold k1_part29_skel
  iterate 10
    refine loadB d L (by decide) ?_
  refine pure_step (defs₀ (F := F)) 𝒱₀ (tV d L) ?_
  refine bind_step (defs₀ (F := F)) 𝒱₀ (tV d L) ?_
  rw [k1_part30_eq_skeleton]; unfold k1_part30_skel
  iterate 10
    refine loadB d L (by decide) ?_
  refine loadE d L ?_
  refine pure_step (defs₀ (F := F)) 𝒱₀ (tV d L) ?_
  refine bind_step (defs₀ (F := F)) 𝒱₀ (tV d L) ?_
  rw [k1_part31_eq_skeleton]; unfold k1_part31_skel
  refine loadN d L ?_
  refine loadD d L fun _ => ?_
  refine storeO d L (by rfl) ?_
  iterate 8
    refine loadB d L (by decide) ?_
  refine pure_step (defs₀ (F := F)) 𝒱₀ (tV d L) ?_
  refine bind_step (defs₀ (F := F)) 𝒱₀ (tV d L) ?_
  rw [k1_part32_eq_skeleton]; unfold k1_part32_skel
  iterate 10
    refine loadB d L (by decide) ?_
  refine pure_step (defs₀ (F := F)) 𝒱₀ (tV d L) ?_
  refine bind_step (defs₀ (F := F)) 𝒱₀ (tV d L) ?_
  rw [k1_part33_eq_skeleton]; unfold k1_part33_skel
  iterate 10
    refine loadB d L (by decide) ?_
  refine pure_step (defs₀ (F := F)) 𝒱₀ (tV d L) ?_
  refine bind_step (defs₀ (F := F)) 𝒱₀ (tV d L) ?_
  rw [k1_part34_eq_skeleton]; unfold k1_part34_skel
  iterate 4
    refine loadB d L (by decide) ?_
  refine loadE d L ?_
  refine loadN d L ?_
  refine loadD d L fun _ => ?_
  refine storeO d L (by rfl) ?_
  iterate 5
    refine loadB d L (by decide) ?_
  refine pure_step (defs₀ (F := F)) 𝒱₀ (tV d L) ?_
  refine bind_step (defs₀ (F := F)) 𝒱₀ (tV d L) ?_
  rw [k1_part35_eq_skeleton]; unfold k1_part35_skel
  iterate 10
    refine loadB d L (by decide) ?_
  refine pure_step (defs₀ (F := F)) 𝒱₀ (tV d L) ?_
  refine bind_step (defs₀ (F := F)) 𝒱₀ (tV d L) ?_
  rw [k1_part36_eq_skeleton]; unfold k1_part36_skel
  iterate 10
    refine loadB d L (by decide) ?_
  refine pure_step (defs₀ (F := F)) 𝒱₀ (tV d L) ?_
  refine bind_step (defs₀ (F := F)) 𝒱₀ (tV d L) ?_
  rw [k1_part37_eq_skeleton]; unfold k1_part37_skel
  iterate 7
    refine loadB d L (by decide) ?_
  refine loadE d L ?_
  refine loadN d L ?_
  refine loadD d L fun _ => ?_
  refine storeO d L (by rfl) ?_
  refine loadB d L (by decide) ?_
  refine pure_step (defs₀ (F := F)) 𝒱₀ (tV d L) ?_
  refine bind_step (defs₀ (F := F)) 𝒱₀ (tV d L) ?_
  rw [k1_part38_eq_skeleton]; unfold k1_part38_skel
  iterate 10
    refine loadB d L (by decide) ?_
  refine pure_step (defs₀ (F := F)) 𝒱₀ (tV d L) ?_
  refine bind_step (defs₀ (F := F)) 𝒱₀ (tV d L) ?_
  rw [k1_part39_eq_skeleton]; unfold k1_part39_skel
  iterate 10
    refine loadB d L (by decide) ?_
  refine pure_step (defs₀ (F := F)) 𝒱₀ (tV d L) ?_
  refine bind_step (defs₀ (F := F)) 𝒱₀ (tV d L) ?_
  rw [k1_part40_eq_skeleton]; unfold k1_part40_skel
  iterate 10
    refine loadB d L (by decide) ?_
  refine pure_step (defs₀ (F := F)) 𝒱₀ (tV d L) ?_
  refine loadB d L (by decide) ?_
  refine loadE d L ?_
  refine loadN d L ?_
  refine loadD d L fun _ => ?_
  refine storeO d L (by rfl) ?_
  refine pure_step (defs₀ (F := F)) 𝒱₀ (tV d L) ?_
  exact out_copy d L

theorem tile_body2 :
    iprop(((partLoc d ↦{q} P) ∗ (enLoc d ↦{q} EN) ∗ (naLoc d ↦{q} NA) ∗ (scLoc d ↦{q} (fun _ => s)) ∗ (shLoc d ↦{q} (fun _ => h)) ∗ (outLoc d ↦[chunkSet L]{fullShare} o0))
        ∗ ownBufs (tV d L) ∗ Own (tV d L) O W)
      ⊢ WP (cc1__pass2 L pV (Memref.isWhole_whole _) eV (Memref.isWhole_whole _) nV (Memref.isWhole_whole _) sV (Memref.isWhole_whole _) hV (Memref.isWhole_whole _) oV (Memref.isWhole_whole _)
            tB (Memref.isWhole_whole _) tE (Memref.isWhole_whole _) tN (Memref.isWhole_whole _) tS (Memref.isWhole_whole _) tH (Memref.isWhole_whole _) tO (Memref.isWhole_whole _)
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36)
          fun _ => Done d L P EN NA s h q O W := by
  have H : iprop(((partLoc d ↦{q} P) ∗ (enLoc d ↦{q} EN) ∗ (naLoc d ↦{q} NA) ∗ (scLoc d ↦{q} (fun _ => s)) ∗ (shLoc d ↦{q} (fun _ => h)) ∗ (outLoc d ↦[chunkSet L]{fullShare} o0))
        ∗ ownBufs (tV d L) ∗ Own (tV d L) O W)
      ⊢ iprop(∃ (f : S32x128.Idx → Elt F .f32) (e : S128.Idx → Elt F .f32) (n : S128.Idx → BitVec 32) (t u : S16.Idx → Elt F .f32) (o : S128.Idx → Elt F .f32),
        S2 d L P EN NA s h q o0 (Others d L) O W (blkAt (fun r j => pat P r (128 * wid L + j)) f 0) e n t u o) := by
    rw [ownBufs_2]
    iintro ⟨⟨Hp, HE, HN, HS, HH, HO⟩, ⟨⟨%f, Hb⟩, ⟨%e, He⟩, ⟨%n, Hn⟩, ⟨%t, Ht⟩, ⟨%u, Hu⟩, ⟨%o, Ho⟩, HR⟩, HW⟩
    iexists f, e, n, t, u, o
    rw [show blkAt (fun r j => pat P r (128 * wid L + j)) f 0 = f from funext fun i => if_neg (Nat.not_lt_zero _)]
    unfold S2
    iframe ∗
  exact H.trans (exists_elim fun _ => exists_elim fun _ => exists_elim fun _ => exists_elim fun _ => exists_elim fun _ => exists_elim fun _ => tile_run2 d L)

end Cert.Proof.KerI

end
-- ==== Proof.KerIPay.lean ====
/-
  What each call is handed and hands back, for the launch theorem: the inputs go to every tile as
  read shares of the whole array, the output as the rows or molecules that are the tile's. The tiles'
  bodies then meet the launch theorem's obligations.
-/
module

public import proofs.«01_k».proof.Proof.KerITile1
public import proofs.«01_k».proof.Proof.KerIRun2

@[expose] public section

noncomputable section

namespace Cert.Proof.KerI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals

variable {F : FTy → Type} [FloatOps F]

local notation "𝕄" => MT nD τ sig (HIx 2) (Elt F) ℕ (UU nD τ sig) ℕ

variable (m : (ℓ : Loc nD τ sig) → Buf (Elt F) ℓ)

/-! ## The host's operations, and what the arrays hold -/

/-- Before the first call: the padded arrays, the table of energies and the row of zeros. -/
def opsA : List (HloOp τ sig (Elt F)) :=
  [StableHlo.nullary main_c (constantI S_ 32 0#32),
    StableHlo.unary main_c main_v0 (broadcastInDim S2400 ![] bcast_S_S2400 : (⟨S_, .i32⟩ : BufTy).Contents (Elt F) → (⟨S2400, .i32⟩ : BufTy).Contents (Elt F)),
    StableHlo.binary main_arg2 main_v0 main_v1 ((fun a b => concatenate S102400 0 [⟨S100000, a⟩, ⟨S2400, b⟩] concatenates_S100000_S2400_S102400_d0) : (⟨S100000, .i32⟩ : BufTy).Contents (Elt F) → (⟨S2400, .i32⟩ : BufTy).Contents (Elt F) → (⟨S102400, .i32⟩ : BufTy).Contents (Elt F)),
    StableHlo.nullary main_c_0 (constantI S_ 32 4096#32),
    StableHlo.unary main_c_0 main_v2 (broadcastInDim S2400 ![] bcast_S_S2400 : (⟨S_, .i32⟩ : BufTy).Contents (Elt F) → (⟨S2400, .i32⟩ : BufTy).Contents (Elt F)),
    StableHlo.binary main_arg3 main_v2 main_v3 ((fun a b => concatenate S102400 0 [⟨S100000, a⟩, ⟨S2400, b⟩] concatenates_S100000_S2400_S102400_d0) : (⟨S100000, .i32⟩ : BufTy).Contents (Elt F) → (⟨S2400, .i32⟩ : BufTy).Contents (Elt F) → (⟨S102400, .i32⟩ : BufTy).Contents (Elt F)),
    StableHlo.nullary main_cst (constant S_ .f32 0x00000000#32),
    StableHlo.unary main_cst main_v4 (broadcastInDim S128 ![] bcast_S_S128 : (⟨S_, .f32⟩ : BufTy).Contents (Elt F) → (⟨S128, .f32⟩ : BufTy).Contents (Elt F)),
    StableHlo.nullary main_c_1 (constantI S_ 32 0#32),
    StableHlo.unary main_c_1 main_v5 (broadcastInDim S1 ![] bcast_S_S1 : (⟨S_, .i32⟩ : BufTy).Contents (Elt F) → (⟨S1, .i32⟩ : BufTy).Contents (Elt F)),
    StableHlo.ternary main_v4 main_v5 main_arg6 main_v6 ((fun x i u => Host.scatter scatter_S128_S1_S119_0_n_0_0 (fun _ b => b) x i u) : (⟨S128, .f32⟩ : BufTy).Contents (Elt F) → (⟨S1, .i32⟩ : BufTy).Contents (Elt F) → (⟨S119, .f32⟩ : BufTy).Contents (Elt F) → (⟨S128, .f32⟩ : BufTy).Contents (Elt F)),
    StableHlo.nullary main_cst_2 (constant S_ .f32 0x00000000#32),
    StableHlo.unary main_cst_2 main_v7 (broadcastInDim S4104 ![] bcast_S_S4104 : (⟨S_, .f32⟩ : BufTy).Contents (Elt F) → (⟨S4104, .f32⟩ : BufTy).Contents (Elt F))]

/-- Between the calls: the scale and the shift, sixteen of each. -/
def opsB : List (HloOp τ sig (Elt F)) :=
  [StableHlo.unary main_arg4 main_v9 (broadcastInDim S16 ![0] bcast_S1_S16_0 : (⟨S1, .f32⟩ : BufTy).Contents (Elt F) → (⟨S16, .f32⟩ : BufTy).Contents (Elt F)),
    StableHlo.unary main_arg5 main_v10 (broadcastInDim S16 ![0] bcast_S1_S16_0 : (⟨S1, .f32⟩ : BufTy).Contents (Elt F) → (⟨S16, .f32⟩ : BufTy).Contents (Elt F))]

abbrev ref (b : Ref sig .tc) : DevRef τ sig := Proc.devRef .tc b

/-- At launch; before the first call; before the second. -/
def V0 (d : Dev nD) : Valuation τ sig (Elt F) := fun b => m (d, b)
def VA (d : Dev nD) : Valuation τ sig (Elt F) := StableHlo.after opsA (V0 m d)
def VC (d : Dev nD) : Valuation τ sig (Elt F) := StableHlo.after opsB (VA m d)

abbrev zA (d : Dev nD) : S102400.Idx → BitVec 32 := VA m d (ref main_v1)
abbrev gA (d : Dev nD) : S102400.Idx → BitVec 32 := VA m d (ref main_v3)
abbrev aeA (d : Dev nD) : S128.Idx → Elt F .f32 := VA m d (ref main_v6)
abbrev zrA (d : Dev nD) : S4104.Idx → Elt F .f32 := VA m d (ref main_v7)

/-- Every index names a row of the tile's scratch. -/
def PreOK : Prop := ∀ d : Dev nD, (∀ x, (zA m d x).toNat < 128) ∧ (∀ x, (gA m d x).toNat < 4104)

variable {m} (hp : PreOK m)

/-- The table of partial sums. -/
def partV (d : Dev nD) : S32x4104.Idx → Elt F .f32 := partial' (zA m d) (gA m d) (aeA m d) (zrA m d) (hp d).1 (hp d).2
variable (m) in
abbrev enA (d : Dev nD) : S4096.Idx → Elt F .f32 := m (enLoc d)
variable (m) in
abbrev naA (d : Dev nD) : S4096.Idx → BitVec 32 := m (naLoc d)
variable (m) in
abbrev scA (d : Dev nD) : Elt F .f32 := (m ((SparseCore.T d).loc main_arg4) : S1.Idx → Elt F .f32) (ix1 0)
variable (m) in
abbrev shA (d : Dev nD) : Elt F .f32 := (m ((SparseCore.T d).loc main_arg5) : S1.Idx → Elt F .f32) (ix1 0)
/-- The result. -/
def outV (d : Dev nD) : S4096.Idx → Elt F .f32 := result (enA m d) (naA m d) (scA m d) (shA m d) (partV hp d)

/-! ## The grid -/

def coordsV (c : Fin (grid0.bound 0)) (s : Fin (grid0.bound 1)) : grid0.Coords :=
  fun | 0 => c | 1 => s | ⟨_ + 2, h⟩ => absurd h (Nat.not_lt.2 (Nat.le_add_left _ _))

abbrev LV (c : Fin 2) (i : Fin 16) : grid0.Coords := coordsV c i

theorem wid_LV (c : Fin 2) (i : Fin 16) : wid (LV c i) = 2 * i.val + c.val := rfl

/-- The share of a SparseCore, and of one of its tiles. -/
def qc (c : Fin 2) : PosShare TreeShare := Transfers.dealOf fullShare Finset.univ c
def qt (c : Fin 2) (i : Fin 16) : PosShare TreeShare := Transfers.dealOf (qc c) Finset.univ i

def rowsOf (c : Fin 2) : Finset S32x4104.Idx := Finset.univ.biUnion fun i : Fin 16 => rowSet (LV c i)
def chunksOf (c : Fin 2) : Finset S4096.Idx := Finset.univ.biUnion fun i : Fin 16 => chunkSet (LV c i)

/-- A family of sets picked out by a number: those of one number are apart from those of another. -/
theorem filter_apart {α : Type} [Fintype α] [DecidableEq α] (f : α → ℕ) {a b : ℕ} (h : a ≠ b) :
    Disjoint (Finset.univ.filter fun x => f x = a) (Finset.univ.filter fun x => f x = b) :=
  Finset.disjoint_left.mpr fun x hx hy => h ((Finset.mem_filter.mp hx).2.symm.trans (Finset.mem_filter.mp hy).2)

theorem filter_inner {α : Type} [Fintype α] [DecidableEq α] (f : α → ℕ) (c : Fin 2) :
    ∀ i ∈ (Finset.univ : Finset (Fin 16)), ∀ j ∈ (Finset.univ : Finset (Fin 16)), i ≠ j →
      Disjoint (Finset.univ.filter fun x => f x = wid (LV c i)) (Finset.univ.filter fun x => f x = wid (LV c j)) :=
  fun i _ j _ h => filter_apart f (by rw [wid_LV, wid_LV]; have := Fin.val_ne_of_ne h; omega)

theorem filter_outer {α : Type} [Fintype α] [DecidableEq α] (f : α → ℕ) :
    ∀ c ∈ (Finset.univ : Finset (Fin 2)), ∀ c' ∈ (Finset.univ : Finset (Fin 2)), c ≠ c' →
      Disjoint (Finset.univ.biUnion fun i : Fin 16 => Finset.univ.filter fun x => f x = wid (LV c i))
        (Finset.univ.biUnion fun i : Fin 16 => Finset.univ.filter fun x => f x = wid (LV c' i)) := by
  intro c _ c' _ h
  rw [Finset.disjoint_biUnion_left]; intro i _
  rw [Finset.disjoint_biUnion_right]; intro j _
  exact filter_apart f (by rw [wid_LV, wid_LV]; have := Fin.val_ne_of_ne h; omega)

theorem filter_cover {α : Type} [Fintype α] [DecidableEq α] (f : α → ℕ) (hf : ∀ x, f x < 32) :
    ((Finset.univ : Finset (Fin 2)).biUnion fun c => Finset.univ.biUnion fun i : Fin 16 => Finset.univ.filter fun x => f x = wid (LV c i)) = Finset.univ := by
  refine Finset.eq_univ_iff_forall.mpr fun x => ?_
  have := hf x
  refine Finset.mem_biUnion.mpr ⟨⟨f x % 2, by omega⟩, Finset.mem_univ _, Finset.mem_biUnion.mpr ⟨⟨f x / 2, by omega⟩, Finset.mem_univ _, ?_⟩⟩
  refine Finset.mem_filter.mpr ⟨Finset.mem_univ _, ?_⟩
  rw [wid_LV]; show f x = 2 * (f x / 2) + f x % 2; omega

theorem row_lt (x : S32x4104.Idx) : (x 0).val < 32 := (x 0).isLt
theorem chunk_lt (x : S4096.Idx) : (x 0).val / 128 < 32 := by have : (x 0).val < 4096 := (x 0).isLt; omega

theorem part_cores (d : Dev nD) (f : S32x4104.Idx → Elt F .f32) :
    (partLoc d ↦{fullShare} f : sProp 𝕄) = bigSep Finset.univ fun c : Fin 2 => partLoc d ↦[rowsOf c]{fullShare} f := by
  rw [← pointsTo_biUnion Finset.univ (ℓ := partLoc d) rowsOf (filter_outer fun x : S32x4104.Idx => (x 0).val)]
  exact congrArg (fun S => (partLoc d ↦[S]{fullShare} f : sProp 𝕄)) (filter_cover (fun x : S32x4104.Idx => (x 0).val) row_lt).symm
theorem part_tiles (d : Dev nD) (c : Fin 2) (f : S32x4104.Idx → Elt F .f32) :
    (partLoc d ↦[rowsOf c]{fullShare} f : sProp 𝕄) = bigSep Finset.univ fun i : Fin 16 => partLoc d ↦[rowSet (LV c i)]{fullShare} f :=
  pointsTo_biUnion Finset.univ (ℓ := partLoc d) (fun i => rowSet (LV c i)) (filter_inner (fun x : S32x4104.Idx => (x 0).val) c)
theorem out_cores (d : Dev nD) (f : S4096.Idx → Elt F .f32) :
    (outLoc d ↦{fullShare} f : sProp 𝕄) = bigSep Finset.univ fun c : Fin 2 => outLoc d ↦[chunksOf c]{fullShare} f := by
  rw [← pointsTo_biUnion Finset.univ (ℓ := outLoc d) chunksOf (filter_outer fun x : S4096.Idx => (x 0).val / 128)]
  exact congrArg (fun S => (outLoc d ↦[S]{fullShare} f : sProp 𝕄)) (filter_cover (fun x : S4096.Idx => (x 0).val / 128) chunk_lt).symm
theorem out_tiles (d : Dev nD) (c : Fin 2) (f : S4096.Idx → Elt F .f32) :
    (outLoc d ↦[chunksOf c]{fullShare} f : sProp 𝕄) = bigSep Finset.univ fun i : Fin 16 => outLoc d ↦[chunkSet (LV c i)]{fullShare} f :=
  pointsTo_biUnion Finset.univ (ℓ := outLoc d) (fun i => chunkSet (LV c i)) (filter_inner (fun x : S4096.Idx => (x 0).val / 128) c)

/-- An array read by every SparseCore, and by every tile of one. -/
theorem deal_cores (ℓ : Loc nD τ sig) (f : Buf (Elt F) ℓ) :
    (ℓ ↦{fullShare} f : sProp 𝕄) = bigSep Finset.univ fun c : Fin 2 => ℓ ↦{qc c} f :=
  Transfers.pointsTo_deal Finset.univ ⟨0, Finset.mem_univ _⟩ fullShare
theorem deal_tiles (ℓ : Loc nD τ sig) (c : Fin 2) (f : Buf (Elt F) ℓ) :
    (ℓ ↦{qc c} f : sProp 𝕄) = bigSep Finset.univ fun i : Fin 16 => ℓ ↦{qt c i} f :=
  Transfers.pointsTo_deal Finset.univ ⟨0, Finset.mem_univ _⟩ (qc c)

/-! ## What the calls carry -/

variable (m) in
abbrev st0 (d : Dev nD) (c : Fin 2) : sProp 𝕄 :=
  iprop((zLoc d ↦{qc c} zA m d) ∗ (gLoc d ↦{qc c} gA m d) ∗ (aeLoc d ↦{qc c} aeA m d) ∗ (zrLoc d ↦{qc c} zrA m d) ∗ (partLoc d ↦[rowsOf c]{fullShare} VA m d (ref main_v8)))
variable (m) in
abbrev go0 (d : Dev nD) (c : Fin 2) (i : Fin 16) : sProp 𝕄 :=
  iprop((zLoc d ↦{qt c i} zA m d) ∗ (gLoc d ↦{qt c i} gA m d) ∗ (aeLoc d ↦{qt c i} aeA m d) ∗ (zrLoc d ↦{qt c i} zrA m d) ∗ (partLoc d ↦[rowSet (LV c i)]{fullShare} VA m d (ref main_v8)))
abbrev dn0 (d : Dev nD) (c : Fin 2) : sProp 𝕄 := iprop(partLoc d ↦[rowsOf c]{fullShare} partV hp d)
abbrev td0 (d : Dev nD) (c : Fin 2) (i : Fin 16) : sProp 𝕄 := iprop(partLoc d ↦[rowSet (LV c i)]{fullShare} partV hp d)
abbrev st1 (d : Dev nD) (c : Fin 2) : sProp 𝕄 :=
  iprop((partLoc d ↦{qc c} partV hp d) ∗ (enLoc d ↦{qc c} enA m d) ∗ (naLoc d ↦{qc c} naA m d) ∗ (scLoc d ↦{qc c} (fun _ => scA m d)) ∗ (shLoc d ↦{qc c} (fun _ => shA m d))
    ∗ (outLoc d ↦[chunksOf c]{fullShare} m (outLoc d)))
abbrev go1 (d : Dev nD) (c : Fin 2) (i : Fin 16) : sProp 𝕄 :=
  iprop((partLoc d ↦{qt c i} partV hp d) ∗ (enLoc d ↦{qt c i} enA m d) ∗ (naLoc d ↦{qt c i} naA m d) ∗ (scLoc d ↦{qt c i} (fun _ => scA m d)) ∗ (shLoc d ↦{qt c i} (fun _ => shA m d))
    ∗ (outLoc d ↦[chunkSet (LV c i)]{fullShare} m (outLoc d)))
abbrev dn1 (d : Dev nD) (c : Fin 2) : sProp 𝕄 :=
  iprop((enLoc d ↦{qc c} enA m d) ∗ (naLoc d ↦{qc c} naA m d) ∗ (outLoc d ↦[chunksOf c]{fullShare} outV hp d))
abbrev td1 (d : Dev nD) (c : Fin 2) (i : Fin 16) : sProp 𝕄 :=
  iprop((enLoc d ↦{qt c i} enA m d) ∗ (naLoc d ↦{qt c i} naA m d) ∗ (outLoc d ↦[chunkSet (LV c i)]{fullShare} outV hp d))

theorem nCore_eq (q : Fin 2) : (K (F := F)).nCore q = 2 := by fin_cases q <;> rfl
theorem nSub_eq (q : Fin 2) : (K (F := F)).nSub q = 16 := by fin_cases q <;> rfl

def P : (K (F := F)).Pay (nD := nD) (Val := Elt F) (Name := ℕ) (U := UU nD τ sig) where
  st := fun q d c => match q with | 0 => st0 m d (Fin.cast (nCore_eq 0) c) | 1 => st1 hp d (Fin.cast (nCore_eq 1) c)
  dn := fun q d c => match q with | 0 => dn0 hp d (Fin.cast (nCore_eq 0) c) | 1 => dn1 hp d (Fin.cast (nCore_eq 1) c)
  go := fun q d c i => match q with
    | 0 => go0 m d (Fin.cast (nCore_eq 0) c) (Fin.cast (nSub_eq 0) i)
    | 1 => go1 hp d (Fin.cast (nCore_eq 1) c) (Fin.cast (nSub_eq 1) i)
  td := fun q d c i => match q with
    | 0 => td0 hp d (Fin.cast (nCore_eq 0) c) (Fin.cast (nSub_eq 0) i)
    | 1 => td1 hp d (Fin.cast (nCore_eq 1) c) (Fin.cast (nSub_eq 1) i)
  x := fun _ _ => iprop(emp)

instance P_storable : (P hp).IsStorable where
  st q d c := match q with
    | 0 => (inferInstance : BI.Storable (upEmb : UEmb _ 𝕄) (st0 m d (Fin.cast (nCore_eq 0) c)))
    | 1 => (inferInstance : BI.Storable (upEmb : UEmb _ 𝕄) (st1 hp d (Fin.cast (nCore_eq 1) c)))
  dn q d c := match q with
    | 0 => (inferInstance : BI.Storable (upEmb : UEmb _ 𝕄) (dn0 hp d (Fin.cast (nCore_eq 0) c)))
    | 1 => (inferInstance : BI.Storable (upEmb : UEmb _ 𝕄) (dn1 hp d (Fin.cast (nCore_eq 1) c)))
  go q d c i := match q with
    | 0 => (inferInstance : BI.Storable (upEmb : UEmb _ 𝕄) (go0 m d (Fin.cast (nCore_eq 0) c) (Fin.cast (nSub_eq 0) i)))
    | 1 => (inferInstance : BI.Storable (upEmb : UEmb _ 𝕄) (go1 hp d (Fin.cast (nCore_eq 1) c) (Fin.cast (nSub_eq 1) i)))
  td q d c i := match q with
    | 0 => (inferInstance : BI.Storable (upEmb : UEmb _ 𝕄) (td0 hp d (Fin.cast (nCore_eq 0) c) (Fin.cast (nSub_eq 0) i)))
    | 1 => (inferInstance : BI.Storable (upEmb : UEmb _ 𝕄) (td1 hp d (Fin.cast (nCore_eq 1) c) (Fin.cast (nSub_eq 1) i)))

/-! ## The splits -/

theorem bigSep_sub (q : Fin 2) (Φ : Fin 16 → sProp 𝕄) :
    (bigSep Finset.univ fun i : Fin ((K (F := F)).nSub q) => Φ (Fin.cast (nSub_eq q) i)) = bigSep Finset.univ Φ := by
  fin_cases q <;> exact bigSep_congr fun _ _ => congrArg Φ (Fin.ext rfl)
theorem bigSep_core (q : Fin 2) (Φ : Fin 2 → sProp 𝕄) :
    (bigSep Finset.univ fun c : Fin ((K (F := F)).nCore q) => Φ (Fin.cast (nCore_eq q) c)) = bigSep Finset.univ Φ := by
  fin_cases q <;> exact bigSep_congr fun _ _ => congrArg Φ (Fin.ext rfl)

theorem vecSplit0 : (K (F := F)).VecSplit' (P hp) 0 := by
  intro d c
  show st0 m d (Fin.cast (nCore_eq 0) c) ⊢ |={Set.univ}=> iprop(
      (bigSep Finset.univ fun i : Fin ((K (F := F)).nSub 0) => go0 m d (Fin.cast (nCore_eq 0) c) (Fin.cast (nSub_eq 0) i))
      ∗ ((bigSep Finset.univ fun i : Fin ((K (F := F)).nSub 0) => td0 hp d (Fin.cast (nCore_eq 0) c) (Fin.cast (nSub_eq 0) i)) -∗ dn0 hp d (Fin.cast (nCore_eq 0) c)))
  rw [bigSep_sub 0 (fun i => go0 m d (Fin.cast (nCore_eq 0) c) i), bigSep_sub 0 (fun i => td0 hp d (Fin.cast (nCore_eq 0) c) i)]
  unfold go0 td0 st0 dn0
  rw [bigSep_sep', bigSep_sep', bigSep_sep', bigSep_sep', ← deal_tiles, ← deal_tiles, ← deal_tiles, ← deal_tiles, ← part_tiles, ← part_tiles]
  iintro H; imodintro
  isplitl [H]; · iexact H
  iintro H; iexact H

theorem vecSplit1 : (K (F := F)).VecSplit' (P hp) 1 := by
  intro d c
  show st1 hp d (Fin.cast (nCore_eq 1) c) ⊢ |={Set.univ}=> iprop(
      (bigSep Finset.univ fun i : Fin ((K (F := F)).nSub 1) => go1 hp d (Fin.cast (nCore_eq 1) c) (Fin.cast (nSub_eq 1) i))
      ∗ ((bigSep Finset.univ fun i : Fin ((K (F := F)).nSub 1) => td1 hp d (Fin.cast (nCore_eq 1) c) (Fin.cast (nSub_eq 1) i)) -∗ dn1 hp d (Fin.cast (nCore_eq 1) c)))
  rw [bigSep_sub 1 (fun i => go1 hp d (Fin.cast (nCore_eq 1) c) i), bigSep_sub 1 (fun i => td1 hp d (Fin.cast (nCore_eq 1) c) i)]
  unfold go1 td1 st1 dn1
  rw [bigSep_sep', bigSep_sep', bigSep_sep', bigSep_sep', bigSep_sep', bigSep_sep', bigSep_sep',
    ← deal_tiles, ← deal_tiles, ← deal_tiles, ← deal_tiles, ← deal_tiles, ← out_tiles, ← out_tiles]
  iintro H; imodintro
  isplitl [H]; · iexact H
  iintro H; iexact H

/-! ## The tiles' obligations -/

attribute [local irreducible] VA partV outV

/-- A body that hands its scratch and semaphores back meets the launch theorem's form of the obligation. -/
theorem wrap {d : Dev nD} {L : grid0.Coords} {G R : sProp (MT nD τ sig (HIx 2) (Elt F) ℕ (UU nD τ sig) ℕ)} {p : Prog (TpuEff nD τ sig (Elt F) Λ₀ (tV d L).2) PUnit} {q : Fin 2}
    {O : CellTallies nD τ sig (HIx 2)} {W : Waits sig (HIx 2)} (hO : ∀ g, O g none = 0)
    (h : iprop(G ∗ ownBufs (tV d L) ∗ Own (tV d L) O W)
      ⊢ wp (M := MT nD τ sig (HIx 2) (Elt F) ℕ (UU nD τ sig) ℕ) frame (wpE (defs₀ (F := F)) 𝒱₀ (tV d L) none) Set.univ p fun _ => iprop(R ∗ ownBufs (tV d L) ∗ Own (tV d L) O W)) :
    iprop(levAts (K (F := F)).L (K (F := F)).lev ∗ emp ∗ G ∗ scopedBufs (tV d L) ∗ scopedSems0 (tV d L) ∗ owes (tV d L) O W)
      ⊢ wp (M := MT nD τ sig (HIx 2) (Elt F) ℕ (UU nD τ sig) ℕ) frame (wpE (defs₀ (F := F)) 𝒱₀ (tV d L) none) Set.univ p
        fun _ => iprop(R ∗ scopedBufs (tV d L) ∗ scopedSems0 (tV d L) ∗ ∃ W', ⌜∀ p ∈ W', p ∈ W ∨ p.2 = none ∨ p.2 = some q⌝ ∗ owes (tV d L) O W') := by
  rw [(K (F := F)).scopedBufs_V facts d (cV L) (jV L), SparseCore.Cfg.scopedSems0_V (Val := Elt F) d (cV L) (jV L)]
  refine BIBase.Entails.trans ?_ (h.trans (wp_mono frame _ _ fun _ => ?_))
  · iintro ⟨#Hlv, -, HG, Hb, Hs, HO⟩
    ihave Hmw := (show levAts (K (F := F)).L (K (F := F)).lev ⊢ Transfers.MayWaits (tV d L) (default : HIx 2) O from (K (F := F)).mayWaits_none (thr := tV d L) hO) $$ Hlv
    isplitl [HG]; · iexact HG
    isplitl [Hb]; · iexact Hb
    unfold Own
    isplitl [Hmw]; · iexact Hmw
    isplitl [Hs]; · iexact Hs
    iexists W
    isplitr; · ipureintro; exact fun p hp => .inl hp
    iexact HO
  · unfold Own
    iintro ⟨HR, Hb, -, Hs, %W', %hW', HO⟩
    isplitl [HR]; · iexact HR
    isplitl [Hb]; · iexact Hb
    isplitl [Hs]; · iexact Hs
    iexists W'
    isplitr; · ipureintro; exact fun p hp => (hW' p hp).imp_right Or.inl
    iexact HO

theorem defs₀_vector0 (c : Fin τ.nSC) (s : Fin τ.nSub) :
    defs₀ (F := F) (.scVector c s) 0 () = SparseCore.onTile hcore0 hsub0 (fun c s => cc0__pass1 (coordsV c s)
      (Memref.whole main_v1_scv) (Memref.isWhole_whole _) (Memref.whole main_v3_scv) (Memref.isWhole_whole _) (Memref.whole main_v6_scv) (Memref.isWhole_whole _) (Memref.whole main_v7_scv) (Memref.isWhole_whole _) (Memref.whole main_v8_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4) ⟨⟩ c s := rfl
theorem defs₀_vector1 (c : Fin τ.nSC) (s : Fin τ.nSub) :
    defs₀ (F := F) (.scVector c s) 1 () = SparseCore.onTile hcore1 hsub1 (fun c s => cc1__pass2 (coordsV c s)
      (Memref.whole main_v8_scv) (Memref.isWhole_whole _) (Memref.whole main_arg0_scv) (Memref.isWhole_whole _) (Memref.whole main_arg1_scv) (Memref.isWhole_whole _) (Memref.whole main_v9_scv) (Memref.isWhole_whole _) (Memref.whole main_v10_scv) (Memref.isWhole_whole _) (Memref.whole main_v11_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36) ⟨⟩ c s := rfl

theorem tile0 (d : Dev nD) (c : Fin 2) (i : Fin 16) (O : CellTallies nD τ sig (HIx 2)) (W : Waits sig (HIx 2)) :
    iprop(go0 m d c i ∗ ownBufs (tV d (LV c i)) ∗ Own (tV d (LV c i)) O W)
      ⊢ wp (M := MT nD τ sig (HIx 2) (Elt F) ℕ (UU nD τ sig) ℕ) frame (wpE (defs₀ (F := F)) 𝒱₀ (tV d (LV c i)) none) Set.univ
        (cc0__pass1 (LV c i)
      (Memref.whole main_v1_scv) (Memref.isWhole_whole _) (Memref.whole main_v3_scv) (Memref.isWhole_whole _) (Memref.whole main_v6_scv) (Memref.isWhole_whole _) (Memref.whole main_v7_scv) (Memref.isWhole_whole _) (Memref.whole main_v8_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4)
        fun _ => iprop(td0 hp d c i ∗ ownBufs (tV d (LV c i)) ∗ Own (tV d (LV c i)) O W) := by
  unfold td0 partV go0
  generalize VA m d (ref main_v8) = p0
  refine BIBase.Entails.trans (Entails.of_eq ?_) (BIBase.Entails.trans
    (tile_body1 d (LV c i) (zA m d) (gA m d) (aeA m d) (zrA m d) (hp d).1 (hp d).2 (qt c i) p0 O W) (wp_mono frame _ _ fun _ => Entails.of_eq ?_))
  · with_reducible rfl
  · with_reducible rfl

theorem tile1 (d : Dev nD) (c : Fin 2) (i : Fin 16) (O : CellTallies nD τ sig (HIx 2)) (W : Waits sig (HIx 2)) :
    iprop(go1 hp d c i ∗ ownBufs (tV d (LV c i)) ∗ Own (tV d (LV c i)) O W)
      ⊢ wp (M := MT nD τ sig (HIx 2) (Elt F) ℕ (UU nD τ sig) ℕ) frame (wpE (defs₀ (F := F)) 𝒱₀ (tV d (LV c i)) none) Set.univ
        (cc1__pass2 (LV c i)
      (Memref.whole main_v8_scv) (Memref.isWhole_whole _) (Memref.whole main_arg0_scv) (Memref.isWhole_whole _) (Memref.whole main_arg1_scv) (Memref.isWhole_whole _) (Memref.whole main_v9_scv) (Memref.isWhole_whole _) (Memref.whole main_v10_scv) (Memref.isWhole_whole _) (Memref.whole main_v11_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36)
        fun _ => iprop(td1 hp d c i ∗ ownBufs (tV d (LV c i)) ∗ Own (tV d (LV c i)) O W) := by
  unfold td1 outV go1
  refine BIBase.Entails.trans (Entails.of_eq ?_) (BIBase.Entails.trans
    (tile_body2 (P := partV hp d) (EN := enA m d) (NA := naA m d) (s := scA m d) (h := shA m d) (q := qt c i) (o0 := m (outLoc d)) (O := O) (W := W) d (LV c i))
    (wp_mono frame _ _ fun _ => Entails.of_eq ?_))
  · with_reducible rfl
  · unfold Done; with_reducible rfl

set_option maxRecDepth 16384 in
theorem tileObl0 : (K (F := F)).TileObl (D (F := F)) 𝒱 (P hp) v₀ 0 := by
  intro d c i O W hO _ _
  simp only [show (P hp).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector0]; simp only [SparseCore.onTile, hci, and_self, ↓reduceDIte]
  refine BIBase.Entails.trans (Entails.of_eq ?_) (BIBase.Entails.trans
    (wrap (d := d) (L := LV (Fin.cast (nCore_eq 0) c) (Fin.cast (nSub_eq 0) i)) (q := 0) hO (tile0 hp d (Fin.cast (nCore_eq 0) c) (Fin.cast (nSub_eq 0) i) O W))
    (wp_mono frame _ _ fun _ => Entails.of_eq ?_))
  · rfl
  · rfl

set_option maxRecDepth 16384 in
theorem tileObl1 : (K (F := F)).TileObl (D (F := F)) 𝒱 (P hp) v₀ 1 := by
  intro d c i O W hO _ _
  simp only [show (P hp).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BIBase.Entails.trans ?_ (Pipeline.wp_liftProg (D (F := F)) (Pipeline.defs_kernel pcfgs defs₀) 𝒱₀ _ Set.univ none _ _)
  rw [defs₀_vector1]; simp only [SparseCore.onTile, hci, and_self, ↓reduceDIte]
  refine BIBase.Entails.trans (Entails.of_eq ?_) (BIBase.Entails.trans
    (wrap (d := d) (L := LV (Fin.cast (nCore_eq 1) c) (Fin.cast (nSub_eq 1) i)) (q := 1) hO (tile1 hp d (Fin.cast (nCore_eq 1) c) (Fin.cast (nSub_eq 1) i) O W))
    (wp_mono frame _ _ fun _ => Entails.of_eq ?_))
  · rfl
  · rfl

end Cert.Proof.KerI

end
-- ==== Proof.KerIMain.lean ====
/-
  The host program around the two calls, and the run of all the threads: what the result holds at the
  end, the arguments kept and every semaphore at zero.
-/
module

public import proofs.«01_k».proof.Proof.KerIPay

@[expose] public section

noncomputable section

namespace Cert.Proof.KerI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals

variable {F : FTy → Type} [FloatOps F]

local notation "𝕄" => MT nD τ sig (HIx 2) (Elt F) ℕ (UU nD τ sig) ℕ

variable {m : (ℓ : Loc nD τ sig) → Buf (Elt F) ℓ} (ρ : Dev nD → PrngReg) (hp : PreOK m)

/-! ## The host's operations -/

abbrev US : Finset (DevRef τ sig) := Pipeline.ucRefs τ sig

theorem opsA_sub : ∀ op ∈ (opsA : List (HloOp τ sig (Elt F))), op.bufs ⊆ US := by
  intro op h
  refine Pipeline.sub_ucRefs op ?_
  simp only [opsA, List.mem_cons, List.not_mem_nil, or_false] at h
  rcases h with rfl | rfl | rfl | rfl | rfl | rfl | rfl | rfl | rfl | rfl | rfl | rfl | rfl <;>
    first | exact StableHlo.nullary_bufs_sub .. | exact StableHlo.unary_bufs_sub .. | exact StableHlo.binary_bufs_sub .. | exact StableHlo.ternary_bufs_sub ..

theorem opsA_fresh : ∀ op ∈ (opsA : List (HloOp τ sig (Elt F))), op.fresh = ∅ := by
  intro op h
  simp only [opsA, List.mem_cons, List.not_mem_nil, or_false] at h
  rcases h with rfl | rfl | rfl | rfl | rfl | rfl | rfl | rfl | rfl | rfl | rfl | rfl | rfl <;> rfl

theorem opsB_fresh : ∀ op ∈ (opsB : List (HloOp τ sig (Elt F))), op.fresh = ∅ := by
  intro op h
  simp only [opsB, List.mem_cons, List.not_mem_nil, or_false] at h
  rcases h with rfl | rfl <;> rfl

/-- What the first call takes; what the second takes beside the partial sums; the other arguments. -/
abbrev T0 : Finset (DevRef τ sig) := {ref main_v1, ref main_v3, ref main_v6, ref main_v7, ref main_v8}
abbrev T1 : Finset (DevRef τ sig) := {ref main_arg0, ref main_arg1, ref main_v9, ref main_v10, ref main_v11}
abbrev T2 : Finset (DevRef τ sig) := {ref main_arg2, ref main_arg3, ref main_arg4, ref main_arg5, ref main_arg6}

theorem US_mem (b : Ref sig .tc) (h : (ref b : DevRef τ sig).isScoped = false) : ref b ∈ US :=
  Finset.mem_filter.mpr ⟨StableHlo.devRef_mem_tcRefs b, fun h' => Bool.false_ne_true (h.symm.trans h')⟩

theorem T0_sub : T0 ⊆ US := by
  simp only [T0, Finset.insert_subset_iff, Finset.singleton_subset_iff]
  exact ⟨US_mem _ rfl, US_mem _ rfl, US_mem _ rfl, US_mem _ rfl, US_mem _ rfl⟩
theorem T1_sub : T1 ⊆ US \ T0 := by
  simp only [T1, Finset.insert_subset_iff, Finset.singleton_subset_iff, Finset.mem_sdiff]
  exact ⟨⟨US_mem _ rfl, by decide⟩, ⟨US_mem _ rfl, by decide⟩, ⟨US_mem _ rfl, by decide⟩, ⟨US_mem _ rfl, by decide⟩, US_mem _ rfl, by decide⟩
theorem T2_sub : T2 ⊆ (US \ T0) \ T1 := by
  simp only [T2, Finset.insert_subset_iff, Finset.singleton_subset_iff, Finset.mem_sdiff]
  exact ⟨⟨⟨US_mem _ rfl, by decide⟩, by decide⟩, ⟨⟨US_mem _ rfl, by decide⟩, by decide⟩, ⟨⟨US_mem _ rfl, by decide⟩, by decide⟩,
    ⟨⟨US_mem _ rfl, by decide⟩, by decide⟩, ⟨US_mem _ rfl, by decide⟩, by decide⟩

theorem opsB_sub : ∀ op ∈ (opsB : List (HloOp τ sig (Elt F))), op.bufs ⊆ US \ T0 := by
  intro op h
  simp only [opsB, List.mem_cons, List.not_mem_nil, or_false] at h
  rcases h with rfl | rfl
  · refine (show _ ⊆ ({ref main_arg4, ref main_v9} : Finset (DevRef τ sig)) from Finset.Subset.refl _).trans ?_
    simp only [Finset.insert_subset_iff, Finset.singleton_subset_iff, Finset.mem_sdiff]
    exact ⟨⟨US_mem _ rfl, by decide⟩, US_mem _ rfl, by decide⟩
  · refine (show _ ⊆ ({ref main_arg5, ref main_v10} : Finset (DevRef τ sig)) from Finset.Subset.refl _).trans ?_
    simp only [Finset.insert_subset_iff, Finset.singleton_subset_iff, Finset.mem_sdiff]
    exact ⟨⟨US_mem _ rfl, by decide⟩, US_mem _ rfl, by decide⟩

theorem VA_kept (d : Dev nD) (r : Ref sig .tc)
    (hr : r ∉ [main_c, main_v0, main_v1, main_c_0, main_v2, main_v3, main_cst, main_v4, main_c_1, main_v5, main_v6, main_cst_2, main_v7]) :
    VA m d (ref r) = V0 m d (ref r) :=
  StableHlo.after_of_writes_sub opsA (V0 m d) (by
    simp only [opsA, List.forall_cons, List.Forall, and_true]
    refine ⟨?_, ?_, ?_, ?_, ?_, ?_, ?_, ?_, ?_, ?_, ?_, ?_, ?_⟩ <;> exact Finset.singleton_subset_iff.mpr (List.mem_toFinset.mpr (List.mem_map_of_mem (by decide)))) hr

theorem VC_kept (d : Dev nD) (r : Ref sig .tc) (hr : r ∉ [main_v9, main_v10]) : VC m d (ref r) = VA m d (ref r) :=
  StableHlo.after_of_writes_sub opsB (VA m d) (by
    simp only [opsB, List.forall_cons, List.Forall, and_true]
    refine ⟨?_, ?_⟩ <;> exact Finset.singleton_subset_iff.mpr (List.mem_toFinset.mpr (List.mem_map_of_mem (by decide)))) hr

theorem one_index (a b : S1.Idx) : a = b :=
  funext fun k => by
    fin_cases k
    refine Fin.ext ?_
    have ha : (a 0).val < 1 := (a 0).isLt
    have hb : (b 0).val < 1 := (b 0).isLt
    show (a 0).val = (b 0).val; omega

/-- A one-element array broadcast to sixteen. -/
theorem spread (v : S1.Idx → Elt F .f32) :
    (broadcastInDim (⟨1, ![16]⟩ : Shape) (![0] : Fin 1 → Fin 1) bcast_S1_S16_0 v : S16.Idx → Elt F .f32) = fun _ => v (ix1 0) :=
  funext fun _ => congrArg v (one_index _ _)

theorem VC_sc (d : Dev nD) : (VC m d (ref main_v9) : S16.Idx → Elt F .f32) = fun _ => scA m d := by
  refine Eq.trans (b := (broadcastInDim S16 ![0] bcast_S1_S16_0 (VA m d (ref main_arg4) : S1.Idx → Elt F .f32) : S16.Idx → Elt F .f32)) ?_ ?_
  · unfold VC opsB; after_results
  · rw [VA_kept d main_arg4 (by decide)]; exact spread _

theorem VC_sh (d : Dev nD) : (VC m d (ref main_v10) : S16.Idx → Elt F .f32) = fun _ => shA m d := by
  refine Eq.trans (b := (broadcastInDim S16 ![0] bcast_S1_S16_0 (VA m d (ref main_arg5) : S1.Idx → Elt F .f32) : S16.Idx → Elt F .f32)) ?_ ?_
  · unfold VC opsB; after_results
  · rw [VA_kept d main_arg5 (by decide)]; exact spread _

theorem held_T0 (d : Dev nD) (V : Valuation τ sig (Elt F)) : (StableHlo.held (SparseCore.T d) T0 V : sProp 𝕄)
    = iprop((zLoc d ↦{fullShare} V (ref main_v1)) ∗ (gLoc d ↦{fullShare} V (ref main_v3)) ∗ (aeLoc d ↦{fullShare} V (ref main_v6))
        ∗ (zrLoc d ↦{fullShare} V (ref main_v7)) ∗ (partLoc d ↦{fullShare} V (ref main_v8))) := by
  unfold StableHlo.held T0
  rw [SparseCore.bigSep_insert' (by decide), SparseCore.bigSep_insert' (by decide), SparseCore.bigSep_insert' (by decide), SparseCore.bigSep_insert' (by decide), bigSep_singleton]
theorem held_T1 (d : Dev nD) (V : Valuation τ sig (Elt F)) : (StableHlo.held (SparseCore.T d) T1 V : sProp 𝕄)
    = iprop((enLoc d ↦{fullShare} V (ref main_arg0)) ∗ (naLoc d ↦{fullShare} V (ref main_arg1)) ∗ (scLoc d ↦{fullShare} V (ref main_v9))
        ∗ (shLoc d ↦{fullShare} V (ref main_v10)) ∗ (outLoc d ↦{fullShare} V (ref main_v11))) := by
  unfold StableHlo.held T1
  rw [SparseCore.bigSep_insert' (by decide), SparseCore.bigSep_insert' (by decide), SparseCore.bigSep_insert' (by decide), SparseCore.bigSep_insert' (by decide), bigSep_singleton]

variable (m) in
/-- The arguments at the end. -/
theorem held_args (d : Dev nD) :
    (StableHlo.held (SparseCore.T d) ((US \ T0) \ T1) (VC m d) : sProp 𝕄) ⊢ StableHlo.held (SparseCore.T d) T2 (V0 m d) := by
  rw [StableHlo.held_sub_split _ T2_sub, StableHlo.held_congr (S := T2) (V := VC m d) (V' := V0 m d)]
  · exact sep_elim_left
  · intro b hb
    simp only [T2, Finset.mem_insert, Finset.mem_singleton] at hb
    rcases hb with rfl | rfl | rfl | rfl | rfl <;> exact (VC_kept d _ (by decide)).trans (VA_kept d _ (by decide))

/-! ## What the calls are handed and hand back, whole -/

theorem st0_eq (d : Dev nD) : (bigSep Finset.univ fun c : Fin ((K (F := F)).nCore 0) => (P hp).st 0 d c)
    = (StableHlo.held (SparseCore.T d) T0 (VA m d) : sProp 𝕄) := by
  refine (bigSep_core 0 (fun c => st0 m d c)).trans ?_
  rw [held_T0]; unfold st0
  rw [bigSep_sep', bigSep_sep', bigSep_sep', bigSep_sep', ← deal_cores, ← deal_cores, ← deal_cores, ← deal_cores, ← part_cores]
theorem dn0_eq (d : Dev nD) : (bigSep Finset.univ fun c : Fin ((K (F := F)).nCore 0) => (P hp).dn 0 d c) = (iprop(partLoc d ↦{fullShare} partV hp d) : sProp 𝕄) := by
  refine (bigSep_core 0 (fun c => dn0 hp d c)).trans ?_
  unfold dn0; rw [← part_cores]
theorem st1_eq (d : Dev nD) : (bigSep Finset.univ fun c : Fin ((K (F := F)).nCore 1) => (P hp).st 1 d c)
    = (iprop((partLoc d ↦{fullShare} partV hp d) ∗ StableHlo.held (SparseCore.T d) T1 (VC m d)) : sProp 𝕄) := by
  refine (bigSep_core 1 (fun c => st1 hp d c)).trans ?_
  rw [held_T1, VC_kept d main_arg0 (by decide), VA_kept d main_arg0 (by decide), VC_kept d main_arg1 (by decide), VA_kept d main_arg1 (by decide),
    VC_kept d main_v11 (by decide), VA_kept d main_v11 (by decide)]
  unfold st1
  rw [bigSep_sep', bigSep_sep', bigSep_sep', bigSep_sep', bigSep_sep', ← deal_cores, ← deal_cores, ← deal_cores, ← deal_cores, ← deal_cores, ← out_cores]
  rw [show (scLoc d ↦{fullShare} VC m d (ref main_v9) : sProp 𝕄) = (scLoc d ↦{fullShare} fun _ => scA m d) from congrArg (fun f => (scLoc d ↦{fullShare} f : sProp 𝕄)) (VC_sc d),
    show (shLoc d ↦{fullShare} VC m d (ref main_v10) : sProp 𝕄) = (shLoc d ↦{fullShare} fun _ => shA m d) from congrArg (fun f => (shLoc d ↦{fullShare} f : sProp 𝕄)) (VC_sh d)]
  rfl
theorem dn1_eq (d : Dev nD) : (bigSep Finset.univ fun c : Fin ((K (F := F)).nCore 1) => (P hp).dn 1 d c)
    = (iprop((enLoc d ↦{fullShare} enA m d) ∗ (naLoc d ↦{fullShare} naA m d) ∗ (outLoc d ↦{fullShare} outV hp d)) : sProp 𝕄) := by
  refine (bigSep_core 1 (fun c => dn1 hp d c)).trans ?_
  unfold dn1
  rw [bigSep_sep', bigSep_sep', ← deal_cores, ← deal_cores, ← out_cores]

/-! ## The launch's ghost state -/

theorem bigSep_nil {I : Type} (s : Finset I) : (bigSep s fun _ => iprop(emp)) = (iprop(emp) : sProp 𝕄) := bigSep_emp_const s

def u₀ : UU nD τ sig := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P hp).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nil]; iempintro
  rw [show (bigSep Finset.univ fun thr : Thread nD τ => bigSep Finset.univ fun q : Fin 2 => (P (F := F) hp).x q thr) = bigSep Finset.univ fun _ => iprop(emp) from
    bigSep_congr fun _ _ => bigSep_nil _, bigSep_nil]
  iempintro

/-! ## @main -/

theorem main_eq (d : Dev nD) : main (F := F) d = StableHlo.seq opsA >>= fun _ => sc.run d 0 >>= fun _ => StableHlo.seq opsB >>= fun _ => sc.run d 1 >>= fun _ => pure PUnit.unit := rfl

abbrev FIN (d : Dev nD) : sProp 𝕄 :=
  iprop((enLoc d ↦{fullShare} enA m d) ∗ (naLoc d ↦{fullShare} naA m d) ∗ (outLoc d ↦{fullShare} outV hp d) ∗ StableHlo.held (SparseCore.T d) T2 (V0 m d))

theorem hmain (κ : GSem nD τ sig → ℕ) (d : Dev nD) :
    iprop((K (F := F)).ctx EH (P hp) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN hp d ∗ (K (F := F)).tcEnd d) := by
  unfold SparseCore.Cfg.tcRes SparseCore.Cfg.tcEnd
  rw [show (unscopedBufs d (fun b => m ((SparseCore.T d).loc b)) : sProp 𝕄) = StableHlo.held (SparseCore.T d) US (V0 m d) from Pipeline.unscopedBufs_held d (V0 m d),
    main_eq]
  iintro ⟨#Hctx, Hst, ⟨Hb, Hh, Hts, -⟩, -⟩
  iapply (StableHlo.wp_seq 𝒱 none Set.univ d US _ opsA opsA_sub opsA_fresh (V0 m d)) $$ [Hb Hh]
  · isplitl [Hb]; · iexact Hb
    iexact Hh
  iintro ⟨Hb, Hh⟩
  ihave Hh := (show (StableHlo.held (d.tc : Thread nD τ) US (StableHlo.after opsA (V0 m d)) : sProp 𝕄) ⊢ iprop(StableHlo.held (SparseCore.T d) T0 (VA m d) ∗ StableHlo.held (d.tc : Thread nD τ) (US \ T0) (VA m d))
    from Entails.of_eq (StableHlo.held_sub_split (SparseCore.T d) T0_sub (VA m d))) $$ Hh
  icases Hh with ⟨H0, Hh⟩
  rw [wp_bind]
  iapply ((K (F := F)).wp_run (D (F := F)) 𝒱 (EH := EH) (P := P hp) κ d 0) $$ [Hst H0 Hh Hb Hts]
  isplitr; · iexact Hctx
  isplitl [Hst]; · iexact Hst
  isplitl [H0]
  · rw [st0_eq]; iexact H0
  iintro ⟨Hst, Hdn⟩
  ihave Hp := (Entails.of_eq (dn0_eq hp d)) $$ Hdn
  iapply (StableHlo.wp_seq 𝒱 none Set.univ d (US \ T0) _ opsB opsB_sub opsB_fresh (VA m d)) $$ [Hb Hh]
  · isplitl [Hb]; · iexact Hb
    iexact Hh
  iintro ⟨Hb, Hh⟩
  ihave Hh := (show (StableHlo.held (d.tc : Thread nD τ) (US \ T0) (StableHlo.after opsB (VA m d)) : sProp 𝕄) ⊢ iprop(StableHlo.held (SparseCore.T d) T1 (VC m d) ∗ StableHlo.held (SparseCore.T d) ((US \ T0) \ T1) (VC m d))
    from Entails.of_eq (StableHlo.held_sub_split (SparseCore.T d) T1_sub (VC m d))) $$ Hh
  icases Hh with ⟨H1, Hh⟩
  rw [wp_bind]
  iapply ((K (F := F)).wp_run (D (F := F)) 𝒱 (EH := EH) (P := P hp) κ d 1) $$ [Hst Hp H1 Hh Hb Hts]
  isplitr; · iexact Hctx
  isplitl [Hst]; · iexact Hst
  isplitl [Hp H1]
  · rw [st1_eq]
    isplitl [Hp]; · iexact Hp
    iexact H1
  iintro ⟨Hst, Hdn⟩
  ihave Hp := (Entails.of_eq (dn1_eq hp d)) $$ Hdn
  icases Hp with ⟨Hen, Hna, Hout⟩
  ihave Hh := (held_args m d) $$ Hh
  rw [wp_pure]
  imodintro
  isplitl [Hst]; · iexact Hst
  isplitl [Hen Hna Hout Hh]
  · isplitl [Hen]; · iexact Hen
    isplitl [Hna]; · iexact Hna
    isplitl [Hout]; · iexact Hout
    iexact Hh
  isplitl [Hb]; · iexact Hb
  iexact Hts

/-! ## The run -/

/-- The arguments are as they were. -/
def Kept (m : (ℓ : Loc nD τ sig) → Buf (Elt F) ℓ) (d : Dev nD) (M : (ℓ : Loc nD τ sig) → Buf (Elt F) ℓ) : Prop :=
  M (enLoc d) = m (enLoc d) ∧ M (naLoc d) = m (naLoc d) ∧ M ((SparseCore.T d).loc main_arg2) = m ((SparseCore.T d).loc main_arg2) ∧ M ((SparseCore.T d).loc main_arg3) = m ((SparseCore.T d).loc main_arg3)
    ∧ M ((SparseCore.T d).loc main_arg4) = m ((SparseCore.T d).loc main_arg4) ∧ M ((SparseCore.T d).loc main_arg5) = m ((SparseCore.T d).loc main_arg5) ∧ M ((SparseCore.T d).loc main_arg6) = m ((SparseCore.T d).loc main_arg6)

def fq (d : Dev nD) (s' : Phys nD τ sig (Elt F)) : Prop := Kept m d s'.mem.mem ∧ s'.mem.mem (outLoc d) = outV hp d

/-- One array held whole is what memory holds there. -/
theorem agree {ℓ : Loc nD τ sig} (f : Buf (Elt F) ℓ) (s' : Phys nD τ sig (Elt F)) {R : sProp 𝕄} {φ : Prop}
    (h : s'.mem.mem ℓ = f → iprop(R ∗ SI s') ⊢ (⌜φ⌝ : sProp 𝕄)) : iprop(((ℓ ↦{fullShare} f) ∗ R) ∗ SI s') ⊢ (⌜φ⌝ : sProp 𝕄) := by
  iintro ⟨⟨Hf, HR⟩, HSI⟩
  ihave H := (persistent_entails_right (SI_pointsTo_agree (st := s') (ℓ := ℓ) (I := Finset.univ) (q := fullShare) (f := f))) $$ [HSI Hf]
  · isplitl [HSI] <;> iassumption
  icases H with ⟨%h1, HSI, -⟩
  iapply (h (funext fun i => h1 i (Finset.mem_univ i)))
  isplitl [HR]; · iexact HR
  iexact HSI

theorem agree_last {ℓ : Loc nD τ sig} (f : Buf (Elt F) ℓ) (s' : Phys nD τ sig (Elt F)) {φ : Prop}
    (h : s'.mem.mem ℓ = f → φ) : iprop((ℓ ↦{fullShare} f) ∗ SI s') ⊢ (⌜φ⌝ : sProp 𝕄) := by
  iintro ⟨Hf, HSI⟩
  ihave H := (SI_pointsTo_agree (st := s') (ℓ := ℓ) (I := Finset.univ) (q := fullShare) (f := f)) $$ [HSI Hf]
  · isplitl [HSI] <;> iassumption
  icases H with %h1
  ipureintro; exact h (funext fun i => h1 i (Finset.mem_univ i))

theorem held_T2 (d : Dev nD) (V : Valuation τ sig (Elt F)) : (StableHlo.held (SparseCore.T d) T2 V : sProp 𝕄)
    = iprop((((SparseCore.T d).loc main_arg2) ↦{fullShare} V (ref main_arg2)) ∗ (((SparseCore.T d).loc main_arg3) ↦{fullShare} V (ref main_arg3)) ∗ (((SparseCore.T d).loc main_arg4) ↦{fullShare} V (ref main_arg4))
        ∗ (((SparseCore.T d).loc main_arg5) ↦{fullShare} V (ref main_arg5)) ∗ (((SparseCore.T d).loc main_arg6) ↦{fullShare} V (ref main_arg6))) := by
  unfold StableHlo.held T2
  rw [SparseCore.bigSep_insert' (by decide), SparseCore.bigSep_insert' (by decide), SparseCore.bigSep_insert' (by decide), SparseCore.bigSep_insert' (by decide), bigSep_singleton]

theorem hfin (d : Dev nD) (s' : Phys nD τ sig (Elt F)) : iprop(FIN hp d ∗ SI s') ⊢ (⌜fq hp d s'⌝ : sProp 𝕄) := by
  unfold FIN
  rw [held_T2]
  refine agree _ _ fun h0 => agree _ _ fun h1 => agree _ _ fun ho => agree _ _ fun h2 => agree _ _ fun h3 => agree _ _ fun h4 => agree _ _ fun h5 => agree_last _ _ fun h6 => ?_
  exact ⟨⟨h0, h1, h2, h3, h4, h5, h6⟩, ho⟩

def QC : PUnit × MemSt nD τ sig (Elt F) → Prop := fun r => (∀ d : Dev nD, Kept m d r.2.mem ∧ r.2.mem (outLoc d) = outV hp d) ∧ r.2.sem = fun _ => 0

theorem run_main [∀ e, Nonempty (Elt F e)] :
    θ_run (defs (F := F)) (threads (F := F)) ⟨m, fun _ => 0, ρ⟩ (QC hp) :=
  SparseCore.Cfg.θ_run_sc_quiescent (K := K (F := F)) (D := D (F := F)) (𝒱 := 𝒱) (EH := EH) (P := P hp) (A := ∅) facts v₀
    (fun q hq => match q with | 0 => nomatch hq | 1 => nomatch hq)
    (fun q _ => match q with | 0 => tileObl0 hp | 1 => tileObl1 hp)
    (fun q _ => match q with | 0 => SparseCore.Cfg.VecSplit.of_plain (vecSplit0 hp) | 1 => SparseCore.Cfg.VecSplit.of_plain (vecSplit1 hp))
    m ρ main (fun _ => iprop(emp)) (FIN hp) (u₀ (F := F)) (sep_elim_left.trans (hu₀ hp)) (hmain ρ hp) (fq hp) (hfin hp) (QC hp) (fun _ h hz => ⟨h, hz⟩)

end Cert.Proof.KerI

end
-- ==== Proof.KerIOk.lean ====
/-
  What the host's operations leave in the arrays the first call reads, and that every index is in range
  when the arguments' are.
-/
module

public import proofs.«01_k».proof.Proof.KerIMain
public import proofs.«01_k».proof.Proof.Ranges

@[expose] public section

noncomputable section

namespace Cert.Proof.KerI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Step Cert.Proof.Vals Cert.Proof.Ranges

variable {F : FTy → Type} [FloatOps F]

local notation "𝕄" => MT nD τ sig (HIx 2) (Elt F) ℕ (UU nD τ sig) ℕ

variable (m : (ℓ : Loc nD τ sig) → Buf (Elt F) ℓ)

abbrev zArg (d : Dev nD) : S100000.Idx → BitVec 32 := m ((SparseCore.T d).loc main_arg2)
abbrev gArg (d : Dev nD) : S100000.Idx → BitVec 32 := m ((SparseCore.T d).loc main_arg3)
abbrev aeArg (d : Dev nD) : S119.Idx → Elt F .f32 := m ((SparseCore.T d).loc main_arg6)

/-- The indices, padded at the end. -/
theorem zA_apply (d : Dev nD) (x : S102400.Idx) : zA m d x = if h : (x 0).val < 100000 then zArg m d (ix1 ⟨(x 0).val, h⟩) else 0#32 := by
  have e : zA m d = (concatenate S102400 0 [⟨S100000, zArg m d⟩, ⟨S2400, fun _ => 0#32⟩] concatenates_S100000_S2400_S102400_d0 : S102400.Idx → BitVec 32) := by
    unfold zA VA opsA; after_results; rfl
  rw [e]; exact padded _ _ _ x

theorem gA_apply (d : Dev nD) (x : S102400.Idx) : gA m d x = if h : (x 0).val < 100000 then gArg m d (ix1 ⟨(x 0).val, h⟩) else 4096#32 := by
  have e : gA m d = (concatenate S102400 0 [⟨S100000, gArg m d⟩, ⟨S2400, fun _ => 4096#32⟩] concatenates_S100000_S2400_S102400_d0 : S102400.Idx → BitVec 32) := by
    unfold gA VA opsA; after_results; rfl
  rw [e]; exact padded _ _ _ x

/-- The table of energies: the argument laid over zeros. -/
theorem aeA_eq (d : Dev nD) : aeA m d = Host.scatter scatter_S128_S1_S119_0_n_0_0 (fun _ b => b)
    (fun _ => FloatOps.ofBits .f32 0x00000000#32) (fun _ => 0#32) (aeArg m d) := by
  unfold aeA VA opsA; after_results; rfl

theorem zrA_eq (d : Dev nD) : zrA m d = fun _ => FloatOps.ofBits .f32 0x00000000#32 := by
  unfold zrA VA opsA; after_results; rfl

theorem preOK (h : ∀ d, (∀ x, (zArg m d x).toNat < 119) ∧ ∀ x, (gArg m d x).toNat < 4096) : PreOK m := by
  refine fun d => ⟨fun x => ?_, fun x => ?_⟩
  · rw [zA_apply]; split
    · exact ((h d).1 _).trans (by decide)
    · decide
  · rw [gA_apply]; split
    · exact ((h d).2 _).trans (by decide)
    · decide

end Cert.Proof.KerI

end
-- ==== Proof.Frames.lean ====
/-
  The frame claims: each program runs, keeps its arguments and ends with every semaphore at zero.
-/
module

public import proofs.«01_k».proof.Defs
public import proofs.«01_k».proof.Proof.KerOk
public import proofs.«01_k».proof.Proof.KerIOk
public import proofs.«01_k».proof.Proof.Gen.Pre_in_range
public import proofs.«01_k».proof.Proof.Gen.ReferenceIdeal
public import proofs.«01_k».proof.Proof.Gen.ReferenceIdeal.Run

@[expose] public section

noncomputable section

namespace Cert.Proof

open Idealize.ShloMosaic Idealize.SL.Sem

theorem ok (m : (ℓ : Loc Cert.Kernel.nD Cert.Kernel.τ Cert.Kernel.sig) → Buf (Elt Bits) ℓ) (h : Cert.Pre_Kernel m) : Ker.PreOK m :=
  Ker.preOK m fun d => Ranges.of_pre (h d)

theorem okI (m : (ℓ : Loc Cert.KernelIdeal.nD Cert.KernelIdeal.τ Cert.KernelIdeal.sig) → Buf (Elt Ideal) ℓ) (h : Cert.Pre_KernelIdeal m) : KerI.PreOK m :=
  KerI.preOK m fun d => Ranges.of_pre (h d)

theorem frame_p : Cert.quiescent_Kernel := fun m ρ h =>
  (θ_run Cert.Kernel.defs _ _).mono (fun _ h => ⟨fun d => (h.1 d).1, h.2⟩) (Ker.run_main (F := Bits) ρ (ok m h))

theorem frame_pi : Cert.quiescent_KernelIdeal := fun m ρ h =>
  (θ_run Cert.KernelIdeal.defs _ _).mono (fun _ h => ⟨fun d => (h.1 d).1, h.2⟩) (KerI.run_main (F := Ideal) ρ (okI m h))

theorem frame_r : Cert.quiescent_ReferenceIdeal := fun m ρ _ =>
  (θ_run Cert.ReferenceIdeal.defs _ _).mono (fun r h => ⟨fun d => (h d).2, Idealize.ShloMosaic.sem_eq_zero_of_no_sems (by decide) r.2⟩)
    (Cert.ReferenceIdeal.Value.run (F := Ideal) m ρ)

theorem frame_r_in_range : Cert.quiescent_ReferenceIdeal_pre_in_range := fun m ρ _ => frame_r m ρ trivial

end Cert.Proof

end
-- ==== Proof.Sums.lean ====
/-
  The kernel's accumulators over the exact reals: each of their entries is a sum over the atoms, and the
  32 of them together hold, at a molecule, the sum of its atoms' energies.
-/
module

public import proofs.«01_k».proof.Proof.Vals
public import Idealize.ShloMosaic.PureOps.Ideal

@[expose] public section

noncomputable section

namespace Cert.Proof.Sums

open Idealize.ShloMosaic Idealize.ShloMosaic.ValueIdx Cert.Proof.Vals

/-- One lane's share of an entry. -/
def share {n : ℕ} (I : (A1 16).Idx → BitVec 32) (v : (A1 16).Idx → EReal) (j : (A1 n).Idx) (k : Fin 16) : EReal :=
  if (I (ix1 k)).toNat = (j 0).val then v (ix1 k) else 0

/-- A fold each of whose steps adds to an entry adds the sum of them. -/
theorem fold_adds {ι κ : Type} (step : (κ → EReal) → ι → κ → EReal) (j : κ) (s : ι → EReal) (hs : ∀ g k, step g k j = g j + s k) (l : List ι) :
    ∀ g : κ → EReal, l.foldl step g j = g j + (l.map s).sum := by
  induction l with
  | nil => intro g; exact (add_zero (g j)).symm
  | cons k l ih =>
    intro g
    rw [List.foldl_cons, ih, hs, List.map_cons, List.sum_cons, add_assoc]

/-- An adding store of sixteen lanes adds to an entry what the lanes naming it hold. -/
theorem store_add {n : ℕ} (f : (A1 n).Idx → Elt Ideal .f32) (I : (A1 16).Idx → BitVec 32) (v : (A1 16).Idx → Elt Ideal .f32)
    (h : ∀ a x, ((![I] : Fin 1 → (A1 16).Idx → BitVec 32) a x).toNat < (A1 n).size a) (j : (A1 n).Idx) :
    (storeIdx f ![I] v (fun _ => 1#1) true h j : EReal) = f j + ∑ k : Fin 16, share I v j k := by
  rw [Fin.sum_univ_def]
  unfold storeIdx
  refine fold_adds (ι := Fin 16) _ j (share I v j) (fun g k => ?_) (List.finRange 16) f
  have hk : (Shape.ofLane (d := ![16]) k : (A1 16).Idx) = ix1 k := idx1_ext rfl
  dsimp only
  rw [hk, if_pos (show (1#1 : BitVec 1) = 1 from rfl), if_pos rfl]
  unfold share
  by_cases e : (I (ix1 k)).toNat = (j 0).val
  · have hj : idxAt ![I] h (ix1 k) = j := idx1_ext e
    rw [if_pos e, hj, if_pos fun _ => rfl]
    rfl
  · rw [if_neg e, if_neg fun c => e (c 0).symm]
    exact (add_zero (g j)).symm

/-- The energy of an element, zero for a word that names none. -/
def pick {n : ℕ} (AE : (A1 n).Idx → EReal) (z : BitVec 32) : EReal := if h : z.toNat < n then AE (ix1 ⟨z.toNat, h⟩) else 0

/-- What one atom, of element `z` in molecule `g`, gives to molecule `j`. -/
def given {n : ℕ} (AE : (A1 n).Idx → EReal) (z g : BitVec 32) (j : ℕ) : EReal := if g.toNat = j then pick AE z else 0

section One

variable (AE : (A1 128).Idx → Elt Ideal .f32) (ZR : (A1 4104).Idx → Elt Ideal .f32) {Z G : (A1 3200).Idx → BitVec 32}
  (hZ : ∀ x, (Z x).toNat < 128) (hG : ∀ x, (G x).toNat < 4104)

theorem ener_apply (o : ℕ) (k : Fin 16) : (ener AE hZ o (ix1 k) : EReal) = pick AE (wat Z (o + k.val)) := by
  unfold pick
  rw [dif_pos (wat_lt hZ (by decide) _)]
  exact congrArg AE (idx1_ext rfl)

/-- After `n` rounds an entry has what the first `16 n` atoms give it. -/
theorem accN_apply (n : ℕ) (j : (A1 4104).Idx) :
    (accN AE ZR hZ hG n j : EReal) = ZR j + ∑ a ∈ Finset.range (16 * n), given AE (wat Z a) (wat G a) (j 0).val := by
  induction n with
  | zero => exact (add_zero (ZR j : EReal)).symm
  | succ n ih =>
    show (storeIdx (accN AE ZR hZ hG n) ![win G (16 * n)] (ener AE hZ (16 * n)) (fun _ => 1#1) true (win_chk hG (by decide) _) j : EReal) = _
    rw [store_add, ih, Nat.mul_succ, Finset.sum_range_add, add_assoc]
    refine congrArg (_ + ·) (congrArg (_ + ·) ?_)
    rw [Finset.sum_range]
    refine Finset.sum_congr rfl fun k _ => ?_
    unfold share given
    rw [ener_apply]
    rfl

end One

/-- A sum in blocks is the sum. -/
theorem sum_blocks (t : ℕ → EReal) (m R : ℕ) : ∑ r ∈ Finset.range R, ∑ a ∈ Finset.range m, t (m * r + a) = ∑ a ∈ Finset.range (m * R), t a := by
  induction R with
  | zero => rfl
  | succ R ih => rw [Finset.sum_range_succ, ih, Nat.mul_succ, Finset.sum_range_add]

theorem colSum_eq (P : ℕ → Elt Ideal .f32) (n : ℕ) : (colSum P n : EReal) = ∑ r ∈ Finset.range (n + 1), (P r : EReal) := by
  induction n with
  | zero => exact (Finset.sum_range_one (fun r => (P r : EReal))).symm
  | succ n ih =>
    rw [Finset.sum_range_succ, ← ih]
    rfl

/-- The 32 accumulators' entries at `j < 4104`, summed: what all the atoms give to `j`. -/
theorem colSum_partial (ZA GA : (A1 102400).Idx → BitVec 32) (AE : (A1 128).Idx → Elt Ideal .f32)
    (hZ : ∀ x, (ZA x).toNat < 128) (hG : ∀ x, (GA x).toNat < 4104) {j : ℕ} (hj : j < 4104) :
    (colSum (fun r => pat (partial' ZA GA AE (fun _ => (0 : EReal)) hZ hG) r j) 31 : EReal)
      = ∑ a ∈ Finset.range 102400, given AE (wat ZA a) (wat GA a) j := by
  rw [colSum_eq]
  refine (Finset.sum_congr rfl fun r hr => ?_).trans (sum_blocks (fun a => given AE (wat ZA a) (wat GA a) j) 3200 32)
  have hr : r < 32 := Finset.mem_range.mp hr
  have e : pat (partial' ZA GA AE (fun _ => (0 : EReal)) hZ hG) r j
      = accN AE (fun _ => (0 : EReal)) (rowOf_lt hZ (by decide) r) (rowOf_lt hG (by decide) r) 200 (ix1 ⟨j, hj⟩) :=
    (pat_of _ (ix2 ⟨r, hr⟩ ⟨j, hj⟩) rfl rfl).symm
  rw [e, accN_apply, zero_add]
  refine Finset.sum_congr rfl fun a ha => ?_
  have ha : a < 3200 := by simpa using ha
  rw [wat_of_lt (rowOf ZA r) ha, wat_of_lt (rowOf GA r) ha]
  rfl

/-- The same when the atoms from `100000` on all lie in molecule 4096, at `j` below it. -/
theorem colSum_atoms (ZA GA : (A1 102400).Idx → BitVec 32) (AE : (A1 128).Idx → Elt Ideal .f32)
    (hZ : ∀ x, (ZA x).toNat < 128) (hG : ∀ x, (GA x).toNat < 4104) (hpad : ∀ x : (A1 102400).Idx, 100000 ≤ (x 0).val → GA x = 4096#32) {j : ℕ} (hj : j < 4096) :
    (colSum (fun r => pat (partial' ZA GA AE (fun _ => (0 : EReal)) hZ hG) r j) 31 : EReal)
      = ∑ a ∈ Finset.range 100000, given AE (wat ZA a) (wat GA a) j := by
  rw [colSum_partial ZA GA AE hZ hG (by omega)]
  refine (Finset.sum_subset (Finset.range_mono (by decide)) fun a ha hb => ?_).symm
  have ha : a < 102400 := by simpa using ha
  have hb : 100000 ≤ a := by simpa using hb
  unfold given
  rw [wat_of_lt GA ha, hpad _ hb]
  exact if_neg (show 4096 ≠ j by omega)

end Cert.Proof.Sums

end
-- ==== Proof.Atoms.lean ====
/-
  The reference's side over the exact reals: its gather takes each atom's energy, and its adding scatter
  gives a molecule the sum of its atoms' energies.
-/
module

public import proofs.«01_k».proof.ReferenceIdeal
public import proofs.«01_k».proof.Proof.Gen.ReferenceIdeal
public import proofs.«01_k».proof.Proof.Sums
public import Idealize.ShloMosaic.Lib.Routing.OpsSet
public import Idealize.ShloMosaic.Lib.Routing.OpsPair
public import Idealize.ShloMosaic.Lib.IdealHost
public import Idealize.ShloMosaic.Lib.ReduceAll
public import Idealize.ShloMosaic.Lib.ValueIdxRank1
public import Idealize.ShloMosaic.Lib.Pipeline.Value

@[expose] public section

noncomputable section

namespace Cert.Proof.Atoms

open Idealize.ShloMosaic Idealize.ShloMosaic.ValueIdx Cert.Proof.Vals Cert.Proof.Sums
open Cert.ReferenceIdeal Cert.ReferenceIdeal.Gen

/-- The two one-entry lists' indices agree. -/
theorem one (a b : (A1 1).Idx) : a = b :=
  idx1_ext (by have ha : (a 0).val < 1 := (a 0).isLt; have hb : (b 0).val < 1 := (b 0).isLt; omega)

theorem bcast_one {α : Type} (x : S1.Idx → α) (j : S4096.Idx) : broadcastInDim S4096 ![0] bcast_S1_S4096_0 x j = x (ix1 0) :=
  congrArg x (one _ _)

/-- A list as a table of one column. -/
theorem bcast_col {α : Type} (x : S100000.Idx → α) (j : S100000x1.Idx) :
    broadcastInDim S100000x1 ![0] bcast_S100000_S100000x1_0 x j = x (ix1 (j 0)) :=
  broadcastInDim_apply _ _ x j (ix1 (j 0)) fun b => by match b with | 0 => rfl

section Take

variable {Z : S100000.Idx → BitVec 32} (hZ : ∀ x, (Z x).toNat < 119)
include hZ

/-- No element is negative, so none is moved. -/
theorem wrapped (a : S100000.Idx → BitVec 32) :
    select (cmpi .slt Z (broadcastInDim S100000 ![] bcast_S_S100000 (constantI S_ 32 0#32))) a Z = Z :=
  funext fun x => Routing.wrap_of_lt (Z x) (a x) (by have := hZ x; omega)

/-- Every element is in range, so the mask is set. -/
theorem mask_one (j : S100000.Idx) :
    Host.reduce IntOp.andi (andi (cmpi .sge (broadcastInDim S100000x1 ![0] bcast_S100000_S100000x1_0 Z) (broadcastInDim S100000x1 ![] bcast_S_S100000x1 (constantI S_ 32 0#32)))
      (cmpi .sle (broadcastInDim S100000x1 ![0] bcast_S100000_S100000x1_0 Z) (broadcastInDim S100000x1 ![0, 1] bcast_S1x1_S100000x1_0_1 (broadcastInDim S1x1 ![1] bcast_S1_S1x1_1 (constantI S1 32 118#32)))))
      (constantI S_ 1 1#1) reducesTo_S100000x1_S100000_d1 h_S_ j = 1#1 := by
  refine Host.reduce_andi_one _ _ _ _ _ rfl fun i => ?_
  show IntOp.andi (IntOp.cmpi .sge (broadcastInDim S100000x1 ![0] bcast_S100000_S100000x1_0 Z i) 0#32) (IntOp.cmpi .sle (broadcastInDim S100000x1 ![0] bcast_S100000_S100000x1_0 Z i) 118#32) = 1#1
  rw [bcast_col]
  have h := hZ (ix1 (i 0))
  have h0 : IntOp.cmpi .sge (Z (ix1 (i 0))) 0#32 = 1#1 := by
    show BitVec.ofBool ((0#32).sle (Z (ix1 (i 0)))) = 1#1
    rw [BitVec.sle_eq_decide, decide_eq_true (by simp only [BitVec.toInt_eq_toNat_cond, BitVec.toNat_ofNat]; omega)]
    rfl
  have h1 : IntOp.cmpi .sle (Z (ix1 (i 0))) 118#32 = 1#1 := by
    show BitVec.ofBool ((Z (ix1 (i 0))).sle 118#32) = 1#1
    rw [BitVec.sle_eq_decide, decide_eq_true (by simp only [BitVec.toInt_eq_toNat_cond, BitVec.toNat_ofNat]; omega)]
    rfl
  rw [h0, h1]
  rfl

/-- What the gather takes. -/
theorem taken {α : Type} (ae : S119.Idx → α) (j : S100000.Idx) :
    Host.gather gather_S119_S100000x1_S100000_n_0_n_n_0_1_1 ae (broadcastInDim S100000x1 ![0] bcast_S100000_S100000x1_0 Z) j = ae (ix1 ⟨(Z j).toNat, hZ j⟩) := by
  obtain ⟨a, rfl⟩ : ∃ a, j = ix1 a := ⟨j 0, eq_ix1 j⟩
  refine Routing.gather_take1 (N := 119) (n := 100000) _ rfl rfl rfl rfl ae _ _ _ ?_ (by decide)
  rw [bcast_col]
  show Z (ix1 a) = BitVec.ofNat 32 (Z (ix1 a)).toNat
  rw [BitVec.ofNat_toNat, BitVec.setWidth_eq]

end Take

/-- Where an atom's energy lands: its molecule. -/
theorem lands {G : S100000.Idx → BitVec 32} (hG : ∀ x, (G x).toNat < 4096) (n : S100000.Idx) (j : S4096.Idx) :
    scatter_S4096_S100000x1_S100000_n_0_0_1.resultIdx? n (broadcastInDim S100000x1 ![0] bcast_S100000_S100000x1_0 G) = some j ↔ (G n).toNat = (j 0).val := by
  obtain ⟨b, rfl⟩ : ∃ b, j = ix1 b := ⟨j 0, eq_ix1 j⟩
  refine (Routing.resultIdx?_ix1 (N := 4096) _ n _ b).trans ?_
  have hs : scatter_S4096_S100000x1_S100000_n_0_0_1.start n (broadcastInDim S100000x1 ![0] bcast_S100000_S100000x1_0 G) 0 = (G n).toInt := by
    unfold ScatterDims.start
    rw [dif_pos (show (0 : Fin 1) ∈ scatter_S4096_S100000x1_S100000_n_0_0_1.scatterDimsToOperandDims from List.mem_singleton.mpr rfl), bcast_col]
    exact congrArg (fun k => (G k).toInt) (idx1_ext rfl)
  have hw : scatter_S4096_S100000x1_S100000_n_0_0_1.window n 0 = 0 := rfl
  rw [hs, hw]
  have := hG n
  simp only [BitVec.toInt_eq_toNat_cond]
  show _ ↔ (G n).toNat = b.val
  omega

/-- The reference's sum at a molecule. -/
theorem scattered {G : S100000.Idx → BitVec 32} (hG : ∀ x, (G x).toNat < 4096) (x : S4096.Idx → Elt Ideal .f32) (u : S100000.Idx → Elt Ideal .f32) (j : S4096.Idx) :
    (Host.scatterAdd (F := Ideal) (φ := .f32) scatter_S4096_S100000x1_S100000_n_0_0_1 x (broadcastInDim S100000x1 ![0] bcast_S100000_S100000x1_0 G) u j : EReal)
      = x j + ∑ a ∈ Finset.range 100000, if h : a < 100000 then if (G (ix1 ⟨a, h⟩)).toNat = (j 0).val then u (ix1 ⟨a, h⟩) else 0 else 0 := by
  show (x j : EReal) + ∑ n ∈ Finset.univ.filter (fun n => scatter_S4096_S100000x1_S100000_n_0_0_1.resultIdx? n _ = some j), u n = _
  refine congrArg (_ + ·) ?_
  rw [Finset.sum_filter, Finset.sum_range, ← Equiv.sum_comp (idxEquiv1 (n := 100000)).symm]
  refine Finset.sum_congr rfl fun a _ => ?_
  rw [dif_pos a.isLt]
  exact if_congr (lands hG _ j) rfl rfl

/-- What the reference computes, of its arguments. -/
def refOut (en : FVec Ideal S4096 .f32) (na : S4096.Idx → BitVec 32) (Z G : S100000.Idx → BitVec 32) (s h : FVec Ideal S1 .f32) (ae : FVec Ideal S119 .f32) : FVec Ideal S4096 .f32 :=
  addf (F := Ideal) (mulf en (broadcastInDim S4096 ![0] bcast_S1_S4096_0 s)) (addf (mulf (sitofp .f32 na) (broadcastInDim S4096 ![0] bcast_S1_S4096_0 h))
    (Host.scatterAdd scatter_S4096_S100000x1_S100000_n_0_0_1 (broadcastInDim S4096 ![] bcast_S_S4096 (constant S_ .f32 0x00000000#32)) (broadcastInDim S100000x1 ![0] bcast_S100000_S100000x1_0 G)
      (let W := select (cmpi .slt Z (broadcastInDim S100000 ![] bcast_S_S100000 (constantI S_ 32 0#32))) (addi Z (broadcastInDim S100000 ![] bcast_S_S100000 (constantI S_ 32 119#32))) Z
       select (Host.reduce IntOp.andi (andi (cmpi .sge (broadcastInDim S100000x1 ![0] bcast_S100000_S100000x1_0 W) (broadcastInDim S100000x1 ![] bcast_S_S100000x1 (constantI S_ 32 0#32)))
          (cmpi .sle (broadcastInDim S100000x1 ![0] bcast_S100000_S100000x1_0 W) (broadcastInDim S100000x1 ![0, 1] bcast_S1x1_S100000x1_0_1 (broadcastInDim S1x1 ![1] bcast_S1_S1x1_1 (constantI S1 32 118#32)))))
          (constantI S_ 1 1#1) reducesTo_S100000x1_S100000_d1 h_S_)
        (Host.gather gather_S119_S100000x1_S100000_n_0_n_n_0_1_1 ae (broadcastInDim S100000x1 ![0] bcast_S100000_S100000x1_0 W))
        (broadcastInDim S100000 ![] bcast_S_S100000 (constant S_ .f32 0x7FC00000#32)))))

/-- The reference's result at a molecule: its energy scaled, its atoms' shifts, and its atoms' energies. -/
theorem refOut_apply (en : FVec Ideal S4096 .f32) (na : S4096.Idx → BitVec 32) {Z G : S100000.Idx → BitVec 32} (s h : FVec Ideal S1 .f32) (ae : FVec Ideal S119 .f32)
    (hZ : ∀ x, (Z x).toNat < 119) (hG : ∀ x, (G x).toNat < 4096) (j : S4096.Idx) :
    (refOut en na Z G s h ae j : EReal)
      = (en j : EReal) * s (ix1 0) + (((na j).toInt : ℝ) * h (ix1 0) + ∑ a ∈ Finset.range 100000, given ae (wat Z a) (wat G a) (j 0).val) := by
  unfold refOut
  rw [wrapped hZ]
  show (en j : EReal) * broadcastInDim S4096 ![0] bcast_S1_S4096_0 s j + ((((na j).toInt : ℝ) : EReal) * broadcastInDim S4096 ![0] bcast_S1_S4096_0 h j + Host.scatterAdd (F := Ideal) (φ := .f32) _ _ _ _ j) = _
  rw [bcast_one, bcast_one, scattered hG]
  refine congrArg (fun t : EReal => (en j : EReal) * s (ix1 0) + ((((na j).toInt : ℝ) : EReal) * h (ix1 0) + t)) ?_
  have z : (broadcastInDim S4096 ![] bcast_S_S4096 (constant (F := Ideal) S_ .f32 0x00000000#32) j : EReal) = 0 := Ideal.ofBits_zero_f32
  rw [z, zero_add]
  refine Finset.sum_congr rfl fun a ha => ?_
  have ha : a < 100000 := by simpa using ha
  rw [dif_pos ha, wat_of_lt Z ha, wat_of_lt G ha]
  unfold given pick
  refine if_congr Iff.rfl ?_ rfl
  rw [dif_pos (hZ _)]
  show Scalar.select _ _ _ = _
  rw [mask_one hZ, taken hZ]
  rfl

end Cert.Proof.Atoms

end
-- ==== Proof.Value.lean ====
/-
  The two programs leave the same result over the exact reals.
-/
module

public import proofs.«01_k».proof.Defs
public import proofs.«01_k».proof.Proof.Frames
public import proofs.«01_k».proof.Proof.KerIOk
public import proofs.«01_k».proof.Proof.Atoms
public import proofs.«01_k».proof.Proof.Gen.ReferenceIdeal.Run

@[expose] public section

noncomputable section

namespace Cert.Proof.KerI

open Cert.KernelIdeal Cert.KernelIdeal.Gen
open Idealize.ShloMosaic Idealize.ShloMosaic.ValueIdx
open Cert.Proof.Vals Cert.Proof.Sums

/-- Where an energy lands in the longer table: at its own place. -/
theorem laid (k : S119.Idx) (e : S128.Idx) :
    scatter_S128_S1_S119_0_n_0_0.resultIdx? k (fun _ => 0#32) = some e ↔ (k 0).val = (e 0).val := by
  obtain ⟨b, rfl⟩ : ∃ b, e = ix1 b := ⟨e 0, eq_ix1 e⟩
  refine (Routing.resultIdx?_ix1 (N := 128) _ k _ b).trans ?_
  have hs : scatter_S128_S1_S119_0_n_0_0.start k (fun _ => 0#32) 0 = 0 := by
    unfold ScatterDims.start
    split <;> rfl
  have hw : scatter_S128_S1_S119_0_n_0_0.window k 0 = (k 0).val := rfl
  rw [hs, hw]
  show _ ↔ (k 0).val = b.val
  omega

variable (m : (ℓ : Loc nD τ sig) → Buf (Elt Ideal) ℓ) (d : Dev nD)

/-- The longer table gives an element below 119 the argument's energy. -/
theorem pick_aeA {z : BitVec 32} (hz : z.toNat < 119) : pick (aeA m d) z = pick (aeArg m d) z := by
  unfold pick
  rw [dif_pos hz, dif_pos (show z.toNat < 128 by omega), aeA_eq]
  refine Routing.scatter_set_hit _ _ _ _ _ _ (fun k hk => ?_) (ix1 ⟨z.toNat, hz⟩) ((laid _ _).mpr rfl)
  exact congrArg (aeArg m d) (idx1_ext ((laid _ _).mp hk))

variable {m}

/-- The kernel's result at a molecule: its energy scaled, its atoms' shifts, and its atoms' energies. -/
theorem outV_apply (hp : PreOK m) (hr : ∀ d, (∀ x, (zArg m d x).toNat < 119) ∧ ∀ x, (gArg m d x).toNat < 4096) (j : S4096.Idx) :
    (outV hp d j : EReal) = (enA m d j : EReal) * scA m d + (((naA m d j).toInt : ℝ) * shA m d
      + ∑ a ∈ Finset.range 100000, given (aeArg m d) (wat (zArg m d) a) (wat (gArg m d) a) (j 0).val) := by
  have hj : (j 0).val < 4096 := (j 0).isLt
  unfold outV result resAt
  rw [← fat_of (enA m d) j rfl, ← fat_of (naA m d) j rfl]
  show ((enA m d j : EReal) * scA m d + (((naA m d j).toInt : ℝ) : EReal) * shA m d) + colSum (F := Ideal) _ 31 = _
  rw [add_assoc]
  refine congrArg (fun t : EReal => (enA m d j : EReal) * scA m d + ((((naA m d j).toInt : ℝ) : EReal) * shA m d + t)) ?_
  have hzr : zrA m d = fun _ => (0 : EReal) := (zrA_eq m d).trans (funext fun _ => Ideal.ofBits_zero_f32)
  unfold partV
  rw [hzr, colSum_atoms _ _ _ _ _ (fun x hx => by rw [gA_apply, dif_neg (by omega)]) hj]
  refine Finset.sum_congr rfl fun a ha => ?_
  have ha : a < 100000 := by simpa using ha
  have hz : wat (zA m d) a = wat (zArg m d) a := by
    rw [wat_of_lt (zA m d) (show a < 102400 by omega), wat_of_lt (zArg m d) ha, zA_apply]; exact dif_pos ha
  have hg : wat (gA m d) a = wat (gArg m d) a := by
    rw [wat_of_lt (gA m d) (show a < 102400 by omega), wat_of_lt (gArg m d) ha, gA_apply]; exact dif_pos ha
  rw [hz, hg]
  unfold given
  rw [pick_aeA m d (wat_lt (hr d).1 (by decide) a)]

end Cert.Proof.KerI

namespace Cert.Proof

open Idealize.ShloMosaic Idealize.SL.Sem

theorem value : Cert.algebraic_KernelIdeal_ReferenceIdeal := fun m g m' g' hpre hag => by
  have hr := fun d => Ranges.of_pre (hpre d)
  refine ⟨fun d => KerI.outV (okI m hpre) d, (θ_run _ _ _).mono (fun _ h d => ⟨(h.1 d).2, (h.1 d).1⟩) (KerI.run_main (F := Ideal) g (okI m hpre)),
    (θ_run _ _ _).mono (fun _ h d => ⟨(h d).1.trans ?_, (h d).2⟩) (Cert.ReferenceIdeal.Value.run (F := Ideal) m' g')⟩
  obtain ⟨e0, e1, e2, e3, e4, e5, e6⟩ := hag d
  rw [e0, e1, e2, e3, e4, e5, e6]
  funext j
  exact (Atoms.refOut_apply _ _ _ _ _ (hr d).1 (hr d).2 j).trans (KerI.outV_apply d (okI m hpre) hr j).symm

end Cert.Proof

end
-- ==== Proof.lean ====
/-
  The proof of `Cert.Claim` (proof/Defs.lean), put together from its parts: the frames (Proof/Frames.lean)
  and the equal results (Proof/Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_p, frame_pi, frame_r, frame_r_in_range, trivial, value⟩

end Cert.Proof

end
